-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxRefIdeal (m : (ℓ : Loc Cert.FfnCtxRefIdeal.nD Cert.FfnCtxRefIdeal.τ Cert.FfnCtxRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite_latent [hPre_finite_latent : Cert.Pre_finite_latent.Facts] (m : (ℓ : Loc Cert.LatIdeal.nD Cert.LatIdeal.τ Cert.LatIdeal.sig) → Buf (Elt Ideal) ℓ) : Prop :=
  ∀ c : Dev Cert.LatIdeal.nD,
    (Cert.Pre_finite_latent.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).1 = (fun _ => 1#1)
    ∧ (Cert.Pre_finite_latent.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.1 = (fun _ => 1#1)
    ∧ (Cert.Pre_finite_latent.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.2.1 = (fun _ => 1#1)
    ∧ (Cert.Pre_finite_latent.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))).2.2.2 = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_finite_latent [hPre_finite_latent : Cert.Pre_finite_latent.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_finite_latent.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).1 = (fun _ => 1#1)
    ∧ (Cert.Pre_finite_latent.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).2.1 = (fun _ => 1#1)
    ∧ (Cert.Pre_finite_latent.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).2.2.1 = (fun _ => 1#1)
    ∧ (Cert.Pre_finite_latent.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))).2.2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5)
      ∧ r.2.mem ((c.tc : Thread Cert.FfnCtx.nD Cert.FfnCtx.τ).loc Cert.FfnCtx.main_arg6) = m ((c.tc : Thread Cert.FfnCtx.nD Cert.FfnCtx.τ).loc Cert.FfnCtx.main_arg6))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
      ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4)
      ∧ r.2.mem ((c.tc : Thread Cert.FfnCtxRefIdeal.nD Cert.FfnCtxRefIdeal.τ).loc Cert.FfnCtxRefIdeal.main_arg5) = m ((c.tc : Thread Cert.FfnCtxRefIdeal.nD Cert.FfnCtxRefIdeal.τ).loc Cert.FfnCtxRefIdeal.main_arg5)
      ∧ r.2.mem ((c.tc : Thread Cert.FfnCtxRefIdeal.nD Cert.FfnCtxRefIdeal.τ).loc Cert.FfnCtxRefIdeal.main_arg6) = m ((c.tc : Thread Cert.FfnCtxRefIdeal.nD Cert.FfnCtxRefIdeal.τ).loc Cert.FfnCtxRefIdeal.main_arg6))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatIdeal_pre_finite_latent [hLatIdeal : Cert.LatIdeal.Facts] [hPre_finite_latent : Cert.Pre_finite_latent.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite_latent m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_LatRefIdeal_pre_finite_latent [hLatRefIdeal : Cert.LatRefIdeal.Facts] [hPre_finite_latent : Cert.Pre_finite_latent.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_finite_latent m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11)
      ∧ r.2.mem ((c.tc : Thread Cert.Rwkv.nD Cert.Rwkv.τ).loc Cert.Rwkv.main_arg12) = m ((c.tc : Thread Cert.Rwkv.nD Cert.Rwkv.τ).loc Cert.Rwkv.main_arg12))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11)
      ∧ r.2.mem ((c.tc : Thread Cert.RwkvIdeal.nD Cert.RwkvIdeal.τ).loc Cert.RwkvIdeal.main_arg12) = m ((c.tc : Thread Cert.RwkvIdeal.nD Cert.RwkvIdeal.τ).loc Cert.RwkvIdeal.main_arg12))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v56) = v0 c
          ∧ r.2.mem ((c.tc : Thread Cert.AttnRefIdeal.nD Cert.AttnRefIdeal.τ).loc Cert.AttnRefIdeal.main_v34) = v1 c
          ∧ r.2.mem ((c.tc : Thread Cert.AttnRefIdeal.nD Cert.AttnRefIdeal.τ).loc Cert.AttnRefIdeal.main_v36) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v49) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v30) = v0 c
          ∧ r.2.mem ((c.tc : Thread Cert.ProjRefIdeal.nD Cert.ProjRefIdeal.τ).loc Cert.ProjRefIdeal.main_v31) = v1 c
          ∧ r.2.mem ((c.tc : Thread Cert.ProjRefIdeal.nD Cert.ProjRefIdeal.τ).loc Cert.ProjRefIdeal.main_v32) = v2 c
          ∧ r.2.mem ((c.tc : Thread Cert.ProjRefIdeal.nD Cert.ProjRefIdeal.τ).loc Cert.ProjRefIdeal.main_v41) = v3 c
          ∧ r.2.mem ((c.tc : Thread Cert.ProjRefIdeal.nD Cert.ProjRefIdeal.τ).loc Cert.ProjRefIdeal.main_v48) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_v52) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_FfnCtx_FfnCtxIdeal : Prop :=
  True

def algebraic_FfnCtxIdeal_FfnCtxRefIdeal [hFfnCtxIdeal : Cert.FfnCtxIdeal.Facts] [hFfnCtxRefIdeal : Cert.FfnCtxRefIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)
      ∧ m' ((c.tc : Thread Cert.FfnCtxRefIdeal.nD Cert.FfnCtxRefIdeal.τ).loc Cert.FfnCtxRefIdeal.main_arg2) = m ((c.tc : Thread Cert.FfnCtxIdeal.nD Cert.FfnCtxIdeal.τ).loc Cert.FfnCtxIdeal.main_arg2)
      ∧ m' ((c.tc : Thread Cert.FfnCtxRefIdeal.nD Cert.FfnCtxRefIdeal.τ).loc Cert.FfnCtxRefIdeal.main_arg3) = m ((c.tc : Thread Cert.FfnCtxIdeal.nD Cert.FfnCtxIdeal.τ).loc Cert.FfnCtxIdeal.main_arg3)
      ∧ m' ((c.tc : Thread Cert.FfnCtxRefIdeal.nD Cert.FfnCtxRefIdeal.τ).loc Cert.FfnCtxRefIdeal.main_arg4) = m ((c.tc : Thread Cert.FfnCtxIdeal.nD Cert.FfnCtxIdeal.τ).loc Cert.FfnCtxIdeal.main_arg4)
      ∧ m' ((c.tc : Thread Cert.FfnCtxRefIdeal.nD Cert.FfnCtxRefIdeal.τ).loc Cert.FfnCtxRefIdeal.main_arg5) = m ((c.tc : Thread Cert.FfnCtxIdeal.nD Cert.FfnCtxIdeal.τ).loc Cert.FfnCtxIdeal.main_arg5)
      ∧ m' ((c.tc : Thread Cert.FfnCtxRefIdeal.nD Cert.FfnCtxRefIdeal.τ).loc Cert.FfnCtxRefIdeal.main_arg6) = m ((c.tc : Thread Cert.FfnCtxIdeal.nD Cert.FfnCtxIdeal.τ).loc Cert.FfnCtxIdeal.main_arg6)) →
    ∃ (v0 : (c : Dev Cert.FfnCtxIdeal.nD) → Buf (Elt Ideal) ((c.tc : Thread Cert.FfnCtxIdeal.nD Cert.FfnCtxIdeal.τ).loc Cert.FfnCtxIdeal.main_v1)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v1) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
          ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v49) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1)
          ∧ r.2.mem ((c.tc : Thread Cert.FfnCtxRefIdeal.nD Cert.FfnCtxRefIdeal.τ).loc Cert.FfnCtxRefIdeal.main_arg2) = m' ((c.tc : Thread Cert.FfnCtxRefIdeal.nD Cert.FfnCtxRefIdeal.τ).loc Cert.FfnCtxRefIdeal.main_arg2)
          ∧ r.2.mem ((c.tc : Thread Cert.FfnCtxRefIdeal.nD Cert.FfnCtxRefIdeal.τ).loc Cert.FfnCtxRefIdeal.main_arg3) = m' ((c.tc : Thread Cert.FfnCtxRefIdeal.nD Cert.FfnCtxRefIdeal.τ).loc Cert.FfnCtxRefIdeal.main_arg3)
          ∧ r.2.mem ((c.tc : Thread Cert.FfnCtxRefIdeal.nD Cert.FfnCtxRefIdeal.τ).loc Cert.FfnCtxRefIdeal.main_arg4) = m' ((c.tc : Thread Cert.FfnCtxRefIdeal.nD Cert.FfnCtxRefIdeal.τ).loc Cert.FfnCtxRefIdeal.main_arg4)
          ∧ r.2.mem ((c.tc : Thread Cert.FfnCtxRefIdeal.nD Cert.FfnCtxRefIdeal.τ).loc Cert.FfnCtxRefIdeal.main_arg5) = m' ((c.tc : Thread Cert.FfnCtxRefIdeal.nD Cert.FfnCtxRefIdeal.τ).loc Cert.FfnCtxRefIdeal.main_arg5)
          ∧ r.2.mem ((c.tc : Thread Cert.FfnCtxRefIdeal.nD Cert.FfnCtxRefIdeal.τ).loc Cert.FfnCtxRefIdeal.main_arg6) = m' ((c.tc : Thread Cert.FfnCtxRefIdeal.nD Cert.FfnCtxRefIdeal.τ).loc Cert.FfnCtxRefIdeal.main_arg6))

def preserves_Lat_LatIdeal : Prop :=
  True

def algebraic_LatIdeal_LatRefIdeal_pre_finite_latent [hLatIdeal : Cert.LatIdeal.Facts] [hLatRefIdeal : Cert.LatRefIdeal.Facts] [hPre_finite_latent : Cert.Pre_finite_latent.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_finite_latent m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v32)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v32) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v121) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v5) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Rwkv_RwkvIdeal : Prop :=
  True

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hFfnCtx : Cert.FfnCtx.Facts) (hFfnCtxIdeal : Cert.FfnCtxIdeal.Facts) (hFfnCtxRefIdeal : Cert.FfnCtxRefIdeal.Facts) (hLat : Cert.Lat.Facts) (hLatIdeal : Cert.LatIdeal.Facts) (hLatRefIdeal : Cert.LatRefIdeal.Facts) (hMod : Cert.Mod.Facts) (hModIdeal : Cert.ModIdeal.Facts) (hModRefIdeal : Cert.ModRefIdeal.Facts) (hRwkv : Cert.Rwkv.Facts) (hRwkvIdeal : Cert.RwkvIdeal.Facts) (hPre_finite : Cert.Pre_finite.Facts) (hPre_finite_latent : Cert.Pre_finite_latent.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnCtx (hFfnCtx := hFfnCtx)
    ∧ quiescent_FfnCtxIdeal (hFfnCtxIdeal := hFfnCtxIdeal)
    ∧ quiescent_FfnCtxRefIdeal (hFfnCtxRefIdeal := hFfnCtxRefIdeal)
    ∧ quiescent_Lat (hLat := hLat)
    ∧ quiescent_LatIdeal (hLatIdeal := hLatIdeal)
    ∧ quiescent_LatIdeal_pre_finite_latent (hLatIdeal := hLatIdeal) (hPre_finite_latent := hPre_finite_latent)
    ∧ quiescent_LatRefIdeal (hLatRefIdeal := hLatRefIdeal)
    ∧ quiescent_LatRefIdeal_pre_finite_latent (hLatRefIdeal := hLatRefIdeal) (hPre_finite_latent := hPre_finite_latent)
    ∧ quiescent_Mod (hMod := hMod)
    ∧ quiescent_ModIdeal (hModIdeal := hModIdeal)
    ∧ quiescent_ModRefIdeal (hModRefIdeal := hModRefIdeal)
    ∧ quiescent_Rwkv (hRwkv := hRwkv)
    ∧ quiescent_RwkvIdeal (hRwkvIdeal := hRwkvIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_FfnCtx_FfnCtxIdeal
    ∧ algebraic_FfnCtxIdeal_FfnCtxRefIdeal (hFfnCtxIdeal := hFfnCtxIdeal) (hFfnCtxRefIdeal := hFfnCtxRefIdeal)
    ∧ preserves_Lat_LatIdeal
    ∧ algebraic_LatIdeal_LatRefIdeal_pre_finite_latent (hLatIdeal := hLatIdeal) (hLatRefIdeal := hLatRefIdeal) (hPre_finite_latent := hPre_finite_latent)
    ∧ preserves_Mod_ModIdeal
    ∧ algebraic_ModIdeal_ModRefIdeal (hModIdeal := hModIdeal) (hModRefIdeal := hModRefIdeal)
    ∧ preserves_Rwkv_RwkvIdeal
-- ==== Pre_finite.lean ====
abbrev S16x256x768 : Shape := ⟨3, ![16, 256, 768]⟩
abbrev S1x64 : Shape := ⟨2, ![1, 64]⟩
abbrev S_ : Shape := ⟨0, ![]⟩

class Facts : Prop where
  bcast_S_S16x256x768 : S_.BroadcastsInDim S16x256x768 (![] : Fin 0 → Fin S16x256x768.rank)
  bcast_S_S1x64 : S_.BroadcastsInDim S1x64 (![] : Fin 0 → Fin S1x64.rank)

variable [Facts]

def fn {F : FTy → Type} [FloatOps F] (main_arg0 : FVec F S16x256x768 .f32) (main_arg1 : FVec F S1x64 .f32) (main_arg2 : FVec F S1x64 .f32) : IVec S16x256x768 1 × IVec S1x64 1 × IVec S1x64 1 :=
  let main_v0 : FVec F S16x256x768 .f32 := Host.absf main_arg0
  let main_cst : FVec F S_ .f32 := constant S_ .f32 0x7F800000#32
  let main_v1 : FVec F S16x256x768 .f32 := broadcastInDim S16x256x768 ![] bcast_S_S16x256x768 main_cst
  let main_v2 : IVec S16x256x768 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  (main_v2, main_v5, main_v8)
-- ==== Pre_finite_latent.lean ====
abbrev S4x1024x768 : Shape := ⟨3, ![4, 1024, 768]⟩
abbrev S1x64 : Shape := ⟨2, ![1, 64]⟩
abbrev S4x2x512x64 : Shape := ⟨4, ![4, 2, 512, 64]⟩
abbrev S_ : Shape := ⟨0, ![]⟩

class Facts : Prop where
  bcast_S_S4x1024x768 : S_.BroadcastsInDim S4x1024x768 (![] : Fin 0 → Fin S4x1024x768.rank)
  bcast_S_S1x64 : S_.BroadcastsInDim S1x64 (![] : Fin 0 → Fin S1x64.rank)
  bcast_S_S4x2x512x64 : S_.BroadcastsInDim S4x2x512x64 (![] : Fin 0 → Fin S4x2x512x64.rank)

variable [Facts]

def fn {F : FTy → Type} [FloatOps F] (main_arg0 : FVec F S4x1024x768 .f32) (main_arg1 : FVec F S1x64 .f32) (main_arg2 : FVec F S1x64 .f32) (main_arg3 : FVec F S4x2x512x64 .f32) (main_arg4 : FVec F S4x2x512x64 .f32) : IVec S4x1024x768 1 × IVec S1x64 1 × IVec S1x64 1 × IVec S4x2x512x64 1 :=
  let main_v0 : FVec F S4x1024x768 .f32 := Host.absf main_arg0
  let main_cst : FVec F S_ .f32 := constant S_ .f32 0x7F800000#32
  let main_v1 : FVec F S4x1024x768 .f32 := broadcastInDim S4x1024x768 ![] bcast_S_S4x1024x768 main_cst
  let main_v2 : IVec S4x1024x768 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S4x2x512x64 .f32 := Host.absf main_arg3
  let main_cst_2 : FVec F S_ .f32 := constant S_ .f32 0x7F800000#32
  let main_v10 : FVec F S4x2x512x64 .f32 := broadcastInDim S4x2x512x64 ![] bcast_S_S4x2x512x64 main_cst_2
  let main_v11 : IVec S4x2x512x64 1 := cmpf .olt main_v9 main_v10
  (main_v2, main_v5, main_v8, main_v11)
-- ==== Attn.lean ====
abbrev S16x256x768 : Shape := ⟨3, ![16, 256, 768]⟩
abbrev S1x64 : Shape := ⟨2, ![1, 64]⟩
abbrev S16x256x512 : Shape := ⟨3, ![16, 256, 512]⟩
abbrev S16x2x256x64 : Shape := ⟨4, ![16, 2, 256, 64]⟩
abbrev S1x256x256 : Shape := ⟨3, ![1, 256, 256]⟩
abbrev S1x256x128 : Shape := ⟨3, ![1, 256, 128]⟩
abbrev S1x1x256x64 : Shape := ⟨4, ![1, 1, 256, 64]⟩
abbrev S256x256 : Shape := ⟨2, ![256, 256]⟩
abbrev S256x128 : Shape := ⟨2, ![256, 128]⟩
abbrev S1x128 : Shape := ⟨2, ![1, 128]⟩
abbrev S128x128 : Shape := ⟨2, ![128, 128]⟩
abbrev S256x64 : Shape := ⟨2, ![256, 64]⟩
abbrev S256 : Shape := ⟨1, ![256]⟩
abbrev S256x1 : Shape := ⟨2, ![256, 1]⟩

abbrev nBuf : Space → Nat
  | .hbm => 6
  | .vmem => 17
  | .smem => 0
  | _ => 0

abbrev bufTy : (tb : Table) → Fin (tcTables nBuf tb) → BufTy
  | .hbm, ⟨0, _⟩ => ⟨S16x256x768, .f32⟩
  | .hbm, ⟨1, _⟩ => ⟨S1x64, .f32⟩
  | .hbm, ⟨2, _⟩ => ⟨S1x64, .f32⟩
  | .hbm, ⟨3, _⟩ => ⟨S16x256x512, .bf16⟩
  | .hbm, ⟨4, _⟩ => ⟨S16x2x256x64, .f32⟩
  | .hbm, ⟨5, _⟩ => ⟨S16x2x256x64, .f32⟩
  | .local _ .vmem, ⟨0, _⟩ => ⟨S1x256x256, .f32⟩
  | .local _ .vmem, ⟨1, _⟩ => ⟨S1x256x256, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x64, .f32⟩
  | .local _ .vmem, ⟨7, _⟩ => ⟨S1x64, .f32⟩
  | .local _ .vmem, ⟨8, _⟩ => ⟨S1x256x256, .bf16⟩
  | .local _ .vmem, ⟨9, _⟩ => ⟨S1x256x256, .bf16⟩
  | .local _ .vmem, ⟨10, _⟩ => ⟨S1x1x256x64, .f32⟩
  | .local _ .vmem, ⟨11, _⟩ => ⟨S1x1x256x64, .f32⟩
  | .local _ .vmem, ⟨12, _⟩ => ⟨S1x1x256x64, .f32⟩
  | .local _ .vmem, ⟨13, _⟩ => ⟨S1x1x256x64, .f32⟩
  | .local _ .vmem, ⟨14, _⟩ => ⟨S256x256, .bf16⟩
  | .local _ .vmem, ⟨15, _⟩ => ⟨S256x128, .bf16⟩
  | .local _ .vmem, ⟨16, _⟩ => ⟨S256x128, .bf16⟩
  | _, _ => ⟨S16x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_mult1 : BitVec 32 :=
  let c0_i32_70 : BitVec 32 := 0#32
  let c256_i32 : BitVec 32 := 256#32
  let v196 : BitVec 32 := Scalar.muli c0_i32_70 c256_i32
  v196
def k0_off1 : Fin 2 → Nat :=
  let c0_i32_70 : BitVec 32 := 0#32
  let c256_i32 : BitVec 32 := 256#32
  let v196 : BitVec 32 := Scalar.muli c0_i32_70 c256_i32
  let v197 : BitVec 32 := v196
  let v198 : Index := Scalar.indexCast v197
  let c0_71 : Index := 0#32
  ![v198.toNat, 0]
def k0_off2 : Fin 2 → Nat :=
  let c0_i32_70 : BitVec 32 := 0#32
  let c256_i32 : BitVec 32 := 256#32
  let v196 : BitVec 32 := Scalar.muli c0_i32_70 c256_i32
  let v197 : BitVec 32 := v196
  let v245 : Index := Scalar.indexCast v197
  let c128_93 : Index := 128#32
  ![v245.toNat, 128]
def k0_off3 : Fin 3 → Nat :=
  let c0_115 : Index := 0#32
  let c0_i32_70 : BitVec 32 := 0#32
  let c256_i32 : BitVec 32 := 256#32
  let v196 : BitVec 32 := Scalar.muli c0_i32_70 c256_i32
  let v197 : BitVec 32 := v196
  let v294 : Index := Scalar.indexCast v197
  let c0_116 : Index := 0#32
  ![0, v294.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S16x256x768 : Shape := ⟨3, ![16, 256, 768]⟩
abbrev S1x64 : Shape := ⟨2, ![1, 64]⟩
abbrev S16x256x512 : Shape := ⟨3, ![16, 256, 512]⟩
abbrev S16x256x128 : Shape := ⟨3, ![16, 256, 128]⟩
abbrev S16x256x8x64 : Shape := ⟨4, ![16, 256, 8, 64]⟩
abbrev S64 : Shape := ⟨1, ![64]⟩
abbrev S_ : Shape := ⟨0, ![]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S16x8x256x64 : Shape := ⟨4, ![16, 8, 256, 64]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S16x2x256x64 : Shape := ⟨4, ![16, 2, 256, 64]⟩
abbrev S16x2x4x256x64 : Shape := ⟨5, ![16, 2, 4, 256, 64]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩

abbrev nBuf : Space → Nat
  | .hbm => 70
  | .vmem => 0
  | .smem => 0
  | _ => 0

abbrev bufTy : (tb : Table) → Fin (tcTables nBuf tb) → BufTy
  | .hbm, ⟨0, _⟩ => ⟨S16x256x768, .f32⟩
  | .hbm, ⟨1, _⟩ => ⟨S1x64, .f32⟩
  | .hbm, ⟨2, _⟩ => ⟨S1x64, .f32⟩
  | .hbm, ⟨3, _⟩ => ⟨S16x256x512, .f32⟩
  | .hbm, ⟨4, _⟩ => ⟨S16x256x128, .f32⟩
  | .hbm, ⟨5, _⟩ => ⟨S16x256x128, .f32⟩
  | .hbm, ⟨6, _⟩ => ⟨S16x256x8x64, .f32⟩
  | .hbm, ⟨7, _⟩ => ⟨S64, .f32⟩
  | .hbm, ⟨8, _⟩ => ⟨S16x256x8x64, .f32⟩
  | .hbm, ⟨9, _⟩ => ⟨S_, .f32⟩
  | .hbm, ⟨10, _⟩ => ⟨S16x256x8, .f32⟩
  | .hbm, ⟨11, _⟩ => ⟨S16x256x8x1, .f32⟩
  | .hbm, ⟨12, _⟩ => ⟨S_, .f32⟩
  | .hbm, ⟨13, _⟩ => ⟨S16x256x8x1, .f32⟩
  | .hbm, ⟨14, _⟩ => ⟨S16x256x8x1, .f32⟩
  | .hbm, ⟨15, _⟩ => ⟨S_, .f32⟩
  | .hbm, ⟨16, _⟩ => ⟨S16x256x8x1, .f32⟩
  | .hbm, ⟨17, _⟩ => ⟨S16x256x8x1, .f32⟩
  | .hbm, ⟨18, _⟩ => ⟨S16x256x8x1, .f32⟩
  | .hbm, ⟨19, _⟩ => ⟨S16x256x8x64, .f32⟩
  | .hbm, ⟨20, _⟩ => ⟨S16x256x8x64, .f32⟩
  | .hbm, ⟨21, _⟩ => ⟨S1x1x1x64, .f32⟩
  | .hbm, ⟨22, _⟩ => ⟨S16x256x8x64, .f32⟩
  | .hbm, ⟨23, _⟩ => ⟨S16x256x8x64, .f32⟩
  | .hbm, ⟨24, _⟩ => ⟨S16x8x256x64, .f32⟩
  | .hbm, ⟨25, _⟩ => ⟨S16x256x2x64, .f32⟩
  | .hbm, ⟨26, _⟩ => ⟨S64, .f32⟩
  | .hbm, ⟨27, _⟩ => ⟨S16x256x2x64, .f32⟩
  | .hbm, ⟨28, _⟩ => ⟨S_, .f32⟩
  | .hbm, ⟨29, _⟩ => ⟨S16x256x2, .f32⟩
  | .hbm, ⟨30, _⟩ => ⟨S16x256x2x1, .f32⟩
  | .hbm, ⟨31, _⟩ => ⟨S_, .f32⟩
  | .hbm, ⟨32, _⟩ => ⟨S16x256x2x1, .f32⟩
  | .hbm, ⟨33, _⟩ => ⟨S16x256x2x1, .f32⟩
  | .hbm, ⟨34, _⟩ => ⟨S_, .f32⟩
  | .hbm, ⟨35, _⟩ => ⟨S16x256x2x1, .f32⟩
  | .hbm, ⟨36, _⟩ => ⟨S16x256x2x1, .f32⟩
  | .hbm, ⟨37, _⟩ => ⟨S16x256x2x1, .f32⟩
  | .hbm, ⟨38, _⟩ => ⟨S16x256x2x64, .f32⟩
  | .hbm, ⟨39, _⟩ => ⟨S16x256x2x64, .f32⟩
  | .hbm, ⟨40, _⟩ => ⟨S1x1x1x64, .f32⟩
  | .hbm, ⟨41, _⟩ => ⟨S16x256x2x64, .f32⟩
  | .hbm, ⟨42, _⟩ => ⟨S16x256x2x64, .f32⟩
  | .hbm, ⟨43, _⟩ => ⟨S16x2x256x64, .f32⟩
  | .hbm, ⟨44, _⟩ => ⟨S16x256x2x64, .f32⟩
  | .hbm, ⟨45, _⟩ => ⟨S16x2x256x64, .f32⟩
  | .hbm, ⟨46, _⟩ => ⟨S16x2x4x256x64, .f32⟩
  | .hbm, ⟨47, _⟩ => ⟨S16x2x4x256x256, .f32⟩
  | .hbm, ⟨48, _⟩ => ⟨S_, .f32⟩
  | .hbm, ⟨49, _⟩ => ⟨S16x2x4x256x256, .f32⟩
  | .hbm, ⟨50, _⟩ => ⟨S16x2x4x256x256, .f32⟩
  | .hbm, ⟨51, _⟩ => ⟨S_, .f32⟩
  | .hbm, ⟨52, _⟩ => ⟨S16x2x4x256, .f32⟩
  | .hbm, ⟨53, _⟩ => ⟨S_, .f32⟩
  | .hbm, ⟨54, _⟩ => ⟨S16x2x4x256, .f32⟩
  | .hbm, ⟨55, _⟩ => ⟨S16x2x4x256, .f32⟩
  | .hbm, ⟨56, _⟩ => ⟨S16x2x4x256x1, .f32⟩
  | .hbm, ⟨57, _⟩ => ⟨S16x2x4x256x256, .f32⟩
  | .hbm, ⟨58, _⟩ => ⟨S16x2x4x256x256, .f32⟩
  | .hbm, ⟨59, _⟩ => ⟨S16x2x4x256x256, .f32⟩
  | .hbm, ⟨60, _⟩ => ⟨S_, .f32⟩
  | .hbm, ⟨61, _⟩ => ⟨S16x2x4x256, .f32⟩
  | .hbm, ⟨62, _⟩ => ⟨S16x2x4x256x1, .f32⟩
  | .hbm, ⟨63, _⟩ => ⟨S16x2x4x256x256, .f32⟩
  | .hbm, ⟨64, _⟩ => ⟨S16x2x4x256x256, .f32⟩
  | .hbm, ⟨65, _⟩ => ⟨S16x2x4x256x64, .f32⟩
  | .hbm, ⟨66, _⟩ => ⟨S16x8x256x64, .f32⟩
  | .hbm, ⟨67, _⟩ => ⟨S16x256x8x64, .f32⟩
  | .hbm, ⟨68, _⟩ => ⟨S16x256x512, .f32⟩
  | .hbm, ⟨69, _⟩ => ⟨S16x256x512, .bf16⟩
  | _, _ => ⟨S16x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Ffn.lean ====
abbrev S4096x1024 : Shape := ⟨2, ![4096, 1024]⟩
abbrev S4x1x1024 : Shape := ⟨3, ![4, 1, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1024x1024 : Shape := ⟨2, ![1024, 1024]⟩
abbrev S1x1x1024 : Shape := ⟨3, ![1, 1, 1024]⟩
abbrev S1024x256 : Shape := ⟨2, ![1024, 256]⟩
abbrev S3x256 : Shape := ⟨2, ![3, 256]⟩
abbrev S256x1024 : Shape := ⟨2, ![256, 1024]⟩
abbrev S1040x256 : Shape := ⟨2, ![1040, 256]⟩
abbrev S8x256 : Shape := ⟨2, ![8, 256]⟩
abbrev S8x1 : Shape := ⟨2, ![8, 1]⟩
abbrev S1x256 : Shape := ⟨2, ![1, 256]⟩
abbrev S256x256 : Shape := ⟨2, ![256, 256]⟩
abbrev S248x256 : Shape := ⟨2, ![248, 256]⟩
abbrev S1024 : Shape := ⟨1, ![1024]⟩
abbrev S1024x1 : Shape := ⟨2, ![1024, 1]⟩

abbrev nBuf : Space → Nat
  | .hbm => 8
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x1x1024, .f32⟩
  | .hbm, ⟨3, _⟩ => ⟨S1024x5632, .bf16⟩
  | .hbm, ⟨4, _⟩ => ⟨S3x5632, .f32⟩
  | .hbm, ⟨5, _⟩ => ⟨S2816x1024, .bf16⟩
  | .hbm, ⟨6, _⟩ => ⟨S1x1024, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1040x256, .f32⟩
  | .local _ .vmem, ⟨21, _⟩ => ⟨S1040x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32 : BitVec 32 := 10#32
  let v248 : BitVec 1 := Scalar.cmpi .eq arg1 c10_i32
  let v249 : BitVec 32 := Scalar.extui v248
  let c0_i32_138 : BitVec 32 := 0#32
  let v250 : BitVec 1 := Scalar.cmpi .ne v249 c0_i32_138
  v250

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S4096x1024 : Shape := ⟨2, ![4096, 1024]⟩
abbrev S4x1x1024 : Shape := ⟨3, ![4, 1, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S4x1024x1024 : Shape := ⟨3, ![4, 1024, 1024]⟩
abbrev S4x1024x5632 : Shape := ⟨3, ![4, 1024, 5632]⟩
abbrev S_ : Shape := ⟨0, ![]⟩
abbrev S4x1026x5632 : Shape := ⟨3, ![4, 1026, 5632]⟩
abbrev S1x5632 : Shape := ⟨2, ![1, 5632]⟩
abbrev S5632 : Shape := ⟨1, ![5632]⟩
abbrev S1x1x5632 : Shape := ⟨3, ![1, 1, 5632]⟩
abbrev S4x1024x2816 : Shape := ⟨3, ![4, 1024, 2816]⟩
abbrev S1024 : Shape := ⟨1, ![1024]⟩
abbrev S4x1024 : Shape := ⟨2, ![4, 1024]⟩
abbrev S4x1024x1 : Shape := ⟨3, ![4, 1024, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x1x1024, .f32⟩
  | .hbm, ⟨3, _⟩ => ⟨S1024x5632, .bf16⟩
  | .hbm, ⟨4, _⟩ => ⟨S3x5632, .f32⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4x1024x1024, .f32⟩
  | .hbm, ⟨9, _⟩ => ⟨S4x1024x1024, .f32⟩
  | .hbm, ⟨10, _⟩ => ⟨S1024x5632, .f32⟩
  | .hbm, ⟨11, _⟩ => ⟨S4x1024x5632, .f32⟩
  | .hbm, ⟨12, _⟩ => ⟨S_, .i32⟩
  | .hbm, ⟨13, _⟩ => ⟨S_, .f32⟩
  | .hbm, ⟨14, _⟩ => ⟨S4x1026x5632, .f32⟩
  | .hbm, ⟨15, _⟩ => ⟨S4x1024x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S4x1024x5632, .f32⟩
  | .hbm, ⟨20, _⟩ => ⟨S4x1024x5632, .f32⟩
  | .hbm, ⟨21, _⟩ => ⟨S4x1024x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S4x1024x5632, .f32⟩
  | .hbm, ⟨26, _⟩ => ⟨S4x1024x5632, .f32⟩
  | .hbm, ⟨27, _⟩ => ⟨S4x1024x5632, .f32⟩
  | .hbm, ⟨28, _⟩ => ⟨S4x1024x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S4x1024x5632, .f32⟩
  | .hbm, ⟨33, _⟩ => ⟨S4x1024x5632, .f32⟩
  | .hbm, ⟨34, _⟩ => ⟨S4x1024x5632, .f32⟩
  | .hbm, ⟨35, _⟩ => ⟨S4x1024x2816, .f32⟩
  | .hbm, ⟨36, _⟩ => ⟨S4x1024x2816, .f32⟩
  | .hbm, ⟨37, _⟩ => ⟨S4x1024x2816, .f32⟩
  | .hbm, ⟨38, _⟩ => ⟨S4x1024x2816, .f32⟩
  | .hbm, ⟨39, _⟩ => ⟨S_, .f32⟩
  | .hbm, ⟨40, _⟩ => ⟨S4x1024x2816, .f32⟩
  | .hbm, ⟨41, _⟩ => ⟨S4x1024x2816, .f32⟩
  | .hbm, ⟨42, _⟩ => ⟨S_, .f32⟩
  | .hbm, ⟨43, _⟩ => ⟨S4x1024x2816, .f32⟩
  | .hbm, ⟨44, _⟩ => ⟨S4x1024x2816, .f32⟩
  | .hbm, ⟨45, _⟩ => ⟨S4x1024x2816, .f32⟩
  | .hbm, ⟨46, _⟩ => ⟨S4x1024x2816, .f32⟩
  | .hbm, ⟨47, _⟩ => ⟨S2816x1024, .f32⟩
  | .hbm, ⟨48, _⟩ => ⟨S4x1024x1024, .f32⟩
  | .hbm, ⟨49, _⟩ => ⟨S4x1024x1024, .f32⟩
  | .hbm, ⟨50, _⟩ => ⟨S4x1024x1024, .f32⟩
  | .hbm, ⟨51, _⟩ => ⟨S4x1024x1024, .f32⟩
  | .hbm, ⟨52, _⟩ => ⟨S1024, .f32⟩
  | .hbm, ⟨53, _⟩ => ⟨S4x1024x1024, .f32⟩
  | .hbm, ⟨54, _⟩ => ⟨S_, .f32⟩
  | .hbm, ⟨55, _⟩ => ⟨S4x1024, .f32⟩
  | .hbm, ⟨56, _⟩ => ⟨S4x1024x1, .f32⟩
  | .hbm, ⟨57, _⟩ => ⟨S_, .f32⟩
  | .hbm, ⟨58, _⟩ => ⟨S4x1024x1, .f32⟩
  | .hbm, ⟨59, _⟩ => ⟨S4x1024x1, .f32⟩
  | .hbm, ⟨60, _⟩ => ⟨S_, .f32⟩
  | .hbm, ⟨61, _⟩ => ⟨S4x1024x1, .f32⟩
  | .hbm, ⟨62, _⟩ => ⟨S4x1024x1, .f32⟩
  | .hbm, ⟨63, _⟩ => ⟨S4x1024x1, .f32⟩
  | .hbm, ⟨64, _⟩ => ⟨S4x1024x1024, .f32⟩
  | .hbm, ⟨65, _⟩ => ⟨S4x1024x1024, .f32⟩
  | .hbm, ⟨66, _⟩ => ⟨S1x1x1024, .f32⟩
  | .hbm, ⟨67, _⟩ => ⟨S4x1024x1024, .f32⟩
  | .hbm, ⟨68, _⟩ => ⟨S4x1024x1024, .f32⟩
  | .hbm, ⟨69, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proj.lean ====
abbrev S4096x1024 : Shape := ⟨2, ![4096, 1024]⟩
abbrev S4x6x1024 : Shape := ⟨3, ![4, 6, 1024]⟩
abbrev S1x1024 : Shape := ⟨2, ![1, 1024]⟩
abbrev S1024x4608 : Shape := ⟨2, ![1024, 4608]⟩
abbrev S4096x768 : Shape := ⟨2, ![4096, 768]⟩
abbrev S4096x1536 : Shape := ⟨2, ![4096, 1536]⟩
abbrev S4096x256 : Shape := ⟨2, ![4096, 256]⟩
abbrev S1024x1024 : Shape := ⟨2, ![1024, 1024]⟩
abbrev S1x6x1024 : Shape := ⟨3, ![1, 6, 1024]⟩
abbrev S1024x768 : Shape := ⟨2, ![1024, 768]⟩
abbrev S1024x1536 : Shape := ⟨2, ![1024, 1536]⟩
abbrev S1024x256 : Shape := ⟨2, ![1024, 256]⟩
abbrev S1024 : Shape := ⟨1, ![1024]⟩
abbrev S1024x1 : Shape := ⟨2, ![1024, 1]⟩
abbrev S1x1x1024 : Shape := ⟨3, ![1, 1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S1x1024, .f32⟩
  | .hbm, ⟨3, _⟩ => ⟨S1024x4608, .bf16⟩
  | .hbm, ⟨4, _⟩ => ⟨S4096x768, .f32⟩
  | .hbm, ⟨5, _⟩ => ⟨S4096x1536, .f32⟩
  | .hbm, ⟨6, _⟩ => ⟨S4096x256, .f32⟩
  | .hbm, ⟨7, _⟩ => ⟨S4096x1024, .bf16⟩
  | .hbm, ⟨8, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4608, .bf16⟩
  | .local _ .vmem, ⟨6, _⟩ => ⟨S1024x768, .f32⟩
  | .local _ .vmem, ⟨7, _⟩ => ⟨S1024x768, .f32⟩
  | .local _ .vmem, ⟨8, _⟩ => ⟨S1024x1536, .f32⟩
  | .local _ .vmem, ⟨9, _⟩ => ⟨S1024x1536, .f32⟩
  | .local _ .vmem, ⟨10, _⟩ => ⟨S1024x256, .f32⟩
  | .local _ .vmem, ⟨11, _⟩ => ⟨S1024x256, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S4096x1024 : Shape := ⟨2, ![4096, 1024]⟩
abbrev S4x6x1024 : Shape := ⟨3, ![4, 6, 1024]⟩
abbrev S1x1024 : Shape := ⟨2, ![1, 1024]⟩
abbrev S1024x4608 : Shape := ⟨2, ![1024, 4608]⟩
abbrev S4x1024x1024 : Shape := ⟨3, ![4, 1024, 1024]⟩
abbrev S1024 : Shape := ⟨1, ![1024]⟩
abbrev S_ : Shape := ⟨0, ![]⟩
abbrev S4x1024 : Shape := ⟨2, ![4, 1024]⟩
abbrev S4x1024x1 : Shape := ⟨3, ![4, 1024, 1]⟩
abbrev S1x1x1024 : Shape := ⟨3, ![1, 1, 1024]⟩
abbrev S4x1x1024 : Shape := ⟨3, ![4, 1, 1024]⟩
abbrev S4x1024x4608 : Shape := ⟨3, ![4, 1024, 4608]⟩
abbrev S4096x4608 : Shape := ⟨2, ![4096, 4608]⟩
abbrev S4096x768 : Shape := ⟨2, ![4096, 768]⟩
abbrev S4096x1536 : Shape := ⟨2, ![4096, 1536]⟩
abbrev S4096x256 : Shape := ⟨2, ![4096, 256]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x6x1024, .f32⟩
  | .hbm, ⟨2, _⟩ => ⟨S1x1024, .f32⟩
  | .hbm, ⟨3, _⟩ => ⟨S1024x4608, .bf16⟩
  | .hbm, ⟨4, _⟩ => ⟨S4x1024x1024, .f32⟩
  | .hbm, ⟨5, _⟩ => ⟨S1024, .f32⟩
  | .hbm, ⟨6, _⟩ => ⟨S4x1024x1024, .f32⟩
  | .hbm, ⟨7, _⟩ => ⟨S_, .f32⟩
  | .hbm, ⟨8, _⟩ => ⟨S4x1024, .f32⟩
  | .hbm, ⟨9, _⟩ => ⟨S4x1024x1, .f32⟩
  | .hbm, ⟨10, _⟩ => ⟨S_, .f32⟩
  | .hbm, ⟨11, _⟩ => ⟨S4x1024x1, .f32⟩
  | .hbm, ⟨12, _⟩ => ⟨S4x1024x1, .f32⟩
  | .hbm, ⟨13, _⟩ => ⟨S_, .f32⟩
  | .hbm, ⟨14, _⟩ => ⟨S4x1024x1, .f32⟩
  | .hbm, ⟨15, _⟩ => ⟨S4x1024x1, .f32⟩
  | .hbm, ⟨16, _⟩ => ⟨S4x1024x1, .f32⟩
  | .hbm, ⟨17, _⟩ => ⟨S4x1024x1024, .f32⟩
  | .hbm, ⟨18, _⟩ => ⟨S4x1024x1024, .f32⟩
  | .hbm, ⟨19, _⟩ => ⟨S1x1x1024, .f32⟩
  | .hbm, ⟨20, _⟩ => ⟨S4x1024x1024, .f32⟩
  | .hbm, ⟨21, _⟩ => ⟨S4x1024x1024, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x1024x1024, .f32⟩
  | .hbm, ⟨31, _⟩ => ⟨S4x1024x1024, .f32⟩
  | .hbm, ⟨32, _⟩ => ⟨S4x1x1024, .f32⟩
  | .hbm, ⟨33, _⟩ => ⟨S4x1024x1024, .f32⟩
  | .hbm, ⟨34, _⟩ => ⟨S4x1024x1024, .f32⟩
  | .hbm, ⟨35, _⟩ => ⟨S1024x4608, .f32⟩
  | .hbm, ⟨36, _⟩ => ⟨S4x1024x4608, .f32⟩
  | .hbm, ⟨37, _⟩ => ⟨S4096x4608, .f32⟩
  | .hbm, ⟨38, _⟩ => ⟨S4096x768, .f32⟩
  | .hbm, ⟨39, _⟩ => ⟨S4096x1536, .f32⟩
  | .hbm, ⟨40, _⟩ => ⟨S4096x256, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Merge.lean ====
abbrev S4096x1024 : Shape := ⟨2, ![4096, 1024]⟩
abbrev S4096x512 : Shape := ⟨2, ![4096, 512]⟩
abbrev S4x6x1024 : Shape := ⟨3, ![4, 6, 1024]⟩
abbrev S1x1024 : Shape := ⟨2, ![1, 1024]⟩
abbrev S512x1024 : Shape := ⟨2, ![512, 1024]⟩
abbrev S1024x1024 : Shape := ⟨2, ![1024, 1024]⟩
abbrev S512x512 : Shape := ⟨2, ![512, 512]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4x6x1024, .f32⟩
  | .hbm, ⟨6, _⟩ => ⟨S1x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S4096x1024, .f32⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4096x1024 : Shape := ⟨2, ![4096, 1024]⟩
abbrev S4096x512 : Shape := ⟨2, ![4096, 512]⟩
abbrev S4x6x1024 : Shape := ⟨3, ![4, 6, 1024]⟩
abbrev S1x1024 : Shape := ⟨2, ![1, 1024]⟩
abbrev S512x1024 : Shape := ⟨2, ![512, 1024]⟩
abbrev S1024x1024 : Shape := ⟨2, ![1024, 1024]⟩
abbrev S4x1024x1024 : Shape := ⟨3, ![4, 1024, 1024]⟩
abbrev S4x1024x512 : Shape := ⟨3, ![4, 1024, 512]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x1024x1 : Shape := ⟨3, ![4, 1024, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x1024, .bf16⟩
  | .hbm, ⟨4, _⟩ => ⟨S4096x1024, .bf16⟩
  | .hbm, ⟨5, _⟩ => ⟨S4x6x1024, .f32⟩
  | .hbm, ⟨6, _⟩ => ⟨S1x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S4x1024x1024, .f32⟩
  | .hbm, ⟨11, _⟩ => ⟨S4x1024x512, .bf16⟩
  | .hbm, ⟨12, _⟩ => ⟨S4x1024x512, .bf16⟩
  | .hbm, ⟨13, _⟩ => ⟨S4x1024x1024, .bf16⟩
  | .hbm, ⟨14, _⟩ => ⟨S4x1024x1024, .bf16⟩
  | .hbm, ⟨15, _⟩ => ⟨S4x1024x1024, .f32⟩
  | .hbm, ⟨16, _⟩ => ⟨S4x1024x512, .f32⟩
  | .hbm, ⟨17, _⟩ => ⟨S512x1024, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S4x1024x512, .f32⟩
  | .hbm, ⟨22, _⟩ => ⟨S512x1024, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S4x1x1024, .f32⟩
  | .hbm, ⟨27, _⟩ => ⟨S4x1024, .f32⟩
  | .hbm, ⟨28, _⟩ => ⟨S4x1x1024, .f32⟩
  | .hbm, ⟨29, _⟩ => ⟨S1024x1024, .f32⟩
  | .hbm, ⟨30, _⟩ => ⟨S4x1024x1024, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S1024, .f32⟩
  | .hbm, ⟨35, _⟩ => ⟨S4x1024x1024, .f32⟩
  | .hbm, ⟨36, _⟩ => ⟨S_, .f32⟩
  | .hbm, ⟨37, _⟩ => ⟨S4x1024, .f32⟩
  | .hbm, ⟨38, _⟩ => ⟨S4x1024x1, .f32⟩
  | .hbm, ⟨39, _⟩ => ⟨S_, .f32⟩
  | .hbm, ⟨40, _⟩ => ⟨S4x1024x1, .f32⟩
  | .hbm, ⟨41, _⟩ => ⟨S4x1024x1, .f32⟩
  | .hbm, ⟨42, _⟩ => ⟨S_, .f32⟩
  | .hbm, ⟨43, _⟩ => ⟨S4x1024x1, .f32⟩
  | .hbm, ⟨44, _⟩ => ⟨S4x1024x1, .f32⟩
  | .hbm, ⟨45, _⟩ => ⟨S4x1024x1, .f32⟩
  | .hbm, ⟨46, _⟩ => ⟨S4x1024x1024, .f32⟩
  | .hbm, ⟨47, _⟩ => ⟨S4x1024x1024, .f32⟩
  | .hbm, ⟨48, _⟩ => ⟨S1x1x1024, .f32⟩
  | .hbm, ⟨49, _⟩ => ⟨S4x1024x1024, .f32⟩
  | .hbm, ⟨50, _⟩ => ⟨S4x1024x1024, .f32⟩
  | .hbm, ⟨51, _⟩ => ⟨S4x1x1024, .f32⟩
  | .hbm, ⟨52, _⟩ => ⟨S4x1024, .f32⟩
  | .hbm, ⟨53, _⟩ => ⟨S4x1x1024, .f32⟩
  | .hbm, ⟨54, _⟩ => ⟨S4x1024, .f32⟩
  | .hbm, ⟨55, _⟩ => ⟨S4x1x1024, .f32⟩
  | .hbm, ⟨56, _⟩ => ⟨S_, .f32⟩
  | .hbm, ⟨57, _⟩ => ⟨S4x1x1024, .f32⟩
  | .hbm, ⟨58, _⟩ => ⟨S4x1x1024, .f32⟩
  | .hbm, ⟨59, _⟩ => ⟨S4x1024x1024, .f32⟩
  | .hbm, ⟨60, _⟩ => ⟨S4x1024x1024, .f32⟩
  | .hbm, ⟨61, _⟩ => ⟨S4x1x1024, .f32⟩
  | .hbm, ⟨62, _⟩ => ⟨S4x1024x1024, .f32⟩
  | .hbm, ⟨63, _⟩ => ⟨S4x1024x1024, .f32⟩
  | .hbm, ⟨64, _⟩ => ⟨S4096x1024, .f32⟩
  | .hbm, ⟨65, _⟩ => ⟨S4x1024x1024, .bf16⟩
  | .hbm, ⟨66, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== FfnCtx.lean ====
abbrev S4096x1024 : Shape := ⟨2, ![4096, 1024]⟩
abbrev S1x1x1024 : Shape := ⟨3, ![1, 1, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S16x1x1024 : Shape := ⟨3, ![16, 1, 1024]⟩
abbrev S1024x1024 : Shape := ⟨2, ![1024, 1024]⟩
abbrev S1024x256 : Shape := ⟨2, ![1024, 256]⟩
abbrev S3x256 : Shape := ⟨2, ![3, 256]⟩
abbrev S256x1024 : Shape := ⟨2, ![256, 1024]⟩
abbrev S1040x256 : Shape := ⟨2, ![1040, 256]⟩
abbrev S8x256 : Shape := ⟨2, ![8, 256]⟩
abbrev S8x1 : Shape := ⟨2, ![8, 1]⟩
abbrev S1x256 : Shape := ⟨2, ![1, 256]⟩
abbrev S256x256 : Shape := ⟨2, ![256, 256]⟩
abbrev S248x256 : Shape := ⟨2, ![248, 256]⟩
abbrev S1024 : Shape := ⟨1, ![1024]⟩
abbrev S1024x1 : Shape := ⟨2, ![1024, 1]⟩

abbrev nBuf : Space → Nat
  | .hbm => 9
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1x1024, .f32⟩
  | .hbm, ⟨3, _⟩ => ⟨S1024x5632, .bf16⟩
  | .hbm, ⟨4, _⟩ => ⟨S3x5632, .f32⟩
  | .hbm, ⟨5, _⟩ => ⟨S2816x1024, .bf16⟩
  | .hbm, ⟨6, _⟩ => ⟨S1x1024, .f32⟩
  | .hbm, ⟨7, _⟩ => ⟨S16x1x1024, .f32⟩
  | .hbm, ⟨8, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1040x256, .f32⟩
  | .local _ .vmem, ⟨21, _⟩ => ⟨S1040x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32 : BitVec 32 := 10#32
  let v332 : BitVec 1 := Scalar.cmpi .eq arg1 c10_i32
  let v333 : BitVec 32 := Scalar.extui v332
  let c0_i32_150 : BitVec 32 := 0#32
  let v334 : BitVec 1 := Scalar.cmpi .ne v333 c0_i32_150
  v334

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c256_i32 : BitVec 32 := 256#32
  let v1 : BitVec 32 := Scalar.divsi v0 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c256_i32 c0_i32_1
  let v8 : BitVec 32 := Scalar.extui v7
  let c0_i32_2 : BitVec 32 := 0#32
  let v9 : BitVec 1 := Scalar.cmpi .slt c256_i32 c0_i32_2
  let v10 : BitVec 32 := Scalar.extui v9
  let v11 : BitVec 32 := Scalar.subi v8 v10
  let v12 : BitVec 1 := Scalar.cmpi .ne v6 v11
  let v13 : BitVec 32 := Scalar.remsi v0 c256_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnCtxRefIdeal.lean ====
abbrev S4096x1024 : Shape := ⟨2, ![4096, 1024]⟩
abbrev S1x1x1024 : Shape := ⟨3, ![1, 1, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S16x256x1024 : Shape := ⟨3, ![16, 256, 1024]⟩
abbrev S16x256x5632 : Shape := ⟨3, ![16, 256, 5632]⟩
abbrev S_ : Shape := ⟨0, ![]⟩
abbrev S16x258x5632 : Shape := ⟨3, ![16, 258, 5632]⟩
abbrev S1x5632 : Shape := ⟨2, ![1, 5632]⟩
abbrev S5632 : Shape := ⟨1, ![5632]⟩
abbrev S1x1x5632 : Shape := ⟨3, ![1, 1, 5632]⟩
abbrev S16x256x2816 : Shape := ⟨3, ![16, 256, 2816]⟩
abbrev S1024 : Shape := ⟨1, ![1024]⟩
abbrev S16x256 : Shape := ⟨2, ![16, 256]⟩
abbrev S16x256x1 : Shape := ⟨3, ![16, 256, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1x1024, .f32⟩
  | .hbm, ⟨3, _⟩ => ⟨S1024x5632, .bf16⟩
  | .hbm, ⟨4, _⟩ => ⟨S3x5632, .f32⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S16x256x1024, .f32⟩
  | .hbm, ⟨9, _⟩ => ⟨S16x256x1024, .f32⟩
  | .hbm, ⟨10, _⟩ => ⟨S1024x5632, .f32⟩
  | .hbm, ⟨11, _⟩ => ⟨S16x256x5632, .f32⟩
  | .hbm, ⟨12, _⟩ => ⟨S_, .i32⟩
  | .hbm, ⟨13, _⟩ => ⟨S_, .f32⟩
  | .hbm, ⟨14, _⟩ => ⟨S16x258x5632, .f32⟩
  | .hbm, ⟨15, _⟩ => ⟨S16x256x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S16x256x5632, .f32⟩
  | .hbm, ⟨20, _⟩ => ⟨S16x256x5632, .f32⟩
  | .hbm, ⟨21, _⟩ => ⟨S16x256x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S16x256x5632, .f32⟩
  | .hbm, ⟨26, _⟩ => ⟨S16x256x5632, .f32⟩
  | .hbm, ⟨27, _⟩ => ⟨S16x256x5632, .f32⟩
  | .hbm, ⟨28, _⟩ => ⟨S16x256x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S16x256x5632, .f32⟩
  | .hbm, ⟨33, _⟩ => ⟨S16x256x5632, .f32⟩
  | .hbm, ⟨34, _⟩ => ⟨S16x256x5632, .f32⟩
  | .hbm, ⟨35, _⟩ => ⟨S16x256x2816, .f32⟩
  | .hbm, ⟨36, _⟩ => ⟨S16x256x2816, .f32⟩
  | .hbm, ⟨37, _⟩ => ⟨S16x256x2816, .f32⟩
  | .hbm, ⟨38, _⟩ => ⟨S16x256x2816, .f32⟩
  | .hbm, ⟨39, _⟩ => ⟨S_, .f32⟩
  | .hbm, ⟨40, _⟩ => ⟨S16x256x2816, .f32⟩
  | .hbm, ⟨41, _⟩ => ⟨S16x256x2816, .f32⟩
  | .hbm, ⟨42, _⟩ => ⟨S_, .f32⟩
  | .hbm, ⟨43, _⟩ => ⟨S16x256x2816, .f32⟩
  | .hbm, ⟨44, _⟩ => ⟨S16x256x2816, .f32⟩
  | .hbm, ⟨45, _⟩ => ⟨S16x256x2816, .f32⟩
  | .hbm, ⟨46, _⟩ => ⟨S16x256x2816, .f32⟩
  | .hbm, ⟨47, _⟩ => ⟨S2816x1024, .f32⟩
  | .hbm, ⟨48, _⟩ => ⟨S16x256x1024, .f32⟩
  | .hbm, ⟨49, _⟩ => ⟨S16x256x1024, .f32⟩
  | .hbm, ⟨50, _⟩ => ⟨S16x256x1024, .f32⟩
  | .hbm, ⟨51, _⟩ => ⟨S16x256x1024, .f32⟩
  | .hbm, ⟨52, _⟩ => ⟨S1024, .f32⟩
  | .hbm, ⟨53, _⟩ => ⟨S16x256x1024, .f32⟩
  | .hbm, ⟨54, _⟩ => ⟨S_, .f32⟩
  | .hbm, ⟨55, _⟩ => ⟨S16x256, .f32⟩
  | .hbm, ⟨56, _⟩ => ⟨S16x256x1, .f32⟩
  | .hbm, ⟨57, _⟩ => ⟨S_, .f32⟩
  | .hbm, ⟨58, _⟩ => ⟨S16x256x1, .f32⟩
  | .hbm, ⟨59, _⟩ => ⟨S16x256x1, .f32⟩
  | .hbm, ⟨60, _⟩ => ⟨S_, .f32⟩
  | .hbm, ⟨61, _⟩ => ⟨S16x256x1, .f32⟩
  | .hbm, ⟨62, _⟩ => ⟨S16x256x1, .f32⟩
  | .hbm, ⟨63, _⟩ => ⟨S16x256x1, .f32⟩
  | .hbm, ⟨64, _⟩ => ⟨S16x256x1024, .f32⟩
  | .hbm, ⟨65, _⟩ => ⟨S16x256x1024, .f32⟩
  | .hbm, ⟨66, _⟩ => ⟨S1x1x1024, .f32⟩
  | .hbm, ⟨67, _⟩ => ⟨S16x256x1024, .f32⟩
  | .hbm, ⟨68, _⟩ => ⟨S16x256x1024, .f32⟩
  | .hbm, ⟨69, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_0 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Lat.lean ====
abbrev S4x1024x768 : Shape := ⟨3, ![4, 1024, 768]⟩
abbrev S1x64 : Shape := ⟨2, ![1, 64]⟩
abbrev S4x2x512x64 : Shape := ⟨4, ![4, 2, 512, 64]⟩
abbrev S16 : Shape := ⟨1, ![16]⟩
abbrev S16x64 : Shape := ⟨2, ![16, 64]⟩
abbrev S1024 : Shape := ⟨1, ![1024]⟩
abbrev S64 : Shape := ⟨1, ![64]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x32 : Shape := ⟨2, ![1024, 32]⟩
abbrev S1024x128 : Shape := ⟨2, ![1024, 128]⟩
abbrev S4x1024x512 : Shape := ⟨3, ![4, 1024, 512]⟩
abbrev S1x1024x256 : Shape := ⟨3, ![1, 1024, 256]⟩
abbrev S1x1024x128 : Shape := ⟨3, ![1, 1024, 128]⟩
abbrev S1x1x512x64 : Shape := ⟨4, ![1, 1, 512, 64]⟩
abbrev S1024x256 : Shape := ⟨2, ![1024, 256]⟩
abbrev S1536x128 : Shape := ⟨2, ![1536, 128]⟩
abbrev S1x128 : Shape := ⟨2, ![1, 128]⟩
abbrev S128x128 : Shape := ⟨2, ![128, 128]⟩
abbrev S512x64 : Shape := ⟨2, ![512, 64]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x512x256 : Shape := ⟨3, ![1, 512, 256]⟩

abbrev nBuf : Space → Nat
  | .hbm => 41
  | .vmem => 19
  | .smem => 0
  | _ => 0

abbrev bufTy : (tb : Table) → Fin (tcTables nBuf tb) → BufTy
  | .hbm, ⟨0, _⟩ => ⟨S4x1024x768, .f32⟩
  | .hbm, ⟨1, _⟩ => ⟨S1x64, .f32⟩
  | .hbm, ⟨2, _⟩ => ⟨S1x64, .f32⟩
  | .hbm, ⟨3, _⟩ => ⟨S4x2x512x64, .f32⟩
  | .hbm, ⟨4, _⟩ => ⟨S4x2x512x64, .f32⟩
  | .hbm, ⟨5, _⟩ => ⟨S16, .i32⟩
  | .hbm, ⟨6, _⟩ => ⟨S16x64, .i32⟩
  | .hbm, ⟨7, _⟩ => ⟨S1024, .i32⟩
  | .hbm, ⟨8, _⟩ => ⟨S1024, .f32⟩
  | .hbm, ⟨9, _⟩ => ⟨S64, .i32⟩
  | .hbm, ⟨10, _⟩ => ⟨S1x64, .i32⟩
  | .hbm, ⟨11, _⟩ => ⟨S16x64, .i32⟩
  | .hbm, ⟨12, _⟩ => ⟨S1024, .i32⟩
  | .hbm, ⟨13, _⟩ => ⟨S1024, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S1024x1, .f32⟩
  | .hbm, ⟨25, _⟩ => ⟨S1x16, .f32⟩
  | .hbm, ⟨26, _⟩ => ⟨S1024x16, .f32⟩
  | .hbm, ⟨27, _⟩ => ⟨S1024x16, .f32⟩
  | .hbm, ⟨28, _⟩ => ⟨S1024x16, .f32⟩
  | .hbm, ⟨29, _⟩ => ⟨S1024x1, .f32⟩
  | .hbm, ⟨30, _⟩ => ⟨S1x16, .f32⟩
  | .hbm, ⟨31, _⟩ => ⟨S1024x16, .f32⟩
  | .hbm, ⟨32, _⟩ => ⟨S1024x16, .f32⟩
  | .hbm, ⟨33, _⟩ => ⟨S1024x16, .f32⟩
  | .hbm, ⟨34, _⟩ => ⟨S1024x32, .f32⟩
  | .hbm, ⟨35, _⟩ => ⟨S1024x32, .f32⟩
  | .hbm, ⟨36, _⟩ => ⟨S1024x32, .f32⟩
  | .hbm, ⟨37, _⟩ => ⟨S1024x128, .f32⟩
  | .hbm, ⟨38, _⟩ => ⟨S1024x32, .f32⟩
  | .hbm, ⟨39, _⟩ => ⟨S1024x128, .f32⟩
  | .hbm, ⟨40, _⟩ => ⟨S4x1024x512, .bf16⟩
  | .local _ .vmem, ⟨0, _⟩ => ⟨S1x1024x256, .f32⟩
  | .local _ .vmem, ⟨1, _⟩ => ⟨S1x1024x256, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x64, .f32⟩
  | .local _ .vmem, ⟨9, _⟩ => ⟨S1x1x512x64, .f32⟩
  | .local _ .vmem, ⟨10, _⟩ => ⟨S1024x128, .f32⟩
  | .local _ .vmem, ⟨11, _⟩ => ⟨S1024x128, .f32⟩
  | .local _ .vmem, ⟨12, _⟩ => ⟨S1x64, .f32⟩
  | .local _ .vmem, ⟨13, _⟩ => ⟨S1x64, .f32⟩
  | .local _ .vmem, ⟨14, _⟩ => ⟨S1x1024x256, .bf16⟩
  | .local _ .vmem, ⟨15, _⟩ => ⟨S1x1024x256, .bf16⟩
  | .local _ .vmem, ⟨16, _⟩ => ⟨S1024x256, .bf16⟩
  | .local _ .vmem, ⟨17, _⟩ => ⟨S1536x128, .bf16⟩
  | .local _ .vmem, ⟨18, _⟩ => ⟨S1536x128, .bf16⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32_96 : BitVec 32 := 0#32
  let c2_i32 : BitVec 32 := 2#32
  let v256 : BitVec 32 := Scalar.addi c0_i32_96 c2_i32
  let c1_i32_97 : BitVec 32 := 1#32
  ⟨c0_i32_96, v256, c1_i32_97⟩
def k0_mult1 (k0_t1 : Fin k0_t1_loop.trips) : BitVec 32 :=
  let c0_i32_96 : BitVec 32 := 0#32
  let c1_i32_97 : BitVec 32 := 1#32
  let arg15 : BitVec 32 := Scf.iv c0_i32_96 c1_i32_97 k0_t1
  let c512_i32 : BitVec 32 := 512#32
  let v257 : BitVec 32 := Scalar.muli arg15 c512_i32
  v257
def k0_off1 (k0_t1 : Fin k0_t1_loop.trips) : Fin 2 → Nat :=
  let c0_i32_96 : BitVec 32 := 0#32
  let c1_i32_97 : BitVec 32 := 1#32
  let arg15 : BitVec 32 := Scf.iv c0_i32_96 c1_i32_97 k0_t1
  let c512_i32 : BitVec 32 := 512#32
  let v257 : BitVec 32 := Scalar.muli arg15 c512_i32
  let v258 : BitVec 32 := v257
  let v259 : Index := Scalar.indexCast v258
  let c0_99 : Index := 0#32
  ![v259.toNat, 0]
def k0_off2 (k0_t1 : Fin k0_t1_loop.trips) : Fin 2 → Nat :=
  let c0_i32_96 : BitVec 32 := 0#32
  let c1_i32_97 : BitVec 32 := 1#32
  let arg15 : BitVec 32 := Scf.iv c0_i32_96 c1_i32_97 k0_t1
  let c512_i32 : BitVec 32 := 512#32
  let v257 : BitVec 32 := Scalar.muli arg15 c512_i32
  let v258 : BitVec 32 := v257
  let v506 : Index := Scalar.indexCast v258
  let c128_197 : Index := 128#32
  ![v506.toNat, 128]
def k0_off3 (k0_t1 : Fin k0_t1_loop.trips) : Fin 3 → Nat :=
  let c0_299 : Index := 0#32
  let c0_i32_96 : BitVec 32 := 0#32
  let c1_i32_97 : BitVec 32 := 1#32
  let arg15 : BitVec 32 := Scf.iv c0_i32_96 c1_i32_97 k0_t1
  let c512_i32 : BitVec 32 := 512#32
  let v257 : BitVec 32 := Scalar.muli arg15 c512_i32
  let v258 : BitVec 32 := v257
  let v755 : Index := Scalar.indexCast v258
  let c0_300 : Index := 0#32
  ![0, v755.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LatRefIdeal.lean ====
abbrev S4x1024x768 : Shape := ⟨3, ![4, 1024, 768]⟩
abbrev S1x64 : Shape := ⟨2, ![1, 64]⟩
abbrev S4x2x512x64 : Shape := ⟨4, ![4, 2, 512, 64]⟩
abbrev S16 : Shape := ⟨1, ![16]⟩
abbrev S16x64 : Shape := ⟨2, ![16, 64]⟩
abbrev S1024 : Shape := ⟨1, ![1024]⟩
abbrev S64 : Shape := ⟨1, ![64]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x32 : Shape := ⟨2, ![1024, 32]⟩
abbrev S4x1024x512 : Shape := ⟨3, ![4, 1024, 512]⟩
abbrev S4x1024x128 : Shape := ⟨3, ![4, 1024, 128]⟩
abbrev S4x1024x8x64 : Shape := ⟨4, ![4, 1024, 8, 64]⟩
abbrev S4x1024x8 : Shape := ⟨3, ![4, 1024, 8]⟩
abbrev S4x1024x8x1 : Shape := ⟨4, ![4, 1024, 8, 1]⟩
abbrev S1x1x1x64 : Shape := ⟨4, ![1, 1, 1, 64]⟩
abbrev S4x8x1024x64 : Shape := ⟨4, ![4, 8, 1024, 64]⟩
abbrev S4x1024x2x64 : Shape := ⟨4, ![4, 1024, 2, 64]⟩
abbrev S4x1024x2 : Shape := ⟨3, ![4, 1024, 2]⟩
abbrev S4x1024x2x1 : Shape := ⟨4, ![4, 1024, 2, 1]⟩
abbrev S4x2x1024x64 : Shape := ⟨4, ![4, 2, 1024, 64]⟩
abbrev S4x8x1024x32 : Shape := ⟨4, ![4, 8, 1024, 32]⟩
abbrev S1x1x1024x32 : Shape := ⟨4, ![1, 1, 1024, 32]⟩
abbrev S4x2x1024x32 : Shape := ⟨4, ![4, 2, 1024, 32]⟩
abbrev S4x2x1536x64 : Shape := ⟨4, ![4, 2, 1536, 64]⟩
abbrev S4x2x4x1024x64 : Shape := ⟨5, ![4, 2, 4, 1024, 64]⟩
abbrev S4x2x4x1024x1536 : Shape := ⟨5, ![4, 2, 4, 1024, 1536]⟩
abbrev S4x2x4x1024 : Shape := ⟨4, ![4, 2, 4, 1024]⟩
abbrev S4x2x4x1024x1 : Shape := ⟨5, ![4, 2, 4, 1024, 1]⟩

abbrev nBuf : Space → Nat
  | .hbm => 140
  | .vmem => 0
  | .smem => 0
  | _ => 0

abbrev hbmTy0_0 (i : Nat) : BufTy := match i % 128 with
  | 0 => ⟨S4x1024x768, .f32⟩
  | 1 => ⟨S1x64, .f32⟩
  | 2 => ⟨S1x64, .f32⟩
  | 3 => ⟨S4x2x512x64, .f32⟩
  | 4 => ⟨S4x2x512x64, .f32⟩
  | 5 => ⟨S16, .i32⟩
  | 6 => ⟨S16x64, .i32⟩
  | 7 => ⟨S1024, .i32⟩
  | 8 => ⟨S1024, .f32⟩
  | 9 => ⟨S64, .i32⟩
  | 10 => ⟨S1x64, .i32⟩
  | 11 => ⟨S16x64, .i32⟩
  | 12 => ⟨S1024, .i32⟩
  | 13 => ⟨S1024, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S1024x1, .f32⟩
  | 25 => ⟨S1x16, .f32⟩
  | 26 => ⟨S1024x16, .f32⟩
  | 27 => ⟨S1024x16, .f32⟩
  | 28 => ⟨S1024x16, .f32⟩
  | 29 => ⟨S1024x1, .f32⟩
  | 30 => ⟨S1x16, .f32⟩
  | 31 => ⟨S1024x16, .f32⟩
  | 32 => ⟨S1024x16, .f32⟩
  | 33 => ⟨S1024x16, .f32⟩
  | 34 => ⟨S1024x32, .f32⟩
  | 35 => ⟨S1024x32, .f32⟩
  | 36 => ⟨S1024x32, .f32⟩
  | 37 => ⟨S4x1024x512, .f32⟩
  | 38 => ⟨S4x1024x128, .f32⟩
  | 39 => ⟨S4x1024x128, .f32⟩
  | 40 => ⟨S4x1024x8x64, .f32⟩
  | 41 => ⟨S64, .f32⟩
  | 42 => ⟨S4x1024x8x64, .f32⟩
  | 43 => ⟨S_, .f32⟩
  | 44 => ⟨S4x1024x8, .f32⟩
  | 45 => ⟨S4x1024x8x1, .f32⟩
  | 46 => ⟨S_, .f32⟩
  | 47 => ⟨S4x1024x8x1, .f32⟩
  | 48 => ⟨S4x1024x8x1, .f32⟩
  | 49 => ⟨S_, .f32⟩
  | 50 => ⟨S4x1024x8x1, .f32⟩
  | 51 => ⟨S4x1024x8x1, .f32⟩
  | 52 => ⟨S4x1024x8x1, .f32⟩
  | 53 => ⟨S4x1024x8x64, .f32⟩
  | 54 => ⟨S4x1024x8x64, .f32⟩
  | 55 => ⟨S1x1x1x64, .f32⟩
  | 56 => ⟨S4x1024x8x64, .f32⟩
  | 57 => ⟨S4x1024x8x64, .f32⟩
  | 58 => ⟨S4x8x1024x64, .f32⟩
  | 59 => ⟨S4x1024x2x64, .f32⟩
  | 60 => ⟨S64, .f32⟩
  | 61 => ⟨S4x1024x2x64, .f32⟩
  | 62 => ⟨S_, .f32⟩
  | 63 => ⟨S4x1024x2, .f32⟩
  | 64 => ⟨S4x1024x2x1, .f32⟩
  | 65 => ⟨S_, .f32⟩
  | 66 => ⟨S4x1024x2x1, .f32⟩
  | 67 => ⟨S4x1024x2x1, .f32⟩
  | 68 => ⟨S_, .f32⟩
  | 69 => ⟨S4x1024x2x1, .f32⟩
  | 70 => ⟨S4x1024x2x1, .f32⟩
  | 71 => ⟨S4x1024x2x1, .f32⟩
  | 72 => ⟨S4x1024x2x64, .f32⟩
  | 73 => ⟨S4x1024x2x64, .f32⟩
  | 74 => ⟨S1x1x1x64, .f32⟩
  | 75 => ⟨S4x1024x2x64, .f32⟩
  | 76 => ⟨S4x1024x2x64, .f32⟩
  | 77 => ⟨S4x2x1024x64, .f32⟩
  | 78 => ⟨S4x1024x2x64, .f32⟩
  | 79 => ⟨S4x2x1024x64, .f32⟩
  | 80 => ⟨S4x8x1024x32, .f32⟩
  | 81 => ⟨S4x8x1024x32, .f32⟩
  | 82 => ⟨S1x1x1024x32, .f32⟩
  | 83 => ⟨S4x8x1024x32, .f32⟩
  | 84 => ⟨S4x8x1024x32, .f32⟩
  | 85 => ⟨S1x1x1024x32, .f32⟩
  | 86 => ⟨S4x8x1024x32, .f32⟩
  | 87 => ⟨S4x8x1024x32, .f32⟩
  | 88 => ⟨S4x8x1024x32, .f32⟩
  | 89 => ⟨S1x1x1024x32, .f32⟩
  | 90 => ⟨S4x8x1024x32, .f32⟩
  | 91 => ⟨S4x8x1024x32, .f32⟩
  | 92 => ⟨S1x1x1024x32, .f32⟩
  | 93 => ⟨S4x8x1024x32, .f32⟩
  | 94 => ⟨S4x8x1024x32, .f32⟩
  | 95 => ⟨S4x8x1024x32, .f32⟩
  | 96 => ⟨S4x8x1024x64, .f32⟩
  | 97 => ⟨S4x2x1024x32, .f32⟩
  | 98 => ⟨S4x2x1024x32, .f32⟩
  | 99 => ⟨S1x1x1024x32, .f32⟩
  | 100 => ⟨S4x2x1024x32, .f32⟩
  | 101 => ⟨S4x2x1024x32, .f32⟩
  | 102 => ⟨S1x1x1024x32, .f32⟩
  | 103 => ⟨S4x2x1024x32, .f32⟩
  | 104 => ⟨S4x2x1024x32, .f32⟩
  | 105 => ⟨S4x2x1024x32, .f32⟩
  | 106 => ⟨S1x1x1024x32, .f32⟩
  | 107 => ⟨S4x2x1024x32, .f32⟩
  | 108 => ⟨S4x2x1024x32, .f32⟩
  | 109 => ⟨S1x1x1024x32, .f32⟩
  | 110 => ⟨S4x2x1024x32, .f32⟩
  | 111 => ⟨S4x2x1024x32, .f32⟩
  | 112 => ⟨S4x2x1024x32, .f32⟩
  | 113 => ⟨S4x2x1024x64, .f32⟩
  | 114 => ⟨S4x2x1536x64, .f32⟩
  | 115 => ⟨S4x2x1536x64, .f32⟩
  | 116 => ⟨S4x2x4x1024x64, .f32⟩
  | 117 => ⟨S4x2x4x1024x1536, .f32⟩
  | 118 => ⟨S_, .f32⟩
  | 119 => ⟨S4x2x4x1024x1536, .f32⟩
  | 120 => ⟨S4x2x4x1024x1536, .f32⟩
  | 121 => ⟨S_, .f32⟩
  | 122 => ⟨S4x2x4x1024, .f32⟩
  | 123 => ⟨S_, .f32⟩
  | 124 => ⟨S4x2x4x1024, .f32⟩
  | 125 => ⟨S4x2x4x1024, .f32⟩
  | 126 => ⟨S4x2x4x1024x1, .f32⟩
  | 127 => ⟨S4x2x4x1024x1536, .f32⟩
  | _ => ⟨S4x1024x768, .f32⟩

abbrev hbmTy0_1 (i : Nat) : BufTy := match i % 128 with
  | 0 => ⟨S4x2x4x1024x1536, .f32⟩
  | 1 => ⟨S4x2x4x1024x1536, .f32⟩
  | 2 => ⟨S_, .f32⟩
  | 3 => ⟨S4x2x4x1024, .f32⟩
  | 4 => ⟨S4x2x4x1024x1, .f32⟩
  | 5 => ⟨S4x2x4x1024x1536, .f32⟩
  | 6 => ⟨S4x2x4x1024x1536, .f32⟩
  | 7 => ⟨S4x2x4x1024x64, .f32⟩
  | 8 => ⟨S4x8x1024x64, .f32⟩
  | 9 => ⟨S4x1024x8x64, .f32⟩
  | 10 => ⟨S4x1024x512, .f32⟩
  | 11 => ⟨S4x1024x512, .bf16⟩
  | _ => ⟨S4x1024x768, .f32⟩

abbrev hbmTy (i : Nat) : BufTy := match i / 128 with
  | 0 => hbmTy0_0 i
  | 1 => hbmTy0_1 i
  | _ => ⟨S4x1024x768, .f32⟩

abbrev bufTy : (tb : Table) → Fin (tcTables nBuf tb) → BufTy
  | .hbm, ⟨i, _⟩ => hbmTy i
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_8 : Ref sig .tc := ⟨.hbm, 118, rfl⟩
abbrev main_v104 : Ref sig .tc := ⟨.hbm, 119, rfl⟩
abbrev main_v105 : Ref sig .tc := ⟨.hbm, 120, rfl⟩
abbrev main_cst_9 : Ref sig .tc := ⟨.hbm, 121, rfl⟩
abbrev main_v106 : Ref sig .tc := ⟨.hbm, 122, rfl⟩
abbrev main_cst_10 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_11 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩

abbrev nD : Nat := 1
abbrev τ : Topo := Topo.v7x

variable {F : FTy → Type} [FloatOps F]
-- ==== Mod.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩
abbrev S8x6144 : Shape := ⟨2, ![8, 6144]⟩
abbrev S6144 : Shape := ⟨1, ![6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S6144, .f32⟩
  | .hbm, ⟨14, _⟩ => ⟨S1x6144, .f32⟩
  | .hbm, ⟨15, _⟩ => ⟨S8x6144, .f32⟩
  | .hbm, ⟨16, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Rwkv.lean ====
abbrev S16x256x1536 : Shape := ⟨3, ![16, 256, 1536]⟩
abbrev S16x256x256 : Shape := ⟨3, ![16, 256, 256]⟩
abbrev S3x1792 : Shape := ⟨2, ![3, 1792]⟩
abbrev S2x512 : Shape := ⟨2, ![2, 512]⟩
abbrev S2x64x512 : Shape := ⟨3, ![2, 64, 512]⟩
abbrev S128x512 : Shape := ⟨2, ![128, 512]⟩
abbrev S1x512 : Shape := ⟨2, ![1, 512]⟩
abbrev S16x256x512 : Shape := ⟨3, ![16, 256, 512]⟩
abbrev S16x2x8x64x64 : Shape := ⟨5, ![16, 2, 8, 64, 64]⟩
abbrev S1x256x256 : Shape := ⟨3, ![1, 256, 256]⟩
abbrev S3x256 : Shape := ⟨2, ![3, 256]⟩
abbrev S2x256 : Shape := ⟨2, ![2, 256]⟩
abbrev S2x64x256 : Shape := ⟨3, ![2, 64, 256]⟩
abbrev S128x256 : Shape := ⟨2, ![128, 256]⟩
abbrev S1x256 : Shape := ⟨2, ![1, 256]⟩
abbrev S1x2x4x64x64 : Shape := ⟨5, ![1, 2, 4, 64, 64]⟩
abbrev S256x256 : Shape := ⟨2, ![256, 256]⟩
abbrev S2x256x256 : Shape := ⟨3, ![2, 256, 256]⟩
abbrev S2x2x128x128 : Shape := ⟨4, ![2, 2, 128, 128]⟩
abbrev S256x1 : Shape := ⟨2, ![256, 1]⟩
abbrev S128x128 : Shape := ⟨2, ![128, 128]⟩
abbrev S1x1x128x128 : Shape := ⟨4, ![1, 1, 128, 128]⟩
abbrev S1x128 : Shape := ⟨2, ![1, 128]⟩
abbrev S128x64 : Shape := ⟨2, ![128, 64]⟩
abbrev S1x64x128 : Shape := ⟨3, ![1, 64, 128]⟩
abbrev S64x128 : Shape := ⟨2, ![64, 128]⟩
abbrev S128 : Shape := ⟨1, ![128]⟩
abbrev S128x1 : Shape := ⟨2, ![128, 1]⟩
abbrev S1x128x128 : Shape := ⟨3, ![1, 128, 128]⟩
abbrev S256x128 : Shape := ⟨2, ![256, 128]⟩
abbrev S64x64 : Shape := ⟨2, ![64, 64]⟩
abbrev S1x1x1x64x64 : Shape := ⟨5, ![1, 1, 1, 64, 64]⟩
abbrev S1x256x128 : Shape := ⟨3, ![1, 256, 128]⟩
abbrev S256 : Shape := ⟨1, ![256]⟩

abbrev nBuf : Space → Nat
  | .hbm => 15
  | .vmem => 46
  | .smem => 0
  | _ => 0

abbrev bufTy : (tb : Table) → Fin (tcTables nBuf tb) → BufTy
  | .hbm, ⟨0, _⟩ => ⟨S16x256x1536, .f32⟩
  | .hbm, ⟨1, _⟩ => ⟨S16x256x256, .f32⟩
  | .hbm, ⟨2, _⟩ => ⟨S3x1792, .f32⟩
  | .hbm, ⟨3, _⟩ => ⟨S2x512, .f32⟩
  | .hbm, ⟨4, _⟩ => ⟨S2x64x512, .f32⟩
  | .hbm, ⟨5, _⟩ => ⟨S2x512, .f32⟩
  | .hbm, ⟨6, _⟩ => ⟨S2x64x512, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S16x256x512, .bf16⟩
  | .hbm, ⟨14, _⟩ => ⟨S16x2x8x64x64, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S2x256, .f32⟩
  | .local _ .vmem, ⟨16, _⟩ => ⟨S2x256, .f32⟩
  | .local _ .vmem, ⟨17, _⟩ => ⟨S2x64x256, .f32⟩
  | .local _ .vmem, ⟨18, _⟩ => ⟨S2x64x256, .f32⟩
  | .local _ .vmem, ⟨19, _⟩ => ⟨S2x256, .f32⟩
  | .local _ .vmem, ⟨20, _⟩ => ⟨S2x256, .f32⟩
  | .local _ .vmem, ⟨21, _⟩ => ⟨S2x64x256, .f32⟩
  | .local _ .vmem, ⟨22, _⟩ => ⟨S2x64x256, .f32⟩
  | .local _ .vmem, ⟨23, _⟩ => ⟨S128x256, .f32⟩
  | .local _ .vmem, ⟨24, _⟩ => ⟨S128x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256x256, .bf16⟩
  | .local _ .vmem, ⟨36, _⟩ => ⟨S1x256x256, .bf16⟩
  | .local _ .vmem, ⟨37, _⟩ => ⟨S1x2x4x64x64, .f32⟩
  | .local _ .vmem, ⟨38, _⟩ => ⟨S1x2x4x64x64, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S2x256x256, .f32⟩
  | .local _ .vmem, ⟨44, _⟩ => ⟨S2x256x256, .f32⟩
  | .local _ .vmem, ⟨45, _⟩ => ⟨S2x2x128x128, .f32⟩
  | _, _ => ⟨S16x256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_scratch6 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨3, ![16, 2, 1], ![false, false, false]⟩

def k0_mult1 (i : grid0.Coords) : BitVec 32 :=
  let arg2 : BitVec 32 := BitVec.ofNat 32 (i 2).val
  let c256_i32 : BitVec 32 := 256#32
  let v15 : BitVec 32 := Scalar.muli arg2 c256_i32
  let c0_i32_29 : BitVec 32 := 0#32
  let v77 : BitVec 32 := Scalar.addi v15 c0_i32_29
  v77
def k0_off1 (i : grid0.Coords) (c0_i32_29 : BitVec 32) : Fin 2 → Nat :=
  let arg2 : BitVec 32 := BitVec.ofNat 32 (i 2).val
  let c256_i32 : BitVec 32 := 256#32
  let v15 : BitVec 32 := Scalar.muli arg2 c256_i32
  let v77 : BitVec 32 := Scalar.addi v15 c0_i32_29
  let v78 : BitVec 32 := v77
  let v79 : Index := Scalar.indexCast v78
  let c0_30 : Index := 0#32
  ![v79.toNat, 0]
def k0_off2 (i : grid0.Coords) (c0_i32_29 : BitVec 32) : Fin 2 → Nat :=
  let arg2 : BitVec 32 := BitVec.ofNat 32 (i 2).val
  let c256_i32 : BitVec 32 := 256#32
  let v15 : BitVec 32 := Scalar.muli arg2 c256_i32
  let v77 : BitVec 32 := Scalar.addi v15 c0_i32_29
  let v78 : BitVec 32 := v77
  let v91 : Index := Scalar.indexCast v78
  let c0_36 : Index := 0#32
  ![v91.toNat, 0]
def k0_mult2 (i : grid0.Coords) : BitVec 32 :=
  let arg2 : BitVec 32 := BitVec.ofNat 32 (i 2).val
  let c256_i32 : BitVec 32 := 256#32
  let v15 : BitVec 32 := Scalar.muli arg2 c256_i32
  let c128_i32 : BitVec 32 := 128#32
  let v107 : BitVec 32 := Scalar.addi v15 c128_i32
  v107
def k0_mult3 (i : grid0.Coords) : BitVec 32 :=
  let c0_i32_1 : BitVec 32 := 0#32
  let arg2 : BitVec 32 := BitVec.ofNat 32 (i 2).val
  let v6 : BitVec 32 := Scalar.subi c0_i32_1 arg2
  let c256_i32_57 : BitVec 32 := 256#32
  let v137 : BitVec 32 := Scalar.muli v6 c256_i32_57
  let c128_i32_72 : BitVec 32 := 128#32
  let v199 : BitVec 32 := Scalar.addi v137 c128_i32_72
  v199
def k0_off3 (i : grid0.Coords) (c128_i32_72 : BitVec 32) : Fin 2 → Nat :=
  let c0_i32_1 : BitVec 32 := 0#32
  let arg2 : BitVec 32 := BitVec.ofNat 32 (i 2).val
  let v6 : BitVec 32 := Scalar.subi c0_i32_1 arg2
  let c256_i32_57 : BitVec 32 := 256#32
  let v137 : BitVec 32 := Scalar.muli v6 c256_i32_57
  let v199 : BitVec 32 := Scalar.addi v137 c128_i32_72
  let v200 : BitVec 32 := v199
  let v201 : Index := Scalar.indexCast v200
  let c0_73 : Index := 0#32
  ![v201.toNat, 0]
def k0_off4 (i : grid0.Coords) (c128_i32_72 : BitVec 32) : Fin 2 → Nat :=
  let c0_i32_1 : BitVec 32 := 0#32
  let arg2 : BitVec 32 := BitVec.ofNat 32 (i 2).val
  let v6 : BitVec 32 := Scalar.subi c0_i32_1 arg2
  let c256_i32_57 : BitVec 32 := 256#32
  let v137 : BitVec 32 := Scalar.muli v6 c256_i32_57
  let v199 : BitVec 32 := Scalar.addi v137 c128_i32_72
  let v200 : BitVec 32 := v199
  let v213 : Index := Scalar.indexCast v200
  let c0_80 : Index := 0#32
  ![v213.toNat, 0]
def k0_mult4 (i : grid0.Coords) : BitVec 32 :=
  let c0_i32_1 : BitVec 32 := 0#32
  let arg2 : BitVec 32 := BitVec.ofNat 32 (i 2).val
  let v6 : BitVec 32 := Scalar.subi c0_i32_1 arg2
  let c256_i32_57 : BitVec 32 := 256#32
  let v137 : BitVec 32 := Scalar.muli v6 c256_i32_57
  let c0_i32_87 : BitVec 32 := 0#32
  let v229 : BitVec 32 := Scalar.addi v137 c0_i32_87
  v229
def k0_mult5 (i : grid0.Coords) : BitVec 32 :=
  let arg2 : BitVec 32 := BitVec.ofNat 32 (i 2).val
  let c256_i32_102 : BitVec 32 := 256#32
  let v259 : BitVec 32 := Scalar.muli arg2 c256_i32_102
  let c0_i32_117 : BitVec 32 := 0#32
  let v321 : BitVec 32 := Scalar.addi v259 c0_i32_117
  v321
def k0_off5 (i : grid0.Coords) (c0_i32_117 : BitVec 32) : Fin 2 → Nat :=
  let arg2 : BitVec 32 := BitVec.ofNat 32 (i 2).val
  let c256_i32_102 : BitVec 32 := 256#32
  let v259 : BitVec 32 := Scalar.muli arg2 c256_i32_102
  let v321 : BitVec 32 := Scalar.addi v259 c0_i32_117
  let v322 : BitVec 32 := v321
  let v335 : Index := Scalar.indexCast v322
  let c128_124 : Index := 128#32
  ![v335.toNat, 128]
def k0_mult6 (i : grid0.Coords) : BitVec 32 :=
  let arg2 : BitVec 32 := BitVec.ofNat 32 (i 2).val
  let c256_i32_102 : BitVec 32 := 256#32
  let v259 : BitVec 32 := Scalar.muli arg2 c256_i32_102
  let c128_i32_131 : BitVec 32 := 128#32
  let v351 : BitVec 32 := Scalar.addi v259 c128_i32_131
  v351
def k0_mult7 (i : grid0.Coords) : BitVec 32 :=
  let c0_i32_1 : BitVec 32 := 0#32
  let arg2 : BitVec 32 := BitVec.ofNat 32 (i 2).val
  let v6 : BitVec 32 := Scalar.subi c0_i32_1 arg2
  let c256_i32_146 : BitVec 32 := 256#32
  let v381 : BitVec 32 := Scalar.muli v6 c256_i32_146
  let c128_i32_161 : BitVec 32 := 128#32
  let v443 : BitVec 32 := Scalar.addi v381 c128_i32_161
  v443
def k0_off6 (i : grid0.Coords) (c128_i32_161 : BitVec 32) : Fin 2 → Nat :=
  let c0_i32_1 : BitVec 32 := 0#32
  let arg2 : BitVec 32 := BitVec.ofNat 32 (i 2).val
  let v6 : BitVec 32 := Scalar.subi c0_i32_1 arg2
  let c256_i32_146 : BitVec 32 := 256#32
  let v381 : BitVec 32 := Scalar.muli v6 c256_i32_146
  let v443 : BitVec 32 := Scalar.addi v381 c128_i32_161
  let v444 : BitVec 32 := v443
  let v457 : Index := Scalar.indexCast v444
  let c128_169 : Index := 128#32
  ![v457.toNat, 128]
def k0_mult8 (i : grid0.Coords) : BitVec 32 :=
  let c0_i32_1 : BitVec 32 := 0#32
  let arg2 : BitVec 32 := BitVec.ofNat 32 (i 2).val
  let v6 : BitVec 32 := Scalar.subi c0_i32_1 arg2
  let c256_i32_146 : BitVec 32 := 256#32
  let v381 : BitVec 32 := Scalar.muli v6 c256_i32_146
  let c0_i32_176 : BitVec 32 := 0#32
  let v473 : BitVec 32 := Scalar.addi v381 c0_i32_176
  v473
def k0_off7 (i : grid0.Coords) (c0_i32_29 : BitVec 32) : Fin 3 → Nat :=
  let c0_220 : Index := 0#32
  let arg2 : BitVec 32 := BitVec.ofNat 32 (i 2).val
  let c256_i32 : BitVec 32 := 256#32
  let v15 : BitVec 32 := Scalar.muli arg2 c256_i32
  let v77 : BitVec 32 := Scalar.addi v15 c0_i32_29
  let v78 : BitVec 32 := v77
  let v597 : Index := Scalar.indexCast v78
  let c0_221 : Index := 0#32
  ![0, v597.toNat, 0]
def k0_off8 (i : grid0.Coords) (c128_i32_72 : BitVec 32) : Fin 3 → Nat :=
  let c1_282 : Index := 1#32
  let c0_i32_1 : BitVec 32 := 0#32
  let arg2 : BitVec 32 := BitVec.ofNat 32 (i 2).val
  let v6 : BitVec 32 := Scalar.subi c0_i32_1 arg2
  let c256_i32_57 : BitVec 32 := 256#32
  let v137 : BitVec 32 := Scalar.muli v6 c256_i32_57
  let v199 : BitVec 32 := Scalar.addi v137 c128_i32_72
  let v200 : BitVec 32 := v199
  let v793 : Index := Scalar.indexCast v200
  let c0_283 : Index := 0#32
  ![1, v793.toNat, 0]
def k0_off9 (i : grid0.Coords) (c0_i32_117 : BitVec 32) : Fin 3 → Nat :=
  let c0_344 : Index := 0#32
  let arg2 : BitVec 32 := BitVec.ofNat 32 (i 2).val
  let c256_i32_102 : BitVec 32 := 256#32
  let v259 : BitVec 32 := Scalar.muli arg2 c256_i32_102
  let v321 : BitVec 32 := Scalar.addi v259 c0_i32_117
  let v322 : BitVec 32 := v321
  let v989 : Index := Scalar.indexCast v322
  let c128_345 : Index := 128#32
  ![0, v989.toNat, 128]
def k0_off10 (i : grid0.Coords) (c128_i32_161 : BitVec 32) : Fin 3 → Nat :=
  let c1_406 : Index := 1#32
  let c0_i32_1 : BitVec 32 := 0#32
  let arg2 : BitVec 32 := BitVec.ofNat 32 (i 2).val
  let v6 : BitVec 32 := Scalar.subi c0_i32_1 arg2
  let c256_i32_146 : BitVec 32 := 256#32
  let v381 : BitVec 32 := Scalar.muli v6 c256_i32_146
  let v443 : BitVec 32 := Scalar.addi v381 c128_i32_161
  let v444 : BitVec 32 := v443
  let v1185 : Index := Scalar.indexCast v444
  let c128_407 : Index := 128#32
  ![1, v1185.toNat, 128]
def k0_cond2 (i : grid0.Coords) : BitVec 1 :=
  let arg2 : BitVec 32 := BitVec.ofNat 32 (i 2).val
  let c0_i32_2018 : BitVec 32 := 0#32
  let v7127 : BitVec 1 := Scalar.cmpi .eq arg2 c0_i32_2018
  let v7128 : BitVec 32 := Scalar.extui v7127
  let c0_i32_2019 : BitVec 32 := 0#32
  let v7129 : BitVec 1 := Scalar.cmpi .ne v7128 c0_i32_2019
  v7129

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c6_i32 : BitVec 32 := 6#32
  let c0_i32_0 : BitVec 32 := 0#32
  ![c0_i32.toNat, c6_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_19 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S2x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S2x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, false]

abbrev stage0_18 : Fin 2 → Memref sig .tc .vmem S1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S1x2x4x64x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]
-- ==== Proof.Maths.lean ====
/- Facts about extended reals that the value proofs share: finite sums and roots of real numbers stay real, the constants the
   programs write, and the softmax average of a row of real scores, whatever its scores are shifted by. -/
module

public import Idealize.ShloMosaic.Lib.Pointwise
public import Mathlib.Analysis.SpecialFunctions.Exp

@[expose] public section

noncomputable section

namespace Cert.Maths

open Idealize.ShloMosaic

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real number less itself is zero. -/
theorem coe_sub_self (x : ℝ) : (x : EReal) - (x : EReal) = 0 := by rw [← EReal.coe_sub, sub_self, EReal.coe_zero]

/-- The constant the layer's root mean squares add under the root: the single-precision number nearest to `10⁻⁶`. -/
def eps : ℝ := 8796093 / 8796093022208

theorem eps_pos : 0 < eps := by unfold eps; norm_num

theorem ofBits_eps : Ideal.ofBits .f32 0x358637BD#32 = (eps : EReal) := by
  unfold eps; simp [Ideal.ofBits, Ideal.ieee, -EReal.coe_mul]; norm_num

theorem ofBits_inv64 : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The reciprocal root of a positive real number. -/
theorem rsqrt_coe {r : ℝ} (h : 0 < r) : Ideal.rsqrt (r : EReal) = (((√r)⁻¹ : ℝ) : EReal) := by
  show (if r < 0 then (⊥ : EReal) else if r = 0 then ⊤ else (((√r)⁻¹ : ℝ) : EReal)) = _
  rw [if_neg (not_lt.mpr h.le), if_neg h.ne']

theorem div_coe_coe (x : ℝ) {y : ℝ} (h : y ≠ 0) : Ideal.div (x : EReal) (y : EReal) = ((x / y : ℝ) : EReal) := by
  rw [Ideal.div_coe h, ← EReal.coe_mul]; congr 1; ring

/-- One over the root of the mean square of a row, `eps` added under the root. -/
def rms {n : ℕ} (x : Fin n → ℝ) : ℝ := (√((∑ e, x e * x e) / n + eps))⁻¹

theorem rms_arg_pos {n : ℕ} (x : Fin n → ℝ) : 0 < (∑ e, x e * x e) / n + eps :=
  add_pos_of_nonneg_of_pos (div_nonneg (Finset.sum_nonneg fun e _ => mul_self_nonneg _) (Nat.cast_nonneg _)) eps_pos

/-- The softmax average of the values `v` at the scores `s`. -/
def soft {n : ℕ} (s v : Fin n → ℝ) : ℝ := (∑ j, Real.exp (s j) * v j) / ∑ j, Real.exp (s j)

theorem sum_exp_pos {n : ℕ} [NeZero n] (s : Fin n → ℝ) : 0 < ∑ j, Real.exp (s j) :=
  Finset.sum_pos (fun j _ => Real.exp_pos _) ⟨0, Finset.mem_univ _⟩

/-- Shifting every score by one number leaves the softmax average as it is. -/
theorem soft_shift {n : ℕ} [NeZero n] (s v : Fin n → ℝ) (μ : ℝ) :
    (∑ j, Real.exp (s j - μ) * v j) / ∑ j, Real.exp (s j - μ) = soft s v := by
  unfold soft
  simp only [Real.exp_sub, div_mul_eq_mul_div]
  rw [← Finset.sum_div, ← Finset.sum_div]
  exact div_div_div_cancel_right₀ (Real.exp_ne_zero _) _ _

/-- The greatest of a non-empty row of real scores is a real number. -/
theorem fold_max_real {n : ℕ} [NeZero n] (s : Fin n → ℝ) :
    ∃ μ : ℝ, Finset.fold max (⊥ : EReal) (fun j => (s j : EReal)) Finset.univ = (μ : EReal) := by
  obtain ⟨j, -, hj⟩ := Finset.exists_mem_eq_sup (Finset.univ : Finset (Fin n)) ⟨0, Finset.mem_univ _⟩ (fun j => (s j : EReal))
  exact ⟨s j, hj⟩

/-- The kernel's order of the softmax: exponentials under the row's greatest score, weighted sum, then one division. -/
theorem soft_late {n : ℕ} [NeZero n] (s v : Fin n → ℝ) (M : EReal) (hM : ∃ μ : ℝ, M = (μ : EReal)) :
    Ideal.div (∑ j, Ideal.exp ((s j : EReal) - M) * (v j : EReal)) (∑ j, Ideal.exp ((s j : EReal) - M)) = (soft s v : EReal) := by
  obtain ⟨μ, rfl⟩ := hM
  simp only [← EReal.coe_sub, Ideal.exp_coe, ← EReal.coe_mul]
  rw [coe_sum, coe_sum, div_coe_coe _ (sum_exp_pos fun j => s j - μ).ne', soft_shift]

/-- The reference's order of the softmax: every weight divided first, then the weighted sum. -/
theorem soft_early {n : ℕ} [NeZero n] (s v : Fin n → ℝ) (M : EReal) (hM : ∃ μ : ℝ, M = (μ : EReal)) :
    ∑ j, Ideal.div (Ideal.exp ((s j : EReal) - M)) (∑ k, Ideal.exp ((s k : EReal) - M)) * (v j : EReal) = (soft s v : EReal) := by
  obtain ⟨μ, rfl⟩ := hM
  simp only [← EReal.coe_sub, Ideal.exp_coe]
  rw [coe_sum]
  simp only [div_coe_coe _ (sum_exp_pos fun j => s j - μ).ne', ← EReal.coe_mul]
  rw [coe_sum, ← soft_shift s v μ, Finset.sum_div]
  exact congrArg _ (Finset.sum_congr rfl fun j _ => by ring)

/-- The lane of place `e` in half `h` of a row of 128 lanes. -/
def lane (h : Fin 2) (e : Fin 64) : Fin 128 := ⟨64 * h.val + e.val, by omega⟩

/-- A sum over 128 lanes that keeps only the lanes of half `h` is the sum over that half. -/
theorem sum_half (F : Fin 128 → EReal) (h : Fin 2) :
    (∑ k, if k.val / 64 = h.val then F k else 0) = ∑ e, F (lane h e) := by
  rw [← Finset.sum_filter]
  symm
  refine Finset.sum_bij (fun e _ => lane h e) (fun e _ => ?_) (fun a _ b _ hab => ?_) (fun k hk => ?_) (fun e _ => rfl)
  · rw [Finset.mem_filter]; refine ⟨Finset.mem_univ _, ?_⟩; show (64 * h.val + e.val) / 64 = h.val; omega
  · have := congrArg Fin.val hab; simp only [lane] at this; exact Fin.ext (by omega)
  · rw [Finset.mem_filter] at hk
    exact ⟨⟨k.val % 64, by omega⟩, Finset.mem_univ _, Fin.ext (by show 64 * h.val + k.val % 64 = k.val; omega)⟩

end Cert.Maths

end
-- ==== Proof.AttnSpec.lean ====
/- The attention of one layer over real numbers, as both programs compute it: rows of 768 lanes hold eight query heads of 64
   lanes, two key heads and two value heads; four query heads share one key head and one value head. The lanes are counted in
   rows of 128, which hold two heads side by side. -/
module

public import proofs.«01_k».proof.Proof.Maths
public import Idealize.ShloMosaic.Lib.Pointwise

@[expose] public section

noncomputable section

namespace Cert.Maths

open Idealize.ShloMosaic

/-- Half `h` of a row of 128 lanes. -/
def half (x : Fin 128 → ℝ) (h : Fin 2) : Fin 64 → ℝ := fun e => x (lane h e)

/-- The half a lane lies in, and its place there. -/
def hf (c : Fin 128) : Fin 2 := ⟨c.val / 64, by omega⟩
def pl (c : Fin 128) : Fin 64 := ⟨c.val % 64, Nat.mod_lt _ (by decide)⟩

/-- A lane scaled by its half's root mean square and gain, as a real number. -/
def normed (x : Fin 128 → ℝ) (g : Fin 64 → ℝ) (c : Fin 128) : ℝ := x c * rms (half x (hf c)) * g (pl c)

theorem hf_lane (h : Fin 2) (e : Fin 64) : hf (lane h e) = h := Fin.ext (by show (64 * h.val + e.val) / 64 = h.val; omega)

theorem pl_lane (h : Fin 2) (e : Fin 64) : pl (lane h e) = e := Fin.ext (by show (64 * h.val + e.val) % 64 = e.val; omega)

theorem lane_hf_pl (c : Fin 128) : lane (hf c) (pl c) = c := Fin.ext (by show 64 * (c.val / 64) + c.val % 64 = c.val; omega)

/-- One head's row of scores. -/
def scores (q k : Fin 256 → Fin 128 → ℝ) (h : Fin 2) (r j : Fin 256) : ℝ := ∑ e, q r (lane h e) * k j (lane h e)

/-- Lane `k` of the `P`-th pair of query heads, of the pair of key heads, of the pair of value heads. -/
def qcol (P : Fin 4) (k : Fin 128) : Fin 768 := ⟨128 * P.val + k.val, by omega⟩
def kcol (k : Fin 128) : Fin 768 := ⟨512 + k.val, by omega⟩
def vcol (k : Fin 128) : Fin 768 := ⟨640 + k.val, by omega⟩

/-- The key and value head that the `P`-th pair of query heads reads. -/
def grp (P : Fin 4) : Fin 2 := ⟨P.val / 2, by omega⟩

variable (X : Fin 16 → Fin 256 → Fin 768 → ℝ) (qg kg : Fin 64 → ℝ)

/-- The normalised keys of sequence `b`, key head `g`. -/
def keys (b : Fin 16) (g : Fin 2) (j : Fin 256) (e : Fin 64) : ℝ := normed (fun k => X b j (kcol k)) kg (lane g e)

/-- The values of sequence `b`, value head `g`. -/
def vals (b : Fin 16) (g : Fin 2) (j : Fin 256) (e : Fin 64) : ℝ := X b j (vcol (lane g e))

/-- The normalised queries of sequence `b`, pair `P`, scaled by one eighth. -/
def queries (b : Fin 16) (P : Fin 4) (r : Fin 256) (c : Fin 128) : ℝ := normed (fun k => X b r (qcol P k)) qg c * (1 / 8)

/-- The attention at row `r` of sequence `b`, lane `c` of pair `P`. -/
def attn (b : Fin 16) (P : Fin 4) (r : Fin 256) (c : Fin 128) : ℝ :=
  soft (scores (queries X qg b P) (fun j k => keys X kg b (grp P) j (pl k)) (hf c) r) (fun j => vals X b (grp P) j (pl c))

/-- The attention as one array of 512 lanes, the keys and the values as arrays of heads. -/
def attnAt (i : (⟨3, ![16, 256, 512]⟩ : Shape).Idx) : ℝ :=
  attn X qg kg (i 0) ⟨(i 2).val / 128, by have h : (i 2).val < 512 := (i 2).isLt; omega⟩ (i 1) ⟨(i 2).val % 128, by omega⟩
def keysAt (i : (⟨4, ![16, 2, 256, 64]⟩ : Shape).Idx) : ℝ := keys X kg (i 0) (i 1) (i 2) (i 3)
def valsAt (i : (⟨4, ![16, 2, 256, 64]⟩ : Shape).Idx) : ℝ := vals X (i 0) (i 1) (i 2) (i 3)

theorem attnAt_of (i : (⟨3, ![16, 256, 512]⟩ : Shape).Idx) (b : Fin 16) (P : Fin 4) (r : Fin 256) (l : Fin 128) (h0 : (i 0).val = b.val)
    (h1 : (i 1).val = r.val) (h2 : (i 2).val = 128 * P.val + l.val) : attnAt X qg kg i = attn X qg kg b P r l := by
  unfold attnAt
  congr 1 <;> apply Fin.ext
  · exact h0
  · show (i 2).val / 128 = P.val; omega
  · exact h1
  · show (i 2).val % 128 = l.val; omega

theorem keysAt_of (i : (⟨4, ![16, 2, 256, 64]⟩ : Shape).Idx) (b : Fin 16) (g : Fin 2) (r : Fin 256) (e : Fin 64) (h0 : (i 0).val = b.val)
    (h1 : (i 1).val = g.val) (h2 : (i 2).val = r.val) (h3 : (i 3).val = e.val) : keysAt X kg i = keys X kg b g r e := by
  unfold keysAt
  congr 1 <;> apply Fin.ext <;> assumption

theorem valsAt_of (i : (⟨4, ![16, 2, 256, 64]⟩ : Shape).Idx) (b : Fin 16) (g : Fin 2) (r : Fin 256) (e : Fin 64) (h0 : (i 0).val = b.val)
    (h1 : (i 1).val = g.val) (h2 : (i 2).val = r.val) (h3 : (i 3).val = e.val) : valsAt X i = vals X b g r e := by
  unfold valsAt
  congr 1 <;> apply Fin.ext <;> assumption

end Cert.Maths

end
-- ==== Proof.AttnPay.lean ====
/- What the attention kernel's vector operations compute at an index, on a block of real numbers: the head numbers of the
   lanes, the root mean square of each half of a 128-lane row, and one head's softmax average. -/
module

public import proofs.«01_k».proof.Proof.Gen.AttnIdeal.Skeleton
public import proofs.«01_k».proof.Proof.AttnSpec
public import Idealize.ShloMosaic.Lib.Pointwise
public import Idealize.ShloMosaic.Lib.Pipeline.ValueKit

@[expose] public section

set_option maxRecDepth 16384

noncomputable section

namespace Cert.AttnIdeal.Hand

open Cert.AttnIdeal Cert.AttnIdeal.Gen Cert.Maths Idealize.ShloMosaic Idealize.ShloMosaic.TcCoe

/-- The kernel's word for the half a lane lies in is the lane's number over 64. -/
theorem head_word : ∀ c : Fin 128, k0_pay2 (ix2 (n0 := 1) (n1 := 128) 0 c) = BitVec.ofNat 32 (c.val / 64) := by decide +kernel

/-- The comparison of that word with a half's number. -/
theorem head_eq (c : Fin 128) (w : BitVec 32) (h : Fin 2) (hw : w = BitVec.ofNat 32 h.val) :
    IntOp.cmpi CmpIPredicate.eq (k0_pay2 (ix2 (n0 := 1) (n1 := 128) 0 c)) w = if c.val / 64 = h.val then 1#1 else 0#1 := by
  subst hw
  rw [head_word]
  revert c h
  decide +kernel

theorem select_half {α : Type} (c : Fin 128) (w : BitVec 32) (h : Fin 2) (hw : w = BitVec.ofNat 32 h.val) (a b : α) :
    Scalar.select (IntOp.cmpi CmpIPredicate.eq (k0_pay2 (ix2 (n0 := 1) (n1 := 128) 0 c)) w) a b
      = if c.val / 64 = h.val then a else b := by
  rw [head_eq c w h hw]
  split <;> rfl

/-- The scalar word of the matrix that marks lanes of one half: 1 where row and column lie in one half. -/
theorem mark_word (r c : Fin 128) :
    k0_pay7 (F := Ideal) k0_pay3 k0_pay4 k0_pay5 k0_pay6 (ix2 (n0 := 128) (n1 := 128) r c)
      = if r.val / 64 = c.val / 64 then 1 else 0 := by
  have h : ∀ n : Fin 128, Scalar.select
            (IntOp.andi
              (IntOp.cmpi CmpIPredicate.ne
                (IntOp.subi (BitVec.setWidth 32 (IntOp.cmpi CmpIPredicate.sgt (BitVec.ofNat 32 n.val) 0#32))
                  (BitVec.setWidth 32 (IntOp.cmpi CmpIPredicate.slt (BitVec.ofNat 32 n.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 n.val) 64#32) 0#32))
            (IntOp.subi (IntOp.divsi ArithUnit.vector (BitVec.ofNat 32 n.val) 64#32) 1#32)
            (IntOp.divsi ArithUnit.vector (BitVec.ofNat 32 n.val) 64#32) = BitVec.ofNat 32 (n.val / 64) := by decide +kernel
  have h2 : ∀ r c : Fin 2, (IntOp.cmpi CmpIPredicate.eq (BitVec.ofNat 32 r.val) (BitVec.ofNat 32 c.val)).setWidth 32
      = if r.val = c.val then 1#32 else 0#32 := by decide +kernel
  unfold k0_pay7 k0_pay3 k0_pay4 k0_pay5 k0_pay6
  pointwise
  rw [h r, h c, h2 ⟨r.val / 64, by omega⟩ ⟨c.val / 64, by omega⟩]
  show FloatOps.sitofp FTy.f32 (if r.val / 64 = c.val / 64 then 1#32 else 0#32) = _
  split
  · show ((((1#32 : BitVec 32).toInt : ℝ)) : EReal) = 1
    norm_num
  · show ((((0#32 : BitVec 32).toInt : ℝ)) : EReal) = 0
    norm_num

/-- The gain of a lane: the 64 gains, twice. -/
theorem gain_apply (a : FVec Ideal S1x64 .f32) (c : Fin 128) :
    k0_pay8 (F := Ideal) a a (ix2 (n0 := 1) (n1 := 128) 0 c) = a (ix2 0 ⟨c.val % 64, Nat.mod_lt _ (by decide)⟩) := by
  pointwise [k0_pay8]
  by_cases h : c.val < 64
  · rw [dif_pos h]; exact congrArg a (congrArg (ix2 0) (Fin.ext (by show c.val = c.val % 64; omega)))
  · rw [dif_neg h]; exact congrArg a (congrArg (ix2 0) (Fin.ext (by show c.val - 64 = c.val % 64; omega)))

/-- The sums of squares against the marking matrix, whose parts below the first vanish, are the half's sum of squares. -/
theorem squares (x : Fin 128 → ℝ) (c : Fin 128) (X : Fin 128 → EReal) (hX : ∀ k, X k = (x k : EReal)) (M : Fin 128 → EReal)
    (hM : ∀ k, M k = if k.val / 64 = c.val / 64 then 1 else 0) :
    (∑ k, X k * X k * M k + (∑ k, (X k * X k - X k * X k) * M k
      + ∑ k, (X k * X k - X k * X k - (X k * X k - X k * X k)) * M k))
      = ((∑ e, half x (hf c) e * half x (hf c) e : ℝ) : EReal) := by
  have z : ∀ k, X k * X k - X k * X k = 0 := fun k => by rw [hX, ← EReal.coe_mul, coe_sub_self]
  have s : ∀ k, X k * X k * M k = if k.val / 64 = (hf c).val then ((x k * x k : ℝ) : EReal) else 0 := fun k => by
    rw [hX, hM, ← EReal.coe_mul]; show _ = if k.val / 64 = c.val / 64 then _ else _; split <;> simp
  simp only [z, s, sub_zero, zero_mul, Finset.sum_const_zero, add_zero]
  rw [sum_half, coe_sum]
  rfl

theorem normed_eq (x : Fin 128 → ℝ) (g : Fin 64 → ℝ) (c : Fin 128) (X : Fin 128 → EReal) (hX : ∀ k, X k = (x k : EReal))
    (M : Fin 128 → EReal) (hM : ∀ k, M k = if k.val / 64 = c.val / 64 then 1 else 0) (G : EReal) (hG : G = (g (pl c) : EReal)) :
    X c * Ideal.rsqrt ((∑ k, X k * X k * M k + (∑ k, (X k * X k - X k * X k) * M k
      + ∑ k, (X k * X k - X k * X k - (X k * X k - X k * X k)) * M k)) * Ideal.ofBits FTy.f32 0x3C800000#32
        + Ideal.ofBits FTy.f32 0x358637BD#32) * G = (normed x g c : EReal) := by
  rw [squares x c X hX M hM, ofBits_inv64, ofBits_eps, ← EReal.coe_mul, ← EReal.coe_add, hX, hG]
  have e : (∑ e, half x (hf c) e * half x (hf c) e) * (1 / 64) + eps
      = (∑ e, half x (hf c) e * half x (hf c) e) / (64 : ℕ) + eps := by push_cast; ring
  rw [e, rsqrt_coe (rms_arg_pos _), ← EReal.coe_mul, ← EReal.coe_mul]
  rfl

/-- The lane that the kernel's rotation by one half brings to lane `c`. -/
theorem rot_lane (h : Fin 2) (c : Fin 128) (hc : ¬c.val / 64 = h.val) :
    (⟨(c.val + 128 - 64) % 128, Nat.mod_lt _ (by decide)⟩ : Fin 128) = lane h (pl c) :=
  Fin.ext (by show (c.val + 128 - 64) % 128 = 64 * h.val + c.val % 64; omega)

theorem own_lane (h : Fin 2) (c : Fin 128) (hc : c.val / 64 = h.val) : c = lane h (pl c) :=
  Fin.ext (by show c.val = 64 * h.val + c.val % 64; omega)

variable (x : Fin 256 → Fin 128 → ℝ) (g : Fin 64 → ℝ) (X : FVec Ideal S1x256x128 .f32) (G : FVec Ideal S1x64 .f32)

/-- The query columns of one pair of heads, normalised and scaled by the eighth. -/
theorem query_apply (hX : ∀ r c, X (ix3 0 r c) = (x r c : EReal)) (hG : ∀ e, G (ix2 0 e) = (g e : EReal)) (r : Fin 256) (c : Fin 128) :
    k0_pay17 (F := Ideal) (k0_pay7 k0_pay3 k0_pay4 k0_pay5 k0_pay6) (k0_pay9 G G) X (ix2 (n0 := 256) (n1 := 128) r c)
      = ((normed (x r) g c * (1 / 8) : ℝ) : EReal) := by
  have e : k0_pay9 (F := Ideal) G G (ix2 (n0 := 1) (n1 := 128) 0 c) = (g (pl c) : EReal) := (gain_apply G c).trans (hG _)
  have mk := mark_word (c := c)
  generalize k0_pay7 (F := Ideal) k0_pay3 k0_pay4 k0_pay5 k0_pay6 = M at mk ⊢
  generalize k0_pay9 (F := Ideal) G G = GG at e ⊢
  pointwise [k0_pay17]
  rw [normed_eq (x r) g c (fun k => X (ix3 0 r k)) (hX r) (fun k => M (ix2 k c)) mk _ e, ofBits_eighth, ← EReal.coe_mul]

theorem query_apply' (hX : ∀ r c, X (ix3 0 r c) = (x r c : EReal)) (hG : ∀ e, G (ix2 0 e) = (g e : EReal)) (r : Fin 256) (c : Fin 128) :
    k0_pay18 (F := Ideal) (k0_pay7 k0_pay3 k0_pay4 k0_pay5 k0_pay6) (k0_pay9 G G) X (ix2 (n0 := 256) (n1 := 128) r c)
      = ((normed (x r) g c * (1 / 8) : ℝ) : EReal) :=
  query_apply x g X G hX hG r c

/-- The keys of group `h`, normalised, in both halves of the row. -/
theorem key_apply (hX : ∀ r c, X (ix3 0 r c) = (x r c : EReal)) (hG : ∀ e, G (ix2 0 e) = (g e : EReal)) (w : BitVec 32) (h : Fin 2)
    (hw : w = BitVec.ofNat 32 h.val) (r : Fin 256) (c : Fin 128) :
    k0_pay11 (F := Ideal) w k0_pay2 (k0_pay7 k0_pay3 k0_pay4 k0_pay5 k0_pay6) (k0_pay8 G G) X (ix2 (n0 := 256) (n1 := 128) r c)
      = (normed (x r) g (lane h (pl c)) : EReal) := by
  have e : ∀ c, k0_pay8 (F := Ideal) G G (ix2 (n0 := 1) (n1 := 128) 0 c) = (g (pl c) : EReal) := fun c => (gain_apply G c).trans (hG _)
  have mk := fun c r => mark_word r c
  generalize k0_pay7 (F := Ideal) k0_pay3 k0_pay4 k0_pay5 k0_pay6 = M at mk ⊢
  generalize k0_pay8 (F := Ideal) G G = GG at e ⊢
  pointwise [k0_pay11]
  rw [select_half c w h hw]
  split
  · next hc =>
    rw [normed_eq (x r) g c (fun k => X (ix3 0 r k)) (hX r) (fun k => M (ix2 k c)) (mk c) _ (e c)]
    exact congrArg (fun c => ((normed (x r) g c : ℝ) : EReal)) (own_lane h c hc)
  · next hc =>
    rw [rot_lane h c hc]
    exact normed_eq (x r) g _ (fun k => X (ix3 0 r k)) (hX r) (fun k => M (ix2 k _)) (mk _) _ (e _)

/-- The values of group `h`, in both halves of the row. -/
theorem value_apply (hX : ∀ r c, X (ix3 0 r c) = (x r c : EReal)) (w : BitVec 32) (h : Fin 2) (hw : w = BitVec.ofNat 32 h.val)
    (r : Fin 256) (c : Fin 128) :
    k0_pay10 (F := Ideal) w k0_pay2 X (ix2 (n0 := 256) (n1 := 128) r c) = (x r (lane h (pl c)) : EReal) := by
  pointwise [k0_pay10]
  rw [select_half c w h hw]
  split
  · next hc => rw [hX]; exact congrArg (fun c => (x r c : EReal)) (own_lane h c hc)
  · next hc => rw [rot_lane h c hc, hX]

/-- The scores of one half's head: the masked product over 128 lanes is the product over the half. -/
theorem score (A D : Fin 128 → EReal) (a d : Fin 128 → ℝ) (hA : ∀ k, A k = (a k : EReal)) (hD : ∀ k, D k = (d k : EReal))
    (w : BitVec 32) (h : Fin 2) (hw : w = BitVec.ofNat 32 h.val) :
    (∑ k, Scalar.select (IntOp.cmpi CmpIPredicate.eq (k0_pay2 (ix2 (n0 := 1) (n1 := 128) 0 k)) w) (A k * D k) 0)
      = ((∑ e, a (lane h e) * d (lane h e) : ℝ) : EReal) := by
  simp only [select_half _ w h hw, hA, hD, ← EReal.coe_mul]
  rw [sum_half, coe_sum]

variable (q k v : Fin 256 → Fin 128 → ℝ) (Q K V : FVec Ideal S256x128 .bf16)

/-- The masked scores, their softmax and the average over the values' rows, at an index. -/
theorem head_apply (hQ : ∀ r c, Q (ix2 r c) = (q r c : EReal)) (hK : ∀ r c, K (ix2 r c) = (k r c : EReal))
    (hV : ∀ r c, V (ix2 r c) = (v r c : EReal)) (w : BitVec 32) (h : Fin 2) (hw : w = BitVec.ofNat 32 h.val) (r : Fin 256) (c : Fin 128)
    (S : Fin 256 → EReal)
    (hS : ∀ j, S j = ∑ l, Scalar.select (IntOp.cmpi CmpIPredicate.eq (k0_pay2 (ix2 (n0 := 1) (n1 := 128) 0 l)) w) (Q (ix2 r l) * K (ix2 j l)) 0) :
    Ideal.div (∑ j, Ideal.exp (S j - Finset.fold max (Ideal.ofBits FTy.f32 0xFF800000#32) S Finset.univ) * V (ix2 j c))
        (∑ j, Ideal.exp (S j - Finset.fold max (Ideal.ofBits FTy.f32 0xFF800000#32) S Finset.univ))
      = (soft (scores q k h r) (fun j => v j c) : EReal) := by
  have e : S = fun j => (scores q k h r j : EReal) := funext fun j =>
    (hS j).trans (score (fun l => Q (ix2 r l)) (fun l => K (ix2 j l)) (q r) (k j) (hQ r) (hK j) w h hw)
  subst e
  rw [ofBits_neg_inf]
  simp only [hV]
  exact soft_late (scores q k h r) (fun j => v j c) _ (fold_max_real _)

/-- The two heads of the first pair: each half of the row is its own head's average. -/
theorem pair0_apply (hQ : ∀ r c, Q (ix2 r c) = (q r c : EReal)) (hK : ∀ r c, K (ix2 r c) = (k r c : EReal))
    (hV : ∀ r c, V (ix2 r c) = (v r c : EReal)) (r : Fin 256) (c : Fin 128) :
    k0_pay20 (F := Ideal) k0_pay2 Q (k0_pay19 k0_pay2 Q K) V K V (ix2 (n0 := 256) (n1 := 128) r c)
      = (soft (scores q k (hf c) r) (fun j => v j c) : EReal) := by
  pointwise [k0_pay20, k0_pay19]
  refine (select_half c _ 0 rfl _ _).trans ?_
  split
  · next hc =>
    rw [show hf c = 0 from Fin.ext hc]
    exact head_apply q k v Q K V hQ hK hV 0#32 0 rfl r c (fun j => _) (fun j => rfl)
  · next hc =>
    have hc' : ¬c.val / 64 = 0 := hc
    rw [show hf c = 1 from Fin.ext (by show c.val / 64 = 1; omega)]
    exact head_apply q k v Q K V hQ hK hV 1#32 1 rfl r c (fun j => _) (fun j => rfl)

/-- The heads of the second pair. -/
theorem head2_apply (hQ : ∀ r c, Q (ix2 r c) = (q r c : EReal)) (hK : ∀ r c, K (ix2 r c) = (k r c : EReal))
    (hV : ∀ r c, V (ix2 r c) = (v r c : EReal)) (r : Fin 256) (c : Fin 128) :
    k0_pay22 (F := Ideal) Q (k0_pay21 k0_pay2) (FloatOps.ofBits FTy.bf16 0#16) K V (ix2 (n0 := 256) (n1 := 128) r c)
      = (soft (scores q k 0 r) (fun j => v j c) : EReal) := by
  pointwise [k0_pay22, k0_pay21]
  exact head_apply q k v Q K V hQ hK hV 0#32 0 rfl r c (fun j => _) (fun j => rfl)

theorem head3_apply (hQ : ∀ r c, Q (ix2 r c) = (q r c : EReal)) (hK : ∀ r c, K (ix2 r c) = (k r c : EReal))
    (hV : ∀ r c, V (ix2 r c) = (v r c : EReal)) (r : Fin 256) (c : Fin 128) :
    k0_pay23 (F := Ideal) k0_pay2 Q K V (ix2 (n0 := 256) (n1 := 128) r c)
      = (soft (scores q k 1 r) (fun j => v j c) : EReal) := by
  pointwise [k0_pay23]
  exact head_apply q k v Q K V hQ hK hV 1#32 1 rfl r c (fun j => _) (fun j => rfl)

end Cert.AttnIdeal.Hand
end
-- ==== Proof.AttnBody.lean ====
/- One point of the attention's grid, on blocks of real numbers: what the body leaves in its three output windows. -/
module

public import proofs.«01_k».proof.Proof.Gen.AttnIdeal.Value
public import proofs.«01_k».proof.Proof.AttnPay
public import Idealize.ShloMosaic.Lib.Pipeline.ReadBack

@[expose] public section

set_option maxRecDepth 16384

noncomputable section

namespace Cert.AttnIdeal.Hand

open Cert.AttnIdeal Cert.AttnIdeal.Gen Cert.Maths Idealize.ShloMosaic Idealize.ShloMosaic.TcCoe
open Idealize.ShloMosaic.Pipeline (Dat)

variable (m : (ℓ : Loc nD τ sig) → Buf (Elt Ideal) ℓ) (c : Dev nD) (t : Fin grid0.N)

theorem off1 : k0_off1 = ![0, 0] := by decide +kernel
theorem off2 : k0_off2 = ![0, 128] := by decide +kernel

/-- The scratch of queries, read at the rectangle it was stored through last, the offset given by another name. -/
theorem scratch_read (o o' : Fin 2 → Nat) (h : o' = o) (i : ∀ a, o a + (![256, 128] : Fin 2 → Nat) a ≤ S256x256.size a)
    (i' : ∀ a, o' a + (![256, 128] : Fin 2 → Nat) a ≤ S256x256.size a) (w : S256x128.Idx → EReal)
    (L : List (View.Piece (Elt Ideal) S256x256 .bf16)) :
    (View.whole cc0_scratch0).readCov (Val := Elt Ideal) (⟨Rect.unit o ![256, 128] i, w⟩ :: L) (Rect.unit o' ![256, 128] i').toLoadRect
      = w := by
  subst h
  exact View.readCov_cons_toLoadRect _ _ _ _

/-- The keys' window. -/
theorem after6 : (dats m 0 c).after (6 : Fin 8) t = k0_pay12 (BitVec.ofNat 32 ↑(grid0.coords t 1)) k0_pay2
    (k0_pay7 k0_pay3 k0_pay4 k0_pay5 k0_pay6) (k0_pay8 (iblk m c 4 t) (iblk m c 4 t)) (iblk m c 1 t) := by
  rw [after0_6]; frame_out

theorem after7 : (dats m 0 c).after (7 : Fin 8) t = k0_pay14 (k0_pay13 (BitVec.ofNat 32 ↑(grid0.coords t 1)) k0_pay2 (iblk m c 2 t)) := by
  rw [after0_7]; frame_out

/-- The point's normalised queries of each pair of heads, its keys and its values, as the body computes them. -/
def qb0 : FVec Ideal S256x128 .bf16 := k0_pay17 (k0_pay7 k0_pay3 k0_pay4 k0_pay5 k0_pay6) (k0_pay9 (iblk m c 3 t) (iblk m c 3 t))
  (View.ld (iblk m c 0 t) (Rect.unit ![0, 0, 0] ![1, 256, 128] inb_S1x256x256_S1x256x128_0_0_0))
def qb1 : FVec Ideal S256x128 .bf16 := k0_pay18 (k0_pay7 k0_pay3 k0_pay4 k0_pay5 k0_pay6) (k0_pay9 (iblk m c 3 t) (iblk m c 3 t))
  (View.ld (iblk m c 0 t) (Rect.unit ![0, 0, 128] ![1, 256, 128] inb_S1x256x256_S1x256x128_0_0_128))
def kb : FVec Ideal S256x128 .bf16 := k0_pay15 (k0_pay11 (BitVec.ofNat 32 ↑(grid0.coords t 1)) k0_pay2
  (k0_pay7 k0_pay3 k0_pay4 k0_pay5 k0_pay6) (k0_pay8 (iblk m c 4 t) (iblk m c 4 t)) (iblk m c 1 t))
def vb : FVec Ideal S256x128 .bf16 := k0_pay16 (k0_pay10 (BitVec.ofNat 32 ↑(grid0.coords t 1)) k0_pay2 (iblk m c 2 t))

/-- The attention's window. -/
theorem after5 : (dats m 0 c).after (5 : Fin 8) t = (k0_pay1 (F := Ideal)
    (k0_pay20 k0_pay2 (qb0 m c t) (k0_pay19 k0_pay2 (qb0 m c t) (kb m c t)) (vb m c t) (kb m c t) (vb m c t))
    (k0_pay22 (qb1 m c t) (k0_pay21 k0_pay2) (FloatOps.ofBits FTy.bf16 0#16) (kb m c t) (vb m c t))
    (k0_pay23 k0_pay2 (qb1 m c t) (kb m c t) (vb m c t)) (k0_pay24 k0_pay2) : FVec Ideal S1x256x256 .bf16) := by
  rw [after0_5]; frame_open
  simp (disch := decide) only [↓ View.readCov_skip, ↓ View.readCov_cons_toLoadRect, ↓ View.readCov_fill]
  frame_out
  rw [scratch_read _ _ off1, scratch_read _ _ off2]
  rfl

section
variable (qg kg : Fin 64 → ℝ) (w : Fin 2) (q : Fin 2 → Fin 256 → Fin 128 → ℝ) (k v : Fin 256 → Fin 128 → ℝ)

theorem keys_window (hw : BitVec.ofNat 32 ↑(grid0.coords t 1) = BitVec.ofNat 32 w.val)
    (hk : ∀ r l, iblk m c 1 t (ix3 (n0 := 1) (n1 := 256) (n2 := 128) 0 r l) = (k r l : EReal))
    (hg : ∀ e, iblk m c 4 t (ix2 (n0 := 1) (n1 := 64) 0 e) = (kg e : EReal)) (r : Fin 256) (e : Fin 64) :
    (dats m 0 c).after (6 : Fin 8) t (ix4 (n0 := 1) (n1 := 1) (n2 := 256) (n3 := 64) 0 0 r e) = (normed (k r) kg (lane w e) : EReal) := by
  rw [after6]
  have h := key_apply k kg _ _ hk hg _ w hw r
  pointwise [k0_pay12]
  exact (h _).trans (by rw [show pl (⟨e.val, by omega⟩ : Fin 128) = e from Fin.ext (by show e.val % 64 = e.val; omega)])

theorem vals_window (hw : BitVec.ofNat 32 ↑(grid0.coords t 1) = BitVec.ofNat 32 w.val)
    (hv : ∀ r l, iblk m c 2 t (ix3 (n0 := 1) (n1 := 256) (n2 := 128) 0 r l) = (v r l : EReal)) (r : Fin 256) (e : Fin 64) :
    (dats m 0 c).after (7 : Fin 8) t (ix4 (n0 := 1) (n1 := 1) (n2 := 256) (n3 := 64) 0 0 r e) = (v r (lane w e) : EReal) := by
  rw [after7]
  have h := value_apply v _ hv _ w hw r
  pointwise [k0_pay14, k0_pay13]
  exact (h _).trans (by rw [show pl (⟨e.val, by omega⟩ : Fin 128) = e from Fin.ext (by show e.val % 64 = e.val; omega)])

theorem attn_window (hw : BitVec.ofNat 32 ↑(grid0.coords t 1) = BitVec.ofNat 32 w.val)
    (hq : ∀ p r l, iblk m c 0 t (ix3 (n0 := 1) (n1 := 256) (n2 := 256) 0 r ⟨128 * p.val + l.val, by omega⟩) = (q p r l : EReal))
    (hk : ∀ r l, iblk m c 1 t (ix3 (n0 := 1) (n1 := 256) (n2 := 128) 0 r l) = (k r l : EReal))
    (hv : ∀ r l, iblk m c 2 t (ix3 (n0 := 1) (n1 := 256) (n2 := 128) 0 r l) = (v r l : EReal))
    (hgq : ∀ e, iblk m c 3 t (ix2 (n0 := 1) (n1 := 64) 0 e) = (qg e : EReal))
    (hg : ∀ e, iblk m c 4 t (ix2 (n0 := 1) (n1 := 64) 0 e) = (kg e : EReal)) (p : Fin 2) (r : Fin 256) (l : Fin 128) :
    (dats m 0 c).after (5 : Fin 8) t (ix3 (n0 := 1) (n1 := 256) (n2 := 256) 0 r ⟨128 * p.val + l.val, by omega⟩)
      = (soft (scores (fun r l => normed (q p r) qg l * (1 / 8)) (fun j l => normed (k j) kg (lane w (pl l))) (hf l) r)
          (fun j => v j (lane w (pl l))) : EReal) := by
  have hK := key_apply k kg _ _ hk hg _ w hw
  have hV := value_apply v _ hv _ w hw
  have hQ0 := query_apply (q 0) qg (View.ld (iblk m c 0 t) (Rect.unit ![0, 0, 0] ![1, 256, 128] inb_S1x256x256_S1x256x128_0_0_0)) _
    (fun r l => (congrArg (iblk m c 0 t) (by funext a; apply Fin.ext; fin_cases a <;> simp <;> rfl)).trans (hq 0 r l)) hgq
  have hQ1 := query_apply' (q 1) qg (View.ld (iblk m c 0 t) (Rect.unit ![0, 0, 128] ![1, 256, 128] inb_S1x256x256_S1x256x128_0_0_128)) _
    (fun r l => (congrArg (iblk m c 0 t) (by funext a; apply Fin.ext; fin_cases a <;> simp <;> rfl)).trans (hq 1 r l)) hgq
  have e15 : ∀ A : FVec Ideal S256x128 .f32, ∀ r l, k0_pay15 A (ix2 (n0 := 256) (n1 := 128) r l) = A (ix2 r l) := fun A r l => by pointwise [k0_pay15]
  have e16 : ∀ A : FVec Ideal S256x128 .f32, ∀ r l, k0_pay16 A (ix2 (n0 := 256) (n1 := 128) r l) = A (ix2 r l) := fun A r l => by pointwise [k0_pay16]
  have hK' : ∀ r l, kb m c t (ix2 (n0 := 256) (n1 := 128) r l) = _ := fun r l => (e15 _ r l).trans (hK r l)
  have hV' : ∀ r l, vb m c t (ix2 (n0 := 256) (n1 := 128) r l) = _ := fun r l => (e16 _ r l).trans (hV r l)
  have p0 := pair0_apply _ _ _ (qb0 m c t) (kb m c t) (vb m c t) hQ0 hK' hV' r
  have p2 := head2_apply _ _ _ (qb1 m c t) (kb m c t) (vb m c t) hQ1 hK' hV' r
  have p3 := head3_apply _ _ _ (qb1 m c t) (kb m c t) (vb m c t) hQ1 hK' hV' r
  rw [after5]
  generalize k0_pay20 (F := Ideal) k0_pay2 (qb0 m c t) (k0_pay19 k0_pay2 (qb0 m c t) (kb m c t)) (vb m c t) (kb m c t) (vb m c t) = A0 at p0 ⊢
  generalize k0_pay22 (F := Ideal) (qb1 m c t) (k0_pay21 k0_pay2) (FloatOps.ofBits FTy.bf16 0#16) (kb m c t) (vb m c t) = A2 at p2 ⊢
  generalize k0_pay23 (F := Ideal) k0_pay2 (qb1 m c t) (kb m c t) (vb m c t) = A3 at p3 ⊢
  pointwise [k0_pay1, k0_pay24]
  obtain rfl | rfl : p = 0 ∨ p = 1 := by fin_cases p <;> simp
  · exact (dif_pos (show 128 * (0 : Fin 2).val + l.val < 128 by have := l.isLt; show 128 * 0 + l.val < 128; omega)).trans
      ((congrArg A0 (by congr 1; exact Fin.ext (by show 128 * 0 + l.val = l.val; omega))).trans (p0 l))
  · have hl : (⟨128 * (1 : Fin 2).val + l.val - 128, by have := l.isLt; show 128 * 1 + l.val - 128 < 128; omega⟩ : Fin 128) = l :=
      Fin.ext (by show 128 * 1 + l.val - 128 = l.val; omega)
    refine (dif_neg (show ¬128 * (1 : Fin 2).val + l.val < 128 by show ¬128 * 1 + l.val < 128; omega)).trans ?_
    refine (congrArg (fun l' : Fin 128 => Scalar.select (IntOp.cmpi CmpIPredicate.eq (k0_pay2 (ix2 (n0 := 1) (n1 := 128) 0 l')) 0#32)
      (A2 (ix2 r l')) (A3 (ix2 r l'))) hl).trans ?_
    refine (select_half l _ 0 rfl _ _).trans ?_
    split
    · next hc => rw [show hf l = 0 from Fin.ext hc]; exact p2 l
    · next hc =>
      have hc' : ¬l.val / 64 = 0 := hc
      rw [show hf l = 1 from Fin.ext (by show l.val / 64 = 1; have := l.isLt; omega)]
      exact p3 l
end

end Cert.AttnIdeal.Hand
end
-- ==== Proof.AttnArr.lean ====
/- What the attention kernel leaves in its three result arrays, from arrays of real numbers: each block is the body's, and the
   blocks tile the arrays. -/
module

public import proofs.«01_k».proof.Proof.AttnBody

@[expose] public section

set_option maxRecDepth 16384

noncomputable section

namespace Cert.AttnIdeal.Hand

open Cert.AttnIdeal Cert.AttnIdeal.Gen Cert.Maths Idealize.ShloMosaic Idealize.ShloMosaic.TcCoe
open Idealize.ShloMosaic.Pipeline (Dat)

variable (m : (ℓ : Loc nD τ sig) → Buf (Elt Ideal) ℓ) (c : Dev nD)

theorem idx : ∀ t : Fin grid0.N,
    win0_0.index t = ![(grid0.coords t 0).val, 0, (grid0.coords t 1).val] ∧ win0_1.index t = ![(grid0.coords t 0).val, 0, 4]
    ∧ win0_2.index t = ![(grid0.coords t 0).val, 0, 5] ∧ win0_3.index t = ![0, 0] ∧ win0_4.index t = ![0, 0]
    ∧ win0_5.index t = ![(grid0.coords t 0).val, 0, (grid0.coords t 1).val]
    ∧ win0_6.index t = ![(grid0.coords t 0).val, (grid0.coords t 1).val, 0, 0]
    ∧ win0_7.index t = ![(grid0.coords t 0).val, (grid0.coords t 1).val, 0, 0] := by decide +kernel

variable (X : Fin 16 → Fin 256 → Fin 768 → ℝ) (qg kg : Fin 64 → ℝ)
  (hX : ∀ b r l, m ((c.tc : Thread nD τ).loc main_arg0) (ix3 (n0 := 16) (n1 := 256) (n2 := 768) b r l) = (X b r l : EReal))
  (hqg : ∀ e, m ((c.tc : Thread nD τ).loc main_arg1) (ix2 (n0 := 1) (n1 := 64) 0 e) = (qg e : EReal))
  (hkg : ∀ e, m ((c.tc : Thread nD τ).loc main_arg2) (ix2 (n0 := 1) (n1 := 64) 0 e) = (kg e : EReal))

/-- The sequence and the group of heads of a point. -/
def seq (t : Fin grid0.N) : Fin 16 := ⟨(grid0.coords t 0).val, (grid0.coords t 0).isLt⟩
def grp2 (t : Fin grid0.N) : Fin 2 := ⟨(grid0.coords t 1).val, (grid0.coords t 1).isLt⟩

include hX in
theorem q_block (t : Fin grid0.N) (p : Fin 2) (r : Fin 256) (l : Fin 128) :
    iblk m c 0 t (ix3 (n0 := 1) (n1 := 256) (n2 := 256) 0 r ⟨128 * p.val + l.val, by omega⟩)
      = (X (seq t) r (qcol ⟨2 * (grp2 t).val + p.val, by omega⟩ l) : EReal) := by
  rw [← hX]
  blk_ext [iblk, V, idx t, seq, grp2, qcol]

include hX in
theorem k_block (t : Fin grid0.N) (r : Fin 256) (l : Fin 128) :
    iblk m c 1 t (ix3 (n0 := 1) (n1 := 256) (n2 := 128) 0 r l) = (X (seq t) r (kcol l) : EReal) := by
  rw [← hX]
  blk_ext [iblk, V, idx t, seq, kcol]

include hX in
theorem v_block (t : Fin grid0.N) (r : Fin 256) (l : Fin 128) :
    iblk m c 2 t (ix3 (n0 := 1) (n1 := 256) (n2 := 128) 0 r l) = (X (seq t) r (vcol l) : EReal) := by
  rw [← hX]
  blk_ext [iblk, V, idx t, seq, vcol]

include hqg in
theorem qg_block (t : Fin grid0.N) (e : Fin 64) : iblk m c 3 t (ix2 (n0 := 1) (n1 := 64) 0 e) = (qg e : EReal) := by
  rw [← hqg]
  blk_ext [iblk, V, idx t]

include hkg in
theorem kg_block (t : Fin grid0.N) (e : Fin 64) : iblk m c 4 t (ix2 (n0 := 1) (n1 := 64) 0 e) = (kg e : EReal) := by
  rw [← hkg]
  blk_ext [iblk, V, idx t]

include hX hkg in
theorem keys_array : (dats m 0 c).arrAt 6 cfg0.N = fun i => (keysAt X kg i : EReal) := by
  refine (dats m 0 c).arrAt_eq_of_covers 6 _ (by decide +kernel) fun t hf y => ?_
  obtain ⟨y0, y1, r, e, rfl⟩ : ∃ (y0 y1 : Fin 1) (r : Fin 256) (e : Fin 64), y = ix4 (n0 := 1) (n1 := 1) (n2 := 256) (n3 := 64) y0 y1 r e :=
    ⟨_, _, _, _, eq_ix4 y⟩
  obtain rfl : y0 = 0 := Subsingleton.elim _ _
  obtain rfl : y1 = 0 := Subsingleton.elim _ _
  have h := keys_window m c t kg (grp2 t) (fun r l => X (seq t) r (kcol l)) rfl (k_block m c X hX t) (kg_block m c kg hkg t) r e
  refine Eq.trans ?_ (h.trans (congrArg _ (keysAt_of X kg _ (seq t) (grp2 t) r e ?_ ?_ ?_ ?_).symm))
  all_goals blk_simp [idx t]
  all_goals rfl

include hX in
theorem vals_array : (dats m 0 c).arrAt 7 cfg0.N = fun i => (valsAt X i : EReal) := by
  refine (dats m 0 c).arrAt_eq_of_covers 7 _ (by decide +kernel) fun t hf y => ?_
  obtain ⟨y0, y1, r, e, rfl⟩ : ∃ (y0 y1 : Fin 1) (r : Fin 256) (e : Fin 64), y = ix4 (n0 := 1) (n1 := 1) (n2 := 256) (n3 := 64) y0 y1 r e :=
    ⟨_, _, _, _, eq_ix4 y⟩
  obtain rfl : y0 = 0 := Subsingleton.elim _ _
  obtain rfl : y1 = 0 := Subsingleton.elim _ _
  have h := vals_window m c t (grp2 t) (fun r l => X (seq t) r (vcol l)) rfl (v_block m c X hX t) r e
  refine Eq.trans ?_ (h.trans (congrArg _ (valsAt_of X _ (seq t) (grp2 t) r e ?_ ?_ ?_ ?_).symm))
  all_goals blk_simp [idx t]
  all_goals rfl

include hX hqg hkg in
theorem attn_array : (dats m 0 c).arrAt 5 cfg0.N = fun i => (attnAt X qg kg i : EReal) := by
  refine (dats m 0 c).arrAt_eq_of_covers 5 _ (by decide +kernel) fun t hf y => ?_
  obtain ⟨y0, r, z, rfl⟩ : ∃ (y0 : Fin 1) (r : Fin 256) (z : Fin 256), y = ix3 (n0 := 1) (n1 := 256) (n2 := 256) y0 r z :=
    ⟨_, _, _, eq_ix3 y⟩
  obtain rfl : y0 = 0 := Subsingleton.elim _ _
  obtain ⟨p, l, rfl⟩ : ∃ (p : Fin 2) (l : Fin 128), z = ⟨128 * p.val + l.val, by omega⟩ :=
    ⟨⟨z.val / 128, by omega⟩, ⟨z.val % 128, by omega⟩, Fin.ext (by show z.val = 128 * (z.val / 128) + z.val % 128; omega)⟩
  have h := attn_window m c t qg kg (grp2 t) (fun p r l => X (seq t) r (qcol ⟨2 * (grp2 t).val + p.val, by omega⟩ l))
    (fun r l => X (seq t) r (kcol l)) (fun r l => X (seq t) r (vcol l)) rfl (q_block m c X hX t) (k_block m c X hX t)
    (v_block m c X hX t) (qg_block m c qg hqg t) (kg_block m c kg hkg t) p r l
  have e : grp ⟨2 * (grp2 t).val + p.val, by omega⟩ = grp2 t := Fin.ext (by show (2 * (grp2 t).val + p.val) / 2 = (grp2 t).val; omega)
  refine Eq.trans ?_ (h.trans (congrArg _ (Eq.trans ?_
    (attnAt_of X qg kg _ (seq t) ⟨2 * (grp2 t).val + p.val, by omega⟩ r l ?_ ?_ ?_).symm)))
  case refine_2 => unfold attn; rw [e]; rfl
  all_goals blk_simp [idx t]
  · rfl
  · show (grid0.coords t 1).val * 256 + (128 * p.val + l.val) = 128 * (2 * (grid0.coords t 1).val + p.val) + l.val
    omega

end Cert.AttnIdeal.Hand
end
-- ==== Proof.AttnRefVal.lean ====
/- What the plainly written attention computes, from arrays of real numbers: the same normalised keys, the same values and the
   same softmax averages as the specification. -/
module

public import proofs.«01_k».proof.Proof.Gen.AttnRefIdeal.Read
public import proofs.«01_k».proof.Proof.AttnSpec
public import Idealize.ShloMosaic.Lib.Pipeline.ValueKit

@[expose] public section

set_option maxRecDepth 16384

noncomputable section

namespace Cert.AttnRefIdeal.Hand

open Cert.AttnRefIdeal Cert.AttnRefIdeal.Gen Cert.AttnRefIdeal.Read Cert.Maths Idealize.ShloMosaic Idealize.ShloMosaic.TcCoe

/-- The reciprocal root mean square of 64 lanes, as the reference writes it. -/
theorem rms_read (x : Fin 64 → ℝ) (Y : Fin 64 → EReal) (hY : ∀ e, Y e = (x e : EReal)) :
    Ideal.rsqrt (Ideal.div (∑ e, Y e * Y e) (Ideal.ofBits FTy.f32 0x42800000#32) + Ideal.ofBits FTy.f32 0x358637BD#32) = (rms x : EReal) := by
  simp only [hY, ← EReal.coe_mul]
  rw [coe_sum, ofBits_64, ofBits_eps, div_coe_coe _ (by norm_num), ← EReal.coe_add]
  exact rsqrt_coe (by have h := rms_arg_pos x; norm_num at h; exact h)

variable (x0 : FVec Ideal S16x256x768 .f32) (x1 x2 : FVec Ideal S1x64 .f32)
variable (X : Fin 16 → Fin 256 → Fin 768 → ℝ) (qg kg : Fin 64 → ℝ)
  (hX : ∀ b r l, x0 (ix3 (n0 := 16) (n1 := 256) (n2 := 768) b r l) = (X b r l : EReal))
  (hqg : ∀ e, x1 (ix2 (n0 := 1) (n1 := 64) 0 e) = (qg e : EReal)) (hkg : ∀ e, x2 (ix2 (n0 := 1) (n1 := 64) 0 e) = (kg e : EReal))

include hX hkg in
theorem keys_read (b : Fin 16) (g : Fin 2) (r : Fin 256) (e : Fin 64) :
    val_main_v34 (F := Ideal) x0 x2 (ix4 (n0 := 16) (n1 := 2) (n2 := 256) (n3 := 64) b g r e) = (keys X kg b g r e : EReal) := by
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v1,
    val_main_cst_2, val_main_cst_3, val_main_cst_4]
  have hl : ∀ e : Fin 64, (⟨512 + (g.val * 64 + e.val), by omega⟩ : Fin 768) = kcol (lane g e) := fun e =>
    Fin.ext (by show 512 + (g.val * 64 + e.val) = 512 + (64 * g.val + e.val); omega)
  simp only [hl]
  rw [rms_read (fun e => X b r (kcol (lane g e))) _ (fun e => hX b r _), hX, hkg, ← EReal.coe_mul, ← EReal.coe_mul]
  unfold keys normed half
  rw [hf_lane, pl_lane]

include hX in
theorem vals_read (b : Fin 16) (g : Fin 2) (r : Fin 256) (e : Fin 64) :
    val_main_v36 (F := Ideal) x0 (ix4 (n0 := 16) (n1 := 2) (n2 := 256) (n3 := 64) b g r e) = (vals X b g r e : EReal) := by
  pointwise [val_main_v36, val_main_v35, val_main_v2]
  rw [hX]
  unfold vals
  congr 2
  exact Fin.ext (by show 640 + (g.val * 64 + e.val) = 640 + (64 * g.val + e.val); omega)

include hX hqg in
/-- The normalised queries: head `2P + h` is half `h` of the `P`-th pair. -/
theorem queries_read (b : Fin 16) (P : Fin 4) (h : Fin 2) (r : Fin 256) (e : Fin 64) :
    val_main_v18 (F := Ideal) x0 x1 (ix4 (n0 := 16) (n1 := 8) (n2 := 256) (n3 := 64) b ⟨2 * P.val + h.val, by omega⟩ r e)
      = (normed (fun k => X b r (qcol P k)) qg (lane h e) : EReal) := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v0, val_main_cst,
    val_main_cst_0, val_main_cst_1]
  have hl : ∀ e : Fin 64, (⟨(2 * P.val + h.val) * 64 + e.val, by omega⟩ : Fin 768) = qcol P (lane h e) := fun e =>
    Fin.ext (by show (2 * P.val + h.val) * 64 + e.val = 128 * P.val + (64 * h.val + e.val); omega)
  simp only [hl]
  rw [rms_read (fun e => X b r (qcol P (lane h e))) _ (fun e => hX b r _), hX, hqg, ← EReal.coe_mul, ← EReal.coe_mul]
  unfold normed half
  rw [hf_lane, pl_lane]

/-- The scores of one head of queries against its group's keys. -/
def score (b : Fin 16) (P : Fin 4) (h : Fin 2) : Fin 256 → Fin 256 → ℝ :=
  scores (queries X qg b P) (fun j k => keys X kg b (grp P) j (pl k)) h

include hX hqg hkg in
theorem scores_read (b : Fin 16) (P : Fin 4) (h : Fin 2) (g : Fin 2) (hh : Fin 4) (hg : 4 * g.val + hh.val = 2 * P.val + h.val) (r j : Fin 256) :
    val_main_v40 (F := Ideal) x0 x1 x2 (ix5 (n0 := 16) (n1 := 2) (n2 := 4) (n3 := 256) (n4 := 256) b g hh r j)
      = (score X qg kg b P h r j : EReal) := by
  pointwise [val_main_v40, val_main_v39, val_main_v38, val_main_v37, val_main_cst_5]
  have e8 : (⟨g.val * 4 + hh.val, by omega⟩ : Fin 8) = ⟨2 * P.val + h.val, by omega⟩ := Fin.ext (by show g.val * 4 + hh.val = 2 * P.val + h.val; omega)
  have eg : grp P = g := Fin.ext (by show P.val / 2 = g.val; omega)
  simp only [e8, queries_read x0 x1 X qg hX hqg, keys_read x0 x2 X kg hX hkg, ← EReal.coe_mul]
  rw [coe_sum, ofBits_eighth, ← EReal.coe_mul, Finset.sum_mul]
  unfold score scores queries
  simp only [pl_lane, eg]
  congr 1
  exact Finset.sum_congr rfl fun e _ => by ring

/-- A maximum over the last axis. -/
theorem max_read (y : FVec Ideal S16x2x4x256x256 .f32) (b : Fin 16) (g : Fin 2) (h : Fin 4) (r : Fin 256) :
    Host.reduce (FloatOps.maximumf (F := Ideal) (φ := .f32)) y (val_main_cst_6 (F := Ideal)) reducesTo_S16x2x4x256x256_S16x2x4x256_d4 h_S_
        (ix4 (n0 := 16) (n1 := 2) (n2 := 4) (n3 := 256) b g h r)
      = Finset.fold max (Ideal.ofBits FTy.f32 0xFF800000#32) (fun j => y (ix5 b g h r j)) Finset.univ := by
  pointwise [val_main_cst_6]

include hX hqg hkg in
/-- The number subtracted from a row of scores is a real number. -/
theorem shift_read (b : Fin 16) (P : Fin 4) (h : Fin 2) (g : Fin 2) (hh : Fin 4) (hg : 4 * g.val + hh.val = 2 * P.val + h.val) (r : Fin 256) :
    ∃ μ : ℝ, val_main_v43 (F := Ideal) x0 x1 x2 (ix4 (n0 := 16) (n1 := 2) (n2 := 4) (n3 := 256) b g hh r) = (μ : EReal) := by
  have e := scores_read x0 x1 x2 X qg kg hX hqg hkg b P h g hh hg r
  rw [val_main_v43_apply, val_main_v42_apply, val_main_cst_7_apply]
  unfold val_main_v41
  generalize val_main_v40 (F := Ideal) x0 x1 x2 = y at e ⊢
  rw [max_read]
  simp only [e, ofBits_neg_inf]
  obtain ⟨μ, hμ⟩ := fold_max_real (score X qg kg b P h r)
  refine ⟨μ, ?_⟩
  rw [hμ]
  show max (Ideal.ofBits FTy.f32 0xFF800000#32) (μ : EReal) = (μ : EReal)
  rw [ofBits_neg_inf]
  exact max_eq_right bot_le

include hX hqg hkg in
theorem attn_read (i : S16x256x512.Idx) : val_main_v56 (F := Ideal) x0 x1 x2 i = (attnAt X qg kg i : EReal) := by
  obtain ⟨b, r, l, rfl⟩ : ∃ (b : Fin 16) (r : Fin 256) (l : Fin 512), i = ix3 (n0 := 16) (n1 := 256) (n2 := 512) b r l := ⟨_, _, _, eq_ix3 i⟩
  rw [attnAt_of X qg kg _ b ⟨l.val / 128, by omega⟩ r ⟨l.val % 128, by omega⟩ rfl rfl (by show l.val = 128 * (l.val / 128) + l.val % 128; omega)]
  have hl : 4 * (⟨l.val / 64 / 4, by omega⟩ : Fin 2).val + (⟨l.val / 64 % 4, by omega⟩ : Fin 4).val
      = 2 * (⟨l.val / 128, by omega⟩ : Fin 4).val + (hf ⟨l.val % 128, by omega⟩).val := by
    show 4 * (l.val / 64 / 4) + l.val / 64 % 4 = 2 * (l.val / 128) + l.val % 128 / 64
    omega
  have hs := scores_read x0 x1 x2 X qg kg hX hqg hkg b _ _ _ _ hl r
  have hm := shift_read x0 x1 x2 X qg kg hX hqg hkg b _ _ _ _ hl r
  pointwise [val_main_v56, val_main_v55, val_main_v54, val_main_v53, val_main_v52, val_main_v51, val_main_v50, val_main_v49,
    val_main_v48, val_main_v47, val_main_v46, val_main_v45, val_main_v44, val_main_cst_8]
  simp only [hs, vals_read x0 X hX]
  rw [soft_early _ _ _ hm]
  unfold attn score
  have eg : grp ⟨l.val / 128, by omega⟩ = ⟨l.val / 64 / 4, by omega⟩ := Fin.ext (by show l.val / 128 / 2 = l.val / 64 / 4; omega)
  have ep : pl ⟨l.val % 128, by omega⟩ = ⟨l.val % 64, by omega⟩ := Fin.ext (by show l.val % 128 % 64 = l.val % 64; omega)
  rw [eg, ep]

end Cert.AttnRefIdeal.Hand
end
-- ==== Proof.AttnClaim.lean ====
/- The attention's kernel and its reference end with equal results: on finite arguments both compute the specification. -/
module

public import proofs.«01_k».proof.Defs
public import proofs.«01_k».proof.Proof.AttnArr
public import proofs.«01_k».proof.Proof.AttnRefVal
public import proofs.«01_k».proof.Proof.Gen.Pre_finite

@[expose] public section

set_option maxRecDepth 16384

noncomputable section

namespace Cert.Hand

open Cert.Maths Idealize.ShloMosaic Idealize.ShloMosaic.TcCoe Idealize.SL.Sem

/-- A number whose absolute value is below the largest infinity is a real number. -/
theorem real_of_bound (x : EReal) (h : Ideal.cmp CmpFPredicate.olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  induction x with
  | bot => exact absurd h (by simp [Ideal.cmp])
  | coe r => exact ⟨r, rfl⟩
  | top => exact absurd h (by simp [Ideal.cmp])

theorem reals_of_bound {s : Shape} (x : FVec Ideal s .f32) (B : FVec Ideal s .f32) (hB : ∀ i, B i = Ideal.ofBits .f32 0x7F800000#32)
    (h : cmpf CmpFPredicate.olt (Host.absf x) B = fun _ => 1#1) : ∃ X : s.Idx → ℝ, ∀ i, x i = (X i : EReal) := by
  refine ⟨fun i => (real_of_bound (x i) ?_).choose, fun i => (real_of_bound (x i) ?_).choose_spec⟩
  all_goals
    have e := congrFun h i
    rw [← hB i]
    exact e

/-- The precondition gives arrays of real numbers. -/
theorem args_real (m : (ℓ : Loc Cert.AttnIdeal.nD Cert.AttnIdeal.τ Cert.AttnIdeal.sig) → Buf (Elt Ideal) ℓ)
    (h : Cert.Pre_AttnIdeal_finite (hPre_finite := Cert.Pre_finite.Gen.facts) m) (c : Dev Cert.AttnIdeal.nD) :
    ∃ (X : Fin 16 → Fin 256 → Fin 768 → ℝ) (qg kg : Fin 64 → ℝ),
      (∀ b r l, m ((c.tc : Thread Cert.AttnIdeal.nD Cert.AttnIdeal.τ).loc Cert.AttnIdeal.main_arg0) (ix3 (n0 := 16) (n1 := 256) (n2 := 768) b r l) = (X b r l : EReal))
      ∧ (∀ e, m ((c.tc : Thread Cert.AttnIdeal.nD Cert.AttnIdeal.τ).loc Cert.AttnIdeal.main_arg1) (ix2 (n0 := 1) (n1 := 64) 0 e) = (qg e : EReal))
      ∧ (∀ e, m ((c.tc : Thread Cert.AttnIdeal.nD Cert.AttnIdeal.τ).loc Cert.AttnIdeal.main_arg2) (ix2 (n0 := 1) (n1 := 64) 0 e) = (kg e : EReal)) := by
  obtain ⟨h0, h1, h2⟩ := h c
  obtain ⟨X, hX⟩ := reals_of_bound _ _ (fun i => rfl) h0
  obtain ⟨q, hq⟩ := reals_of_bound _ _ (fun i => rfl) h1
  obtain ⟨k, hk⟩ := reals_of_bound _ _ (fun i => rfl) h2
  exact ⟨fun b r l => X (ix3 b r l), fun e => q (ix2 0 e), fun e => k (ix2 0 e), fun b r l => hX _, fun e => hq _, fun e => hk _⟩

theorem keys_ref (x0 : FVec Ideal Cert.AttnRefIdeal.S16x256x768 .f32) (x2 : FVec Ideal Cert.AttnRefIdeal.S1x64 .f32)
    (X : Fin 16 → Fin 256 → Fin 768 → ℝ) (kg : Fin 64 → ℝ)
    (hX : ∀ b r l, x0 (ix3 (n0 := 16) (n1 := 256) (n2 := 768) b r l) = (X b r l : EReal))
    (hkg : ∀ e, x2 (ix2 (n0 := 1) (n1 := 64) 0 e) = (kg e : EReal)) :
    Cert.AttnRefIdeal.Read.val_main_v34 (F := Ideal) x0 x2 = fun i => (keysAt X kg i : EReal) := by
  funext i
  obtain ⟨b, g, r, e, rfl⟩ : ∃ (b : Fin 16) (g : Fin 2) (r : Fin 256) (e : Fin 64), i = ix4 (n0 := 16) (n1 := 2) (n2 := 256) (n3 := 64) b g r e :=
    ⟨_, _, _, _, eq_ix4 i⟩
  rw [keysAt_of X kg _ b g r e rfl rfl rfl rfl]
  exact Cert.AttnRefIdeal.Hand.keys_read x0 x2 X kg hX hkg b g r e

theorem vals_ref (x0 : FVec Ideal Cert.AttnRefIdeal.S16x256x768 .f32) (X : Fin 16 → Fin 256 → Fin 768 → ℝ)
    (hX : ∀ b r l, x0 (ix3 (n0 := 16) (n1 := 256) (n2 := 768) b r l) = (X b r l : EReal)) :
    Cert.AttnRefIdeal.Read.val_main_v36 (F := Ideal) x0 = fun i => (valsAt X i : EReal) := by
  funext i
  obtain ⟨b, g, r, e, rfl⟩ : ∃ (b : Fin 16) (g : Fin 2) (r : Fin 256) (e : Fin 64), i = ix4 (n0 := 16) (n1 := 2) (n2 := 256) (n3 := 64) b g r e :=
    ⟨_, _, _, _, eq_ix4 i⟩
  rw [valsAt_of X _ b g r e rfl rfl rfl rfl]
  exact Cert.AttnRefIdeal.Hand.vals_read x0 X hX b g r e

theorem attn_algebraic : Cert.algebraic_AttnIdeal_AttnRefIdeal_pre_finite (hAttnIdeal := Cert.AttnIdeal.Gen.facts)
    (hAttnRefIdeal := Cert.AttnRefIdeal.Gen.facts) (hPre_finite := Cert.Pre_finite.Gen.facts) := by
  intro m g m' g' hpre hag
  choose X qg kg hX hqg hkg using args_real m hpre
  refine ⟨fun c => fun i => (attnAt (X c) (qg c) (kg c) i : EReal), fun c => fun i => (keysAt (X c) (kg c) i : EReal),
    fun c => fun i => (valsAt (X c) i : EReal), ?_, ?_⟩
  · refine (θ_run _ _ _).mono (fun r h c => ?_) (Cert.AttnIdeal.Value.run_blocks m g)
    obtain ⟨h0, h1, h2, ha⟩ := h c
    exact ⟨h0.trans (Cert.AttnIdeal.Hand.attn_array m c (X c) (qg c) (kg c) (hX c) (hqg c) (hkg c)),
      h1.trans (Cert.AttnIdeal.Hand.keys_array m c (X c) (kg c) (hX c) (hkg c)),
      h2.trans (Cert.AttnIdeal.Hand.vals_array m c (X c) (hX c)), ha⟩
  · refine (θ_run _ _ _).mono (fun r h c => ?_) (Cert.AttnRefIdeal.Value.run m' g')
    obtain ⟨h0, h1, h2, ha⟩ := h c
    obtain ⟨a0, a1, a2⟩ := hag c
    refine ⟨h0.trans ?_, h1.trans ?_, h2.trans ?_, ha⟩
    · rw [Cert.AttnRefIdeal.Read.val_main_v56_eq, a0, a1, a2]
      exact funext fun i => Cert.AttnRefIdeal.Hand.attn_read _ _ _ (X c) (qg c) (kg c) (hX c) (hqg c) (hkg c) i
    · rw [a0, a2]
      exact keys_ref _ _ (X c) (kg c) (hX c) (hkg c)
    · rw [a0]
      exact vals_ref _ (X c) (hX c)

end Cert.Hand
end
-- ==== Proof.Rows.lean ====
/- The mathematics of one row of 1024 channels, over the extended reals: division by the root mean square, scale and shift, the
   logistic gate; and a two-dimensional array given by a function of its row and its column. -/
module

public import Idealize.ShloMosaic.Lib.Pointwise
public import Idealize.ShloMosaic.Lib.Pipeline.ValueKit

@[expose] public section

noncomputable section

namespace Cert.Rows

open Idealize.ShloMosaic

/-- A row divided by its root mean square. -/
def rmsRow (x : Fin 1024 → EReal) (l : Fin 1024) : EReal :=
  x l * Ideal.rsqrt (Ideal.div (∑ k, x k * x k) (Ideal.ofBits FTy.f32 0x44800000#32) + Ideal.ofBits FTy.f32 0x358637BD#32)

/-- The normalised row under a gain, scaled and shifted. -/
def modRow (x g scale shift : Fin 1024 → EReal) (l : Fin 1024) : EReal := rmsRow x l * g l * (1 + scale l) + shift l

/-- The logistic function. -/
def gate (z : EReal) : EReal := Ideal.div 1 (1 + Ideal.exp (-z))

/-- The sequence of 1024 positions a row lies in. -/
def seqOf (R : Fin 4096) : Fin 4 := ⟨R.val / 1024, by omega⟩

/-- The row of a position. -/
def rowOf (b : Fin 4) (r : Fin 1024) : Fin 4096 := ⟨b.val * 1024 + r.val, by omega⟩

theorem seqOf_rowOf (b : Fin 4) (r : Fin 1024) : seqOf (rowOf b r) = b :=
  Fin.ext (by show (b.val * 1024 + r.val) / 1024 = b.val; omega)

theorem row_split (R : Fin 4096) : R = rowOf (seqOf R) ⟨R.val % 1024, Nat.mod_lt _ (by decide)⟩ :=
  Fin.ext (by show R.val = R.val / 1024 * 1024 + R.val % 1024; omega)

theorem dot_congr {n : Nat} (a a' b b' : Fin n → EReal) (h : ∀ k, a k = a' k) (h' : ∀ k, b k = b' k) :
    (∑ k, a k * b k) = ∑ k, a' k * b' k := Finset.sum_congr rfl fun k _ => congrArg₂ _ (h k) (h' k)

/-- Where a load of one row of a sequence's modulation reads. -/
theorem ld3 (n : Fin 6) (i) (k : Fin 1024) : (Rect.unit (s := ⟨3, ![1, 6, 1024]⟩) ![0, n.val, 0] (⟨3, ![1, 1, 1024]⟩ : Shape).size i).emb (ix3 (n0 := 1) (n1 := 1) (n2 := 1024) 0 0 k)
    = ix3 (n0 := 1) (n1 := 6) (n2 := 1024) 0 n k := by
  funext a; apply Fin.ext; fin_cases a <;> simp <;> rfl

/-- The array whose entry at a row and a column is `f` of them. -/
def arr2 {n0 n1 : Nat} (f : Fin n0 → Fin n1 → EReal) (i : (⟨2, ![n0, n1]⟩ : Shape).Idx) : EReal := f (i 0) (i 1)

theorem arr2_of {n0 n1 : Nat} (f : Fin n0 → Fin n1 → EReal) (i : (⟨2, ![n0, n1]⟩ : Shape).Idx) (a : Fin n0) (b : Fin n1)
    (h0 : (i 0).val = a.val) (h1 : (i 1).val = b.val) : arr2 f i = f a b := by
  unfold arr2
  congr 1 <;> apply Fin.ext <;> assumption

end Cert.Rows
end
-- ==== Proof.FfnPay.lean ====
/- The operations of the feed-forward's body at an index: the two up-projections, the convolution over three rows with its gate,
   and the product with the down weights that is added to what was accumulated. -/
module

public import proofs.«01_k».proof.Proof.Gen.FfnIdeal.Value
public import proofs.«01_k».proof.Proof.Rows
public import Idealize.ShloMosaic.Lib.Pipeline.ReadBack

@[expose] public section

set_option maxRecDepth 16384

noncomputable section

namespace Cert.Rows

open Idealize.ShloMosaic

/-- The row before, and the row after, of a sequence of rows; outside of it, zero. -/
def before {n : ℕ} (U : Fin n → EReal) (R : Fin n) : EReal := if h : 0 < R.val then U ⟨R.val - 1, by omega⟩ else 0
def behind {n : ℕ} (U : Fin n → EReal) (R : Fin n) : EReal := if h : R.val + 1 < n then U ⟨R.val + 1, h⟩ else 0

/-- Three weighted terms; the gated product of two values; the activation of one column at a row. -/
def taps (p c n : EReal) (w : Fin 3 → EReal) : EReal := p * w 0 + c * w 1 + n * w 2
def swish (g u : EReal) : EReal := g * gate g * u
def conv {n : ℕ} (U : Fin n → EReal) (w : Fin 3 → EReal) (R : Fin n) : EReal := taps (before U R) (U R) (behind U R) w

end Cert.Rows

namespace Cert.FfnIdeal.Hand

open Cert.FfnIdeal Cert.FfnIdeal.Gen Cert.Rows Idealize.ShloMosaic Idealize.ShloMosaic.TcCoe

/-! ## Up-projections -/

section
variable (h : Vec Ideal S256x1024 .bf16) (w : Vec Ideal S1024x256 .bf16) (r k : Fin 256)

theorem up10 : k0_pay10 h w (ix2 (n0 := 256) (n1 := 256) r k) = ∑ d : Fin 1024, h (ix2 r d) * w (ix2 d k) := by pointwise [k0_pay10]
theorem up11 : k0_pay11 h w (ix2 (n0 := 256) (n1 := 256) r k) = ∑ d : Fin 1024, h (ix2 r d) * w (ix2 d k) := by pointwise [k0_pay11]
theorem up12 : k0_pay12 h w (ix2 (n0 := 256) (n1 := 256) r k) = ∑ d : Fin 1024, h (ix2 r d) * w (ix2 d k) := by pointwise [k0_pay12]
theorem up13 : k0_pay13 h w (ix2 (n0 := 256) (n1 := 256) r k) = ∑ d : Fin 1024, h (ix2 r d) * w (ix2 d k) := by pointwise [k0_pay13]
theorem up16 : k0_pay16 h w (ix2 (n0 := 256) (n1 := 256) r k) = ∑ d : Fin 1024, h (ix2 r d) * w (ix2 d k) := by pointwise [k0_pay16]
theorem up17 : k0_pay17 h w (ix2 (n0 := 256) (n1 := 256) r k) = ∑ d : Fin 1024, h (ix2 r d) * w (ix2 d k) := by pointwise [k0_pay17]
theorem up22 : k0_pay22 h w (ix2 (n0 := 256) (n1 := 256) r k) = ∑ d : Fin 1024, h (ix2 r d) * w (ix2 d k) := by pointwise [k0_pay22]
theorem up23 : k0_pay23 h w (ix2 (n0 := 256) (n1 := 256) r k) = ∑ d : Fin 1024, h (ix2 r d) * w (ix2 d k) := by pointwise [k0_pay23]
end

/-! ## The mask of one row among eight -/

theorem mask (n c : ℕ) (hn : n < 8) (hc : c < 8) (x y : EReal) :
    Scalar.select (IntOp.cmpi CmpIPredicate.eq (BitVec.ofNat 32 n) (BitVec.ofNat 32 c)) x y = if n = c then x else y := by
  interval_cases n <;> interval_cases c <;> rfl

/-- A block of 256 rows with its first row put to zero, as the body writes it. -/
theorem first_row (p : Fin 256 → EReal) (r : Fin 256) : (if h : r.val < 8 then
    Scalar.select (IntOp.cmpi CmpIPredicate.eq (BitVec.ofNat 32 r.val) 0#32) 0 (p r) else p ⟨8 + (r.val - 8), by omega⟩)
      = if r.val = 0 then 0 else p r := by
  split
  · next h => exact mask r.val 0 h (by decide) 0 (p r)
  · next h => rw [if_neg (by omega)]; exact congrArg p (Fin.ext (by show 8 + (r.val - 8) = r.val; omega))

/-- A block of 256 rows with its last row put to zero. -/
theorem last_row (p : Fin 256 → EReal) (r : Fin 256) : (if h : r.val < 248 then p r else
    Scalar.select (IntOp.cmpi CmpIPredicate.eq (BitVec.ofNat 32 (r.val - 248)) 7#32) 0 (p ⟨248 + (r.val - 248), by omega⟩))
      = if r.val = 255 then 0 else p r := by
  split
  · next h => rw [if_neg (by omega)]
  · next h =>
    rw [show (⟨248 + (r.val - 248), by omega⟩ : Fin 256) = r from Fin.ext (by show 248 + (r.val - 248) = r.val; omega)]
    refine (mask (r.val - 248) 7 (by omega) (by decide) 0 (p r)).trans ?_
    by_cases h' : r.val = 255
    · rw [if_pos h', if_pos (by omega)]
    · rw [if_neg h', if_neg (by omega)]

/-! ## One block of 256 rows -/

section
variable (u0 u1 u2 g0 g1 g2 : Vec Ideal S1x256 .f32) (cu pu nu cg pg ng : Vec Ideal S256x256 .f32) (acc : Vec Ideal S256x1024 .f32)
  (wd : Vec Ideal S256x1024 .bf16)

/-- What the block adds at row `r` and column `l`, `P` and `N` the rows before and after as the body takes them. -/
def part (Pu Nu Pg Ng : Fin 256 → EReal) (r : Fin 256) (l : Fin 1024) : EReal :=
  ∑ k : Fin 256, swish (taps (Pg k) (cg (ix2 (n0 := 256) (n1 := 256) r k)) (Ng k) ![g0 (ix2 (n0 := 1) (n1 := 256) 0 k), g1 (ix2 (n0 := 1) (n1 := 256) 0 k), g2 (ix2 (n0 := 1) (n1 := 256) 0 k)])
    (taps (Pu k) (cu (ix2 (n0 := 256) (n1 := 256) r k)) (Nu k) ![u0 (ix2 (n0 := 1) (n1 := 256) 0 k), u1 (ix2 (n0 := 1) (n1 := 256) 0 k), u2 (ix2 (n0 := 1) (n1 := 256) 0 k)])
    * wd (ix2 (n0 := 256) (n1 := 1024) k l)

theorem block_first (r : Fin 256) (l : Fin 1024) :
    k0_pay18 (k0_pay15 k0_pay8 g0 g1 g2 (k0_pay14 k0_pay8 u0 u1 u2 cu pu nu) cg pg ng) acc wd (ix2 (n0 := 256) (n1 := 1024) r l)
      = acc (ix2 r l) + part u0 u1 u2 g0 g1 g2 cu cg wd (fun k => if r.val = 0 then 0 else pu (ix2 r k)) (fun k => nu (ix2 r k))
          (fun k => if r.val = 0 then 0 else pg (ix2 r k)) (fun k => ng (ix2 r k)) r l := by
  pointwise [k0_pay18, k0_pay15, k0_pay14, k0_pay8]
  refine congrArg (acc (ix2 r l) + ·) (Finset.sum_congr rfl fun k _ => ?_)
  rw [first_row (fun r => pu (ix2 r k)) r, first_row (fun r => pg (ix2 r k)) r, zero_sub]
  rfl

theorem block_mid (r : Fin 256) (l : Fin 1024) :
    k0_pay24 (k0_pay19 u0 u1 u2 cu pu nu) (k0_pay20 g0 g1 g2 cg pg ng) (k0_pay21 g0 g1 g2 cg pg ng) acc wd (ix2 (n0 := 256) (n1 := 1024) r l)
      = acc (ix2 r l) + part u0 u1 u2 g0 g1 g2 cu cg wd (fun k => pu (ix2 r k)) (fun k => nu (ix2 r k))
          (fun k => pg (ix2 r k)) (fun k => ng (ix2 r k)) r l := by
  pointwise [k0_pay24, k0_pay19, k0_pay20, k0_pay21]
  refine congrArg (acc (ix2 r l) + ·) (Finset.sum_congr rfl fun k _ => ?_)
  rw [zero_sub]
  rfl

theorem block_mid' (r : Fin 256) (l : Fin 1024) :
    k0_pay26 g0 g1 g2 (k0_pay25 u0 u1 u2 cu pu nu) cg pg ng acc wd (ix2 (n0 := 256) (n1 := 1024) r l)
      = acc (ix2 r l) + part u0 u1 u2 g0 g1 g2 cu cg wd (fun k => pu (ix2 r k)) (fun k => nu (ix2 r k))
          (fun k => pg (ix2 r k)) (fun k => ng (ix2 r k)) r l := by
  pointwise [k0_pay26, k0_pay25]
  refine congrArg (acc (ix2 r l) + ·) (Finset.sum_congr rfl fun k _ => ?_)
  rw [zero_sub]
  rfl

theorem block_last (r : Fin 256) (l : Fin 1024) :
    k0_pay1 (k0_pay31 k0_pay9 u0 u1 u2 g0 g1 g2 cu pu (k0_pay27 nu) (k0_pay28 nu) (k0_pay29 k0_pay9) k0_pay30 cg pg ng acc wd)
        (ix2 (n0 := 256) (n1 := 1024) r l)
      = acc (ix2 r l) + part u0 u1 u2 g0 g1 g2 cu cg wd (fun k => pu (ix2 r k)) (fun k => if r.val = 255 then 0 else nu (ix2 r k))
          (fun k => pg (ix2 r k)) (fun k => if r.val = 255 then 0 else ng (ix2 r k)) r l := by
  pointwise [k0_pay1, k0_pay31, k0_pay9, k0_pay27, k0_pay28, k0_pay29, k0_pay30]
  refine congrArg (acc (ix2 r l) + ·) (Finset.sum_congr rfl fun k _ => ?_)
  rw [last_row (fun r => nu (ix2 r k)) r, last_row (fun r => ng (ix2 r k)) r, zero_sub]
  rfl
end

/-- The last point's closing: residual, norm and gain. -/
theorem close_apply (x : Vec Ideal S1024x1024 .f32) (gt : Vec Ideal S1x1x1024 .f32) (A : Vec Ideal S1024x1024 .f32) (g : Vec Ideal S1x1024 .f32)
    (r l : Fin 1024) : k0_pay2 x gt A g (ix2 (n0 := 1024) (n1 := 1024) r l)
      = rmsRow (fun l => x (ix2 r l) + gt (ix3 0 0 l) * A (ix2 r l)) l * g (ix2 0 l) := by
  pointwise [k0_pay2]
  rfl

end Cert.FfnIdeal.Hand
end
-- ==== Proof.FfnScratch.lean ====
/- What the feed-forward's scratches hold.  The up-projected rows lie from row 8 on, a block of 256 rows after another; a read of
   256 rows, at whatever offset, gives the projected rows wherever blocks already stored hold them. -/
module

public import proofs.«01_k».proof.Proof.FfnPay

@[expose] public section

set_option maxRecDepth 16384

noncomputable section

namespace Cert.FfnIdeal.Hand

open Cert.FfnIdeal Cert.FfnIdeal.Gen Cert.Rows Idealize.ShloMosaic Idealize.ShloMosaic.TcCoe

section
variable {sig : RefSig} {κ : Kind} {sp : Space} (v : View sig κ sp S1040x256 .f32) (U : Fin 1024 → Fin 256 → EReal)

/-- The scratch with its rows at 8 and on, zero elsewhere. -/
def padded (y : S1040x256.Idx) : EReal := if h : 8 ≤ (y 0).val ∧ (y 0).val < 1032 then U ⟨(y 0).val - 8, by omega⟩ (y 1) else 0

theorem padded_row (y : S1040x256.Idx) (R : Fin 1024) (k : Fin 256) (h0 : (y 0).val = R.val + 8) (h1 : y 1 = k) : padded U y = U R k := by
  unfold padded
  rw [dif_pos ⟨by omega, by omega⟩, h1]
  exact congrArg (U · k) (Fin.ext (by show (y 0).val - 8 = R.val; omega))

theorem padded_pad (y : S1040x256.Idx) (h : (y 0).val < 8 ∨ 1032 ≤ (y 0).val) : padded U y = 0 := dif_neg (by omega)

/-- Stores that agree with the padded rows and hold the first `n` blocks. -/
def Good (L : List (View.Piece (Elt Ideal) S1040x256 .f32)) (n : ℕ) : Prop :=
  (∀ p ∈ L, ∀ x : p.1.shape.Idx, p.2 x = padded U (p.1.emb x))
    ∧ ∀ y : S1040x256.Idx, 8 ≤ (y 0).val → (y 0).val < 8 + 256 * n → ∃ p ∈ L, y ∈ p.1.set

theorem good_nil : Good U [] 0 := ⟨fun p hp => absurd hp List.not_mem_nil, fun y h h' => by omega⟩

theorem good_up {L : List (View.Piece (Elt Ideal) S1040x256 .f32)} (n o : ℕ) (ho : o = 8 + 256 * n) (hn : n < 4)
    (i : ∀ a, (![o, 0] : Fin 2 → ℕ) a + (![256, 256] : Fin 2 → ℕ) a ≤ S1040x256.size a) (w : Vec Ideal S256x256 .f32)
    (hw : ∀ r k : Fin 256, w (ix2 r k) = U ⟨256 * n + r.val, by omega⟩ k) (hL : Good U L n) :
    Good U ((⟨Rect.unit ![o, 0] ![256, 256] i, w⟩ : View.Piece (Elt Ideal) S1040x256 .f32) :: L) (n + 1) := by
  subst ho
  refine ⟨fun p hp => ?_, fun y h h' => ?_⟩
  · rcases List.mem_cons.mp hp with rfl | hp
    · intro x
      rw [show x = ix2 (n0 := 256) (n1 := 256) (x 0) (x 1) from eq_ix2 x]
      refine (hw _ _).trans (padded_row U _ _ _ ?_ ?_).symm
      · show 8 + 256 * n + 1 * (x 0).val = 256 * n + (x 0).val + 8
        omega
      · exact Fin.ext (by show 0 + 1 * (x 1).val = (x 1).val; omega)
    · exact hL.1 p hp
  · by_cases hy : (y 0).val < 8 + 256 * n
    · obtain ⟨p, hp, hm⟩ := hL.2 y h hy
      exact ⟨p, List.mem_cons_of_mem _ hp, hm⟩
    · refine ⟨_, List.mem_cons_self, (Rect.mem_set_unit (inb := i)).mpr fun a => ?_⟩
      fin_cases a
      · show 8 + 256 * n ≤ (y 0).val ∧ (y 0).val < 8 + 256 * n + 256
        omega
      · show 0 ≤ (y 1).val ∧ (y 1).val < 0 + 256
        have := (y 1).isLt
        change (y 1).val < 256 at this
        omega

theorem good_pad {L : List (View.Piece (Elt Ideal) S1040x256 .f32)} {n : ℕ} (o : ℕ) (ho : o + 8 ≤ 8 ∨ 1032 ≤ o)
    (i : ∀ a, (![o, 0] : Fin 2 → ℕ) a + (![8, 256] : Fin 2 → ℕ) a ≤ S1040x256.size a) (w : Vec Ideal S8x256 .f32) (hw : ∀ x, w x = 0)
    (hL : Good U L n) : Good U ((⟨Rect.unit ![o, 0] ![8, 256] i, w⟩ : View.Piece (Elt Ideal) S1040x256 .f32) :: L) n := by
  refine ⟨fun p hp => ?_, fun y h h' => ?_⟩
  · rcases List.mem_cons.mp hp with rfl | hp
    · intro x
      refine (hw x).trans (padded_pad U _ ?_).symm
      have hx : (x 0).val < 8 := (x 0).isLt
      show o + 1 * (x 0).val < 8 ∨ 1032 ≤ o + 1 * (x 0).val
      omega
    · exact hL.1 p hp
  · obtain ⟨p, hp, hm⟩ := hL.2 y h h'
    exact ⟨p, List.mem_cons_of_mem _ hp, hm⟩

/-- The rows of zeros around the blocks. -/
theorem good_pads (hi lo : Vec Ideal S8x256 .f32) (h : ∀ x, hi x = 0) (l : ∀ x, lo x = 0) (i i') :
    Good U [⟨Rect.unit ![1032, 0] ![8, 256] i, hi⟩, ⟨Rect.unit ![0, 0] ![8, 256] i', lo⟩] 0 :=
  good_pad U 1032 (by decide) _ _ h (good_pad U 0 (by decide) _ _ l (good_nil U))

variable (o : ℕ) (i : ∀ a, (![o, 0] : Fin 2 → ℕ) a + (![256, 256] : Fin 2 → ℕ) a ≤ S1040x256.size a)

theorem held {L : List (View.Piece (Elt Ideal) S1040x256 .f32)} {n : ℕ} (hL : Good U L n) (r k : Fin 256) (R : Fin 1024)
    (hR : R.val + 8 = o + r.val) (hn : R.val < 256 * n) :
    ∃ p ∈ L, (Rect.unit (s := S1040x256) ![o, 0] ![256, 256] i).toLoadRect.idx (ix2 r k) ∈ p.1.set :=
  hL.2 _ (by show 8 ≤ o + 1 * r.val; omega) (by show o + 1 * r.val < _; omega)

theorem at_row (r k : Fin 256) (R : Fin 1024) (hR : R.val + 8 = o + r.val) :
    padded U ((Rect.unit (s := S1040x256) ![o, 0] ![256, 256] i).toLoadRect.idx (ix2 r k)) = U R k :=
  padded_row U _ R k (by show o + 1 * r.val = _; omega) (Fin.ext (by show 0 + 1 * k.val = k.val; omega))

theorem cov_read {L : List (View.Piece (Elt Ideal) S1040x256 .f32)} {n : ℕ} (hL : Good U L n) (r k : Fin 256) (R : Fin 1024)
    (hR : R.val + 8 = o + r.val) (hn : R.val < 256 * n) :
    v.readCov (Val := Elt Ideal) L (Rect.unit (s := S1040x256) ![o, 0] ![256, 256] i).toLoadRect (ix2 r k) = U R k := by
  rw [View.readCov_eq_canon']
  exact (View.canon_apply_of_pieces (padded U) L hL.1 _ (held U o i hL r k R hR hn)).trans (at_row U o i r k R hR)

theorem raw_read (f : v.ty.Contents (Elt Ideal)) {L : List (View.Piece (Elt Ideal) S1040x256 .f32)} {n : ℕ} (hL : Good U L n)
    (r k : Fin 256) (R : Fin 1024) (hR : R.val + 8 = o + r.val) (hn : R.val < 256 * n) :
    View.ld (View.read (Elt Ideal) v (v.writes (Elt Ideal) f L)) (Rect.unit (s := S1040x256) ![o, 0] ![256, 256] i) (ix2 r k) = U R k :=
  (View.read_writes_apply_of_pieces v f (padded U) L hL.1 _ (held U o i hL r k R hR hn)).trans (at_row U o i r k R hR)

end

/-! ## The row before and the row after, across blocks -/

theorem before_of {n : ℕ} (U : Fin n → EReal) (R R' : Fin n) (h : R'.val + 1 = R.val) : before U R = U R' := by
  unfold before
  rw [dif_pos (by omega)]
  exact congrArg U (Fin.ext (by show R.val - 1 = R'.val; omega))

theorem before_zero {n : ℕ} (U : Fin n → EReal) (R : Fin n) (h : R.val = 0) : before U R = 0 := dif_neg (by omega)

theorem behind_of {n : ℕ} (U : Fin n → EReal) (R R' : Fin n) (h : R'.val = R.val + 1) : behind U R = U R' := by
  unfold behind
  rw [dif_pos (by omega)]
  exact congrArg U (Fin.ext h.symm)

theorem behind_last {n : ℕ} (U : Fin n → EReal) (R : Fin n) (h : R.val + 1 = n) : behind U R = 0 := dif_neg (by omega)

/-! The same rows, where the plain convolution reads a sequence with a row of zeros at either end. -/

theorem pad_zero : (FloatOps.sitofp FTy.f32 (0#32 : BitVec 32) : Ideal .f32) = (0 : EReal) := by
  show ((((0#32 : BitVec 32).toInt : ℝ)) : EReal) = 0
  simp

/-- The zero-padded rows, one place before and one behind. -/

theorem pad_before {n : ℕ} (V : Fin n → EReal) (r : Fin n) :
    (if h : 1 ≤ r.val ∧ r.val - 1 < n then V ⟨r.val - 1, h.2⟩ else (FloatOps.sitofp FTy.f32 (0#32 : BitVec 32) : Ideal .f32)) = before V r := by
  split
  · next h => exact (before_of V r _ (by show r.val - 1 + 1 = r.val; omega)).symm
  · next h => exact pad_zero.trans (before_zero V r (by omega)).symm

theorem pad_behind {n : ℕ} (V : Fin n → EReal) (r : Fin n) :
    (if h : 1 ≤ 2 + r.val ∧ 2 + r.val - 1 < n then V ⟨2 + r.val - 1, h.2⟩ else (FloatOps.sitofp FTy.f32 (0#32 : BitVec 32) : Ideal .f32))
      = behind V r := by
  split
  · next h => exact (behind_of V r _ (by show 2 + r.val - 1 = r.val + 1; omega)).symm
  · next h => exact pad_zero.trans (behind_last V r (by omega)).symm

/-! ## The accumulator: four blocks of rows -/

/-- Where newer stores cover a place, older ones do not matter. -/
theorem canon_covered {S : Shape} {e : EltTy} (T : List (View.Piece (Elt Ideal) S e)) (y : S.Idx) :
    ∀ L : List (View.Piece (Elt Ideal) S e), (∃ p ∈ L, y ∈ p.1.set) → View.canon (Val := Elt Ideal) (L ++ T) y = View.canon (Val := Elt Ideal) L y
  | [], h => by obtain ⟨p, hp, _⟩ := h; exact absurd hp List.not_mem_nil
  | p :: L, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_covered T y L ⟨q, hq, hy⟩

theorem four_blocks (F : Fin 1024 → Fin 1024 → EReal) (p3 p2 p1 p0 : Vec Ideal S256x1024 .f32)
    (i3 : ∀ a, (![768, 0] : Fin 2 → ℕ) a + (![256, 1024] : Fin 2 → ℕ) a ≤ S1024x1024.size a)
    (i2 : ∀ a, (![512, 0] : Fin 2 → ℕ) a + (![256, 1024] : Fin 2 → ℕ) a ≤ S1024x1024.size a)
    (i1 : ∀ a, (![256, 0] : Fin 2 → ℕ) a + (![256, 1024] : Fin 2 → ℕ) a ≤ S1024x1024.size a)
    (i0 : ∀ a, (![0, 0] : Fin 2 → ℕ) a + (![256, 1024] : Fin 2 → ℕ) a ≤ S1024x1024.size a)
    (T L : List (View.Piece (Elt Ideal) S1024x1024 .f32))
    (hL : L = [⟨Rect.unit ![768, 0] ![256, 1024] i3, p3⟩, ⟨Rect.unit ![512, 0] ![256, 1024] i2, p2⟩,
      ⟨Rect.unit ![256, 0] ![256, 1024] i1, p1⟩, ⟨Rect.unit ![0, 0] ![256, 1024] i0, p0⟩])
    (h0 : ∀ (r : Fin 256) (l : Fin 1024), p0 (ix2 r l) = F ⟨256 * 0 + r.val, by omega⟩ l)
    (h1 : ∀ (r : Fin 256) (l : Fin 1024), p1 (ix2 r l) = F ⟨256 * 1 + r.val, by omega⟩ l)
    (h2 : ∀ (r : Fin 256) (l : Fin 1024), p2 (ix2 r l) = F ⟨256 * 2 + r.val, by omega⟩ l)
    (h3 : ∀ (r : Fin 256) (l : Fin 1024), p3 (ix2 r l) = F ⟨256 * 3 + r.val, by omega⟩ l)
    (y : S1024x1024.Idx) : View.canon (Val := Elt Ideal) (L ++ T) y = F (y 0) (y 1) := by
  subst hL
  have hy0 : (y 0).val < 1024 := (y 0).isLt
  have hy1 : (y 1).val < 1024 := (y 1).isLt
  have key : ∀ (b : ℕ) (hb : b < 4) (o : ℕ) (ho : o = 256 * b) (i : ∀ a, (![o, 0] : Fin 2 → ℕ) a + (![256, 1024] : Fin 2 → ℕ) a ≤ S1024x1024.size a)
      (p : Vec Ideal S256x1024 .f32) (h : ∀ (r : Fin 256) (l : Fin 1024), p (ix2 r l) = F ⟨256 * b + r.val, by omega⟩ l)
      (x : (Rect.unit (s := S1024x1024) ![o, 0] ![256, 1024] i).shape.Idx),
      p x = F ((Rect.unit (s := S1024x1024) ![o, 0] ![256, 1024] i).emb x 0) ((Rect.unit (s := S1024x1024) ![o, 0] ![256, 1024] i).emb x 1) := by
    intro b hb o ho i p h x
    rw [show x = ix2 (n0 := 256) (n1 := 1024) (x 0) (x 1) from eq_ix2 x]
    refine (h _ _).trans (congrArg₂ F (Fin.ext ?_) (Fin.ext ?_))
    · show 256 * b + (x 0).val = o + 1 * (x 0).val
      omega
    · show (x 1).val = 0 + 1 * (x 1).val
      omega
  have cov : ∃ p ∈ ([⟨Rect.unit ![768, 0] ![256, 1024] i3, p3⟩, ⟨Rect.unit ![512, 0] ![256, 1024] i2, p2⟩,
      ⟨Rect.unit ![256, 0] ![256, 1024] i1, p1⟩, ⟨Rect.unit ![0, 0] ![256, 1024] i0, p0⟩] : List (View.Piece (Elt Ideal) S1024x1024 .f32)), y ∈ p.1.set := by
    have mem : ∀ (o : ℕ) (i : ∀ a, (![o, 0] : Fin 2 → ℕ) a + (![256, 1024] : Fin 2 → ℕ) a ≤ S1024x1024.size a), o ≤ (y 0).val → (y 0).val < o + 256 →
        y ∈ (Rect.unit (s := S1024x1024) ![o, 0] ![256, 1024] i).set := by
      intro o i h h'
      refine Rect.mem_set_unit.mpr fun a => ?_
      fin_cases a
      · exact ⟨h, h'⟩
      · exact ⟨Nat.zero_le _, by show (y 1).val < 0 + 1024; omega⟩
    simp only [List.mem_cons, List.not_mem_nil, or_false, exists_eq_or_imp, exists_eq_left]
    by_cases c3 : 768 ≤ (y 0).val
    · exact .inl (mem 768 i3 c3 (by omega))
    by_cases c2 : 512 ≤ (y 0).val
    · exact .inr (.inl (mem 512 i2 c2 (by omega)))
    by_cases c1 : 256 ≤ (y 0).val
    · exact .inr (.inr (.inl (mem 256 i1 c1 (by omega))))
    · exact .inr (.inr (.inr (mem 0 i0 (by omega) (by omega))))
  rw [canon_covered T y _ cov]
  refine View.canon_apply_of_pieces (Val := Elt Ideal) (S := S1024x1024) (e := .f32) (fun y => F (y 0) (y 1)) _ (fun p hp => ?_) y cov
  simp only [List.mem_cons, List.not_mem_nil, or_false] at hp
  rcases hp with rfl | rfl | rfl | rfl
  · exact key 3 (by decide) _ rfl i3 p3 h3
  · exact key 2 (by decide) _ rfl i2 p2 h2
  · exact key 1 (by decide) _ rfl i1 p1 h1
  · exact key 0 (by decide) _ rfl i0 p0 h0

end Cert.FfnIdeal.Hand
end
-- ==== Proof.FfnBlocks.lean ====
/- The feed-forward's blocks of projected rows, whatever computed them: a point stores four of them, one after another, and reads each
   beside the rows before and after it.  Both feed-forward programs read their scratches through these facts. -/
module

public import proofs.«01_k».proof.Proof.FfnScratch

@[expose] public section

set_option maxRecDepth 16384

noncomputable section

namespace Cert.FfnIdeal.Hand

open Cert.FfnIdeal Cert.FfnIdeal.Gen Cert.Rows Idealize.ShloMosaic Idealize.ShloMosaic.TcCoe

/-- A row against the up weights. -/
def upRow (H : Fin 1024 → Fin 1024 → EReal) (W : Fin 1024 → Fin 256 → EReal) (R : Fin 1024) (k : Fin 256) : EReal := ∑ d : Fin 1024, H R d * W d k

/-- Block `b` of the rows. -/
def Held (H : Fin 1024 → Fin 1024 → EReal) (b : ℕ) (x : Vec Ideal S256x1024 .bf16) : Prop :=
  ∀ (r : Fin 256) (d R : Fin 1024), R.val = 256 * b + r.val → x (ix2 r d) = H R d

/-- Block `b` of the projected rows. -/
def IsRows (U : Fin 1024 → Fin 256 → EReal) (b : ℕ) (p : Vec Ideal S256x256 .f32) : Prop :=
  ∀ (r k : Fin 256) (R : Fin 1024), R.val = 256 * b + r.val → p (ix2 r k) = U R k

theorem isRows_of {H : Fin 1024 → Fin 1024 → EReal} {W : Fin 1024 → Fin 256 → EReal} {b : ℕ} {x : Vec Ideal S256x1024 .bf16}
    {w : Vec Ideal S1024x256 .bf16} {p : Vec Ideal S256x256 .f32}
    (hp : ∀ r k : Fin 256, p (ix2 r k) = ∑ d : Fin 1024, x (ix2 r d) * w (ix2 d k)) (hx : Held H b x) (hw : ∀ d k, w (ix2 d k) = W d k) :
    IsRows (upRow H W) b p := fun r k R hR =>
  (hp r k).trans (Finset.sum_congr rfl fun d _ => congrArg₂ (· * ·) (hx r d R hR) (hw d k))

/-- What the loads of block `b` hold: the rows themselves, the rows before and the rows after, wherever there are any. -/
structure Rows3 (U : Fin 1024 → Fin 256 → EReal) (b : ℕ) (cur prev next : Vec Ideal S256x256 .f32) : Prop where
  cur : IsRows U b cur
  prev : ∀ (r k : Fin 256) (R : Fin 1024), R.val + 1 = 256 * b + r.val → prev (ix2 r k) = U R k
  next : ∀ (r k : Fin 256) (R : Fin 1024), R.val = 256 * b + r.val + 1 → next (ix2 r k) = U R k

structure Taps3 (w : Fin 3 → Fin 256 → EReal) (w0 w1 w2 : Vec Ideal S1x256 .f32) : Prop where
  w0 : ∀ k : Fin 256, w0 (ix2 0 k) = w 0 k
  w1 : ∀ k : Fin 256, w1 (ix2 0 k) = w 1 k
  w2 : ∀ k : Fin 256, w2 (ix2 0 k) = w 2 k

/-- The accumulator's four blocks of rows, before the point. -/
structure Acc4 (A : Fin 1024 → Fin 1024 → EReal) (a0 a1 a2 a3 : Vec Ideal S256x1024 .f32) : Prop where
  a0 : ∀ (r : Fin 256) (l : Fin 1024), a0 (ix2 r l) = A ⟨256 * 0 + r.val, by omega⟩ l
  a1 : ∀ (r : Fin 256) (l : Fin 1024), a1 (ix2 r l) = A ⟨256 * 1 + r.val, by omega⟩ l
  a2 : ∀ (r : Fin 256) (l : Fin 1024), a2 (ix2 r l) = A ⟨256 * 2 + r.val, by omega⟩ l
  a3 : ∀ (r : Fin 256) (l : Fin 1024), a3 (ix2 r l) = A ⟨256 * 3 + r.val, by omega⟩ l

/-- The four blocks. -/
structure Rows4 (U : Fin 1024 → Fin 256 → EReal) (s0 s1 s2 s3 : Vec Ideal S256x256 .f32) : Prop where
  r0 : IsRows U 0 s0
  r1 : IsRows U 1 s1
  r2 : IsRows U 2 s2
  r3 : IsRows U 3 s3

/-- What a point's reads of one scratch hold: the blocks stored so far, and the rows before the first and after the last block. -/
structure Side (U : Fin 1024 → Fin 256 → EReal) (s0 s1 s2 s3 : Vec Ideal S256x256 .f32) (K2 K3 K4 : List (View.Piece (Elt Ideal) S1040x256 .f32))
    (p n : Vec Ideal S256x256 .f32) : Prop where
  rows : Rows4 U s0 s1 s2 s3
  g2 : Good U K2 2
  g3 : Good U K3 3
  g4 : Good U K4 4
  prev : ∀ (r k : Fin 256) (R : Fin 1024), R.val + 1 = 256 * 0 + r.val → p (ix2 r k) = U R k
  next : ∀ (r k : Fin 256) (R : Fin 1024), R.val = 256 * 3 + r.val + 1 → n (ix2 r k) = U R k

section
variable {U : Fin 1024 → Fin 256 → EReal} {s0 s1 s2 s3 : Vec Ideal S256x256 .f32} {L : List (View.Piece (Elt Ideal) S1040x256 .f32)}
  {sig : RefSig} {κ : Kind} {sp : Space} {v v' : View sig κ sp S1040x256 .f32}

theorem Rows4.good1 (h : Rows4 U s0 s1 s2 s3) (hL : Good U L 0) : Good U (⟨Rect.unit ![8, 0] ![256, 256] inb_S1040x256_S256x256_8_0, s0⟩ :: L) 1 :=
  good_up _ 0 _ rfl (by decide) _ _ (fun r k => h.r0 r k _ rfl) hL

theorem Rows4.good2 (h : Rows4 U s0 s1 s2 s3) (hL : Good U L 0) : Good U (⟨Rect.unit ![264, 0] ![256, 256] inb_S1040x256_S256x256_264_0, s1⟩ ::
    ⟨Rect.unit ![8, 0] ![256, 256] inb_S1040x256_S256x256_8_0, s0⟩ :: L) 2 :=
  good_up _ 1 _ rfl (by decide) _ _ (fun r k => h.r1 r k _ rfl) (h.good1 hL)

theorem Rows4.good3 (h : Rows4 U s0 s1 s2 s3) (hL : Good U L 0) : Good U (⟨Rect.unit ![520, 0] ![256, 256] inb_S1040x256_S256x256_520_0, s2⟩ ::
    ⟨Rect.unit ![264, 0] ![256, 256] inb_S1040x256_S256x256_264_0, s1⟩ :: ⟨Rect.unit ![8, 0] ![256, 256] inb_S1040x256_S256x256_8_0, s0⟩ :: L) 3 :=
  good_up _ 2 _ rfl (by decide) _ _ (fun r k => h.r2 r k _ rfl) (h.good2 hL)

theorem Rows4.good4 (h : Rows4 U s0 s1 s2 s3) (hL : Good U L 0) : Good U (⟨Rect.unit ![776, 0] ![256, 256] inb_S1040x256_S256x256_776_0, s3⟩ ::
    ⟨Rect.unit ![520, 0] ![256, 256] inb_S1040x256_S256x256_520_0, s2⟩ :: ⟨Rect.unit ![264, 0] ![256, 256] inb_S1040x256_S256x256_264_0, s1⟩ ::
    ⟨Rect.unit ![8, 0] ![256, 256] inb_S1040x256_S256x256_8_0, s0⟩ :: L) 4 :=
  good_up _ 3 _ rfl (by decide) _ _ (fun r k => h.r3 r k _ rfl) (h.good3 hL)

/-- A scratch that held something before the point: the outer rows are read from it raw. -/
theorem Rows4.raw (h : Rows4 U s0 s1 s2 s3) (f f' : _) (i i') : Side U s0 s1 s2 s3
    [⟨Rect.unit ![264, 0] ![256, 256] inb_S1040x256_S256x256_264_0, s1⟩, ⟨Rect.unit ![8, 0] ![256, 256] inb_S1040x256_S256x256_8_0, s0⟩]
    [⟨Rect.unit ![520, 0] ![256, 256] inb_S1040x256_S256x256_520_0, s2⟩, ⟨Rect.unit ![264, 0] ![256, 256] inb_S1040x256_S256x256_264_0, s1⟩,
      ⟨Rect.unit ![8, 0] ![256, 256] inb_S1040x256_S256x256_8_0, s0⟩]
    [⟨Rect.unit ![776, 0] ![256, 256] inb_S1040x256_S256x256_776_0, s3⟩, ⟨Rect.unit ![520, 0] ![256, 256] inb_S1040x256_S256x256_520_0, s2⟩,
      ⟨Rect.unit ![264, 0] ![256, 256] inb_S1040x256_S256x256_264_0, s1⟩, ⟨Rect.unit ![8, 0] ![256, 256] inb_S1040x256_S256x256_8_0, s0⟩]
    (View.ld (View.read (Elt Ideal) v (v.writes (Elt Ideal) f [⟨Rect.unit ![264, 0] ![256, 256] inb_S1040x256_S256x256_264_0, s1⟩,
      ⟨Rect.unit ![8, 0] ![256, 256] inb_S1040x256_S256x256_8_0, s0⟩])) (Rect.unit (s := S1040x256) ![7, 0] ![256, 256] i))
    (View.ld (View.read (Elt Ideal) v' (v'.writes (Elt Ideal) f' [⟨Rect.unit ![776, 0] ![256, 256] inb_S1040x256_S256x256_776_0, s3⟩,
      ⟨Rect.unit ![520, 0] ![256, 256] inb_S1040x256_S256x256_520_0, s2⟩, ⟨Rect.unit ![264, 0] ![256, 256] inb_S1040x256_S256x256_264_0, s1⟩,
      ⟨Rect.unit ![8, 0] ![256, 256] inb_S1040x256_S256x256_8_0, s0⟩])) (Rect.unit (s := S1040x256) ![777, 0] ![256, 256] i')) where
  rows := h
  g2 := h.good2 (good_nil U)
  g3 := h.good3 (good_nil U)
  g4 := h.good4 (good_nil U)
  prev := fun r k R hR => raw_read _ _ _ _ _ (h.good2 (good_nil U)) r k R (by omega) (by omega)
  next := fun r k R hR => raw_read _ _ _ _ _ (h.good4 (good_nil U)) r k R (by omega) (by omega)

/-- A scratch whose outer rows this point has just written. -/
theorem Rows4.cov (h : Rows4 U s0 s1 s2 s3) (hL : Good U L 0) (i i') : Side U s0 s1 s2 s3
    (⟨Rect.unit ![264, 0] ![256, 256] inb_S1040x256_S256x256_264_0, s1⟩ :: ⟨Rect.unit ![8, 0] ![256, 256] inb_S1040x256_S256x256_8_0, s0⟩ :: L)
    (⟨Rect.unit ![520, 0] ![256, 256] inb_S1040x256_S256x256_520_0, s2⟩ :: ⟨Rect.unit ![264, 0] ![256, 256] inb_S1040x256_S256x256_264_0, s1⟩ ::
      ⟨Rect.unit ![8, 0] ![256, 256] inb_S1040x256_S256x256_8_0, s0⟩ :: L)
    (⟨Rect.unit ![776, 0] ![256, 256] inb_S1040x256_S256x256_776_0, s3⟩ :: ⟨Rect.unit ![520, 0] ![256, 256] inb_S1040x256_S256x256_520_0, s2⟩ ::
      ⟨Rect.unit ![264, 0] ![256, 256] inb_S1040x256_S256x256_264_0, s1⟩ :: ⟨Rect.unit ![8, 0] ![256, 256] inb_S1040x256_S256x256_8_0, s0⟩ :: L)
    (v.readCov (Val := Elt Ideal) (⟨Rect.unit ![8, 0] ![256, 256] inb_S1040x256_S256x256_8_0, s0⟩ :: L)
      (Rect.unit (s := S1040x256) ![7, 0] ![256, 256] i).toLoadRect)
    (v'.readCov (Val := Elt Ideal) (⟨Rect.unit ![776, 0] ![256, 256] inb_S1040x256_S256x256_776_0, s3⟩ ::
      ⟨Rect.unit ![520, 0] ![256, 256] inb_S1040x256_S256x256_520_0, s2⟩ :: ⟨Rect.unit ![264, 0] ![256, 256] inb_S1040x256_S256x256_264_0, s1⟩ ::
      ⟨Rect.unit ![8, 0] ![256, 256] inb_S1040x256_S256x256_8_0, s0⟩ :: L) (Rect.unit (s := S1040x256) ![777, 0] ![256, 256] i').toLoadRect) where
  rows := h
  g2 := h.good2 hL
  g3 := h.good3 hL
  g4 := h.good4 hL
  prev := fun r k R hR => cov_read _ _ _ _ (h.good1 hL) r k R (by omega) (by omega)
  next := fun r k R hR => cov_read _ _ _ _ (h.good4 hL) r k R (by omega) (by omega)

/-! ## The reads of each block -/

variable {K2 K3 K4 : List (View.Piece (Elt Ideal) S1040x256 .f32)} {p n : Vec Ideal S256x256 .f32} (h : Side U s0 s1 s2 s3 K2 K3 K4 p n)
include h

theorem Side.b0 (i) : Rows3 U 0 s0 p (v.readCov (Val := Elt Ideal) K2 (Rect.unit (s := S1040x256) ![9, 0] ![256, 256] i).toLoadRect) :=
  ⟨h.rows.r0, h.prev, fun r k R hR => cov_read _ _ _ _ h.g2 r k R (by omega) (by omega)⟩

theorem Side.b1 (i i') : Rows3 U 1 s1 (v.readCov (Val := Elt Ideal) K2 (Rect.unit (s := S1040x256) ![263, 0] ![256, 256] i).toLoadRect)
    (v.readCov (Val := Elt Ideal) K3 (Rect.unit (s := S1040x256) ![265, 0] ![256, 256] i').toLoadRect) :=
  ⟨h.rows.r1, fun r k R hR => cov_read _ _ _ _ h.g2 r k R (by omega) (by omega), fun r k R hR => cov_read _ _ _ _ h.g3 r k R (by omega) (by omega)⟩

theorem Side.b2 (i i') : Rows3 U 2 s2 (v.readCov (Val := Elt Ideal) K3 (Rect.unit (s := S1040x256) ![519, 0] ![256, 256] i).toLoadRect)
    (v.readCov (Val := Elt Ideal) K4 (Rect.unit (s := S1040x256) ![521, 0] ![256, 256] i').toLoadRect) :=
  ⟨h.rows.r2, fun r k R hR => cov_read _ _ _ _ h.g3 r k R (by omega) (by omega), fun r k R hR => cov_read _ _ _ _ h.g4 r k R (by omega) (by omega)⟩

theorem Side.b3 (i) : Rows3 U 3 s3 (v.readCov (Val := Elt Ideal) K4 (Rect.unit (s := S1040x256) ![775, 0] ![256, 256] i).toLoadRect) n :=
  ⟨h.rows.r3, fun r k R hR => cov_read _ _ _ _ h.g4 r k R (by omega) (by omega), h.next⟩

end

end Cert.FfnIdeal.Hand
end
-- ==== Proof.FfnBody.lean ====
/- One point of the feed-forward: whatever the point, the accumulator gains, at every row, the point's 256 columns of activation
   against their down weights; at the first column tile it starts from zero. -/
module

public import proofs.«01_k».proof.Proof.FfnBlocks

@[expose] public section

set_option maxRecDepth 16384

noncomputable section

namespace Cert.FfnIdeal.Hand

open Cert.FfnIdeal Cert.FfnIdeal.Gen Cert.Rows Idealize.ShloMosaic Idealize.ShloMosaic.TcCoe

/-! ## A block of rows, from what its loads hold -/

section
variable (U G : Fin 1024 → Fin 256 → EReal) (wu wg : Fin 3 → Fin 256 → EReal) (D : Fin 256 → Fin 1024 → EReal)

/-- What a point adds at a row and a column. -/
def added (R l : Fin 1024) : EReal := ∑ k : Fin 256, swish (conv (G · k) (wg · k) R) (conv (U · k) (wu · k) R) * D k l

variable {U G wu wg D}
variable {u0 u1 u2 g0 g1 g2 : Vec Ideal S1x256 .f32} {cu pu nu cg pg ng : Vec Ideal S256x256 .f32} {acc : Vec Ideal S256x1024 .f32}
  {wd : Vec Ideal S256x1024 .bf16} {A : Fin 1024 → Fin 1024 → EReal}

theorem taps_conv {V : Fin 1024 → Fin 256 → EReal} {w : Fin 3 → Fin 256 → EReal} {w0 w1 w2 : Vec Ideal S1x256 .f32} (hw : Taps3 w w0 w1 w2)
    (k : Fin 256) (R : Fin 1024) (p c n : EReal) (hp : p = before (V · k) R) (hc : c = V R k) (hn : n = behind (V · k) R) :
    taps p c n ![w0 (ix2 (n0 := 1) (n1 := 256) 0 k), w1 (ix2 (n0 := 1) (n1 := 256) 0 k), w2 (ix2 (n0 := 1) (n1 := 256) 0 k)] = conv (V · k) (w · k) R := by
  subst hp hc hn
  rw [hw.w0, hw.w1, hw.w2]
  rfl

theorem part_added (hu : Taps3 wu u0 u1 u2) (hg : Taps3 wg g0 g1 g2) (hd : ∀ (k : Fin 256) (l : Fin 1024), wd (ix2 k l) = D k l)
    (r : Fin 256) (R : Fin 1024) (l : Fin 1024) (Pu Nu Pg Ng : Fin 256 → EReal)
    (hcu : ∀ k, cu (ix2 (n0 := 256) (n1 := 256) r k) = U R k) (hcg : ∀ k, cg (ix2 (n0 := 256) (n1 := 256) r k) = G R k)
    (hpu : ∀ k, Pu k = before (U · k) R) (hnu : ∀ k, Nu k = behind (U · k) R)
    (hpg : ∀ k, Pg k = before (G · k) R) (hng : ∀ k, Ng k = behind (G · k) R) :
    part u0 u1 u2 g0 g1 g2 cu cg wd Pu Nu Pg Ng r l = added U G wu wg D R l := by
  unfold part added
  refine Finset.sum_congr rfl fun k _ => ?_
  rw [hd, taps_conv (V := G) hg k R _ _ _ (hpg k) (hcg k) (hng k), taps_conv (V := U) hu k R _ _ _ (hpu k) (hcu k) (hnu k)]

/-- The row before, read or left out; the row after likewise. -/
theorem prev_edge {V : Fin 1024 → Fin 256 → EReal} {b : ℕ} {c p n : Vec Ideal S256x256 .f32} (h : Rows3 V b c p n) {r : Fin 256} {R : Fin 1024}
    (hR : R.val = 256 * b + r.val) {e : Prop} [Decidable e] (he : e ↔ 256 * b + r.val = 0) (k : Fin 256) :
    (if e then 0 else p (ix2 r k)) = before (V · k) R := by
  by_cases h0 : e
  · rw [if_pos h0, before_zero _ _ (hR.trans (he.mp h0))]
  · have : R.val ≠ 0 := fun h => h0 (he.mpr (hR.symm.trans h))
    rw [if_neg h0, before_of (V · k) R ⟨R.val - 1, by omega⟩ (by show R.val - 1 + 1 = _; omega)]
    exact h.prev r k _ (by show R.val - 1 + 1 = _; omega)

theorem next_edge {V : Fin 1024 → Fin 256 → EReal} {b : ℕ} {c p n : Vec Ideal S256x256 .f32} (h : Rows3 V b c p n) {r : Fin 256} {R : Fin 1024}
    (hR : R.val = 256 * b + r.val) {e : Prop} [Decidable e] (he : e ↔ 256 * b + r.val = 1023) (k : Fin 256) :
    (if e then 0 else n (ix2 r k)) = behind (V · k) R := by
  by_cases h0 : e
  · rw [if_pos h0, behind_last _ _ (by have := he.mp h0; omega)]
  · have : R.val ≠ 1023 := fun h => h0 (he.mpr (hR.symm.trans h))
    rw [if_neg h0, behind_of (V · k) R ⟨R.val + 1, by omega⟩ rfl]
    exact h.next r k _ (by show R.val + 1 = _; omega)

/-- A block's rows, the row before left out where `cp` and the row after where `cn`: that is at the sequence's two ends. -/
theorem sum_of (hu : Taps3 wu u0 u1 u2) (hg : Taps3 wg g0 g1 g2) (hd : ∀ (k : Fin 256) (l : Fin 1024), wd (ix2 k l) = D k l) {b : ℕ}
    (hU : Rows3 U b cu pu nu) (hG : Rows3 G b cg pg ng) {r : Fin 256} {R l : Fin 1024} {a : EReal} (hR : R.val = 256 * b + r.val)
    (ha : acc (ix2 r l) = a) (cp cn : Prop) [Decidable cp] [Decidable cn] (hp : cp ↔ 256 * b + r.val = 0) (hn : cn ↔ 256 * b + r.val = 1023) :
    acc (ix2 r l) + part u0 u1 u2 g0 g1 g2 cu cg wd (fun k => if cp then 0 else pu (ix2 r k)) (fun k => if cn then 0 else nu (ix2 r k))
        (fun k => if cp then 0 else pg (ix2 r k)) (fun k => if cn then 0 else ng (ix2 r k)) r l = a + added U G wu wg D R l := by
  rw [ha]
  exact congrArg (a + ·) (part_added hu hg hd r R l _ _ _ _ (fun k => hU.cur r k R hR) (fun k => hG.cur r k R hR)
    (prev_edge hU hR hp) (next_edge hU hR hn) (prev_edge hG hR hp) (next_edge hG hR hn))

variable {T : List (View.Piece (Elt Ideal) S1024x1024 .f32)} {K2 K3 K4 J2 J3 J4 : List (View.Piece (Elt Ideal) S1040x256 .f32)} {sig : RefSig}
  {κ : Kind} {sp : Space} {v1 v2 : View sig κ sp S1040x256 .f32} {s0 s1 s2 s3 q0 q1 q2 q3 : Vec Ideal S256x256 .f32}
  {a0 a1 a2 a3 : Vec Ideal S256x1024 .f32}

/-- A point's accumulator, from what its loads hold. -/
theorem tile_acc (hu : Taps3 wu u0 u1 u2) (hg : Taps3 wg g0 g1 g2) (hd : ∀ (k : Fin 256) (l : Fin 1024), wd (ix2 k l) = D k l)
    (hU : Side U s0 s1 s2 s3 K2 K3 K4 pu nu) (hG : Side G q0 q1 q2 q3 J2 J3 J4 pg ng) (hA : Acc4 A a0 a1 a2 a3) (y : S1024x1024.Idx) :
    View.canon (Val := Elt Ideal) (s := S1024x1024) (e := .f32)
      (⟨Rect.unit ![768, 0] ![256, 1024] inb_S1024x1024_S256x1024_768_0, k0_pay1 (k0_pay31 k0_pay9 u0 u1 u2 g0 g1 g2 s3 (v1.readCov (Val := Elt Ideal) K4 (Rect.unit (s := S1040x256) ![775, 0] ![256, 256] inb_S1040x256_S256x256_775_0).toLoadRect) (k0_pay27 nu) (k0_pay28 nu) (k0_pay29 k0_pay9) k0_pay30
        q3 (v2.readCov (Val := Elt Ideal) J4 (Rect.unit (s := S1040x256) ![775, 0] ![256, 256] inb_S1040x256_S256x256_775_0).toLoadRect) ng a3 wd)⟩ ::
      ⟨Rect.unit ![512, 0] ![256, 1024] inb_S1024x1024_S256x1024_512_0, k0_pay26 g0 g1 g2 (k0_pay25 u0 u1 u2 s2 (v1.readCov (Val := Elt Ideal) K3 (Rect.unit (s := S1040x256) ![519, 0] ![256, 256] inb_S1040x256_S256x256_519_0).toLoadRect) (v1.readCov (Val := Elt Ideal) K4 (Rect.unit (s := S1040x256) ![521, 0] ![256, 256] inb_S1040x256_S256x256_521_0).toLoadRect))
        q2 (v2.readCov (Val := Elt Ideal) J3 (Rect.unit (s := S1040x256) ![519, 0] ![256, 256] inb_S1040x256_S256x256_519_0).toLoadRect) (v2.readCov (Val := Elt Ideal) J4 (Rect.unit (s := S1040x256) ![521, 0] ![256, 256] inb_S1040x256_S256x256_521_0).toLoadRect) a2 wd⟩ ::
      ⟨Rect.unit ![256, 0] ![256, 1024] inb_S1024x1024_S256x1024_256_0, k0_pay24 (k0_pay19 u0 u1 u2 s1 (v1.readCov (Val := Elt Ideal) K2 (Rect.unit (s := S1040x256) ![263, 0] ![256, 256] inb_S1040x256_S256x256_263_0).toLoadRect) (v1.readCov (Val := Elt Ideal) K3 (Rect.unit (s := S1040x256) ![265, 0] ![256, 256] inb_S1040x256_S256x256_265_0).toLoadRect))
        (k0_pay20 g0 g1 g2 q1 (v2.readCov (Val := Elt Ideal) J2 (Rect.unit (s := S1040x256) ![263, 0] ![256, 256] inb_S1040x256_S256x256_263_0).toLoadRect) (v2.readCov (Val := Elt Ideal) J3 (Rect.unit (s := S1040x256) ![265, 0] ![256, 256] inb_S1040x256_S256x256_265_0).toLoadRect))
        (k0_pay21 g0 g1 g2 q1 (v2.readCov (Val := Elt Ideal) J2 (Rect.unit (s := S1040x256) ![263, 0] ![256, 256] inb_S1040x256_S256x256_263_0).toLoadRect) (v2.readCov (Val := Elt Ideal) J3 (Rect.unit (s := S1040x256) ![265, 0] ![256, 256] inb_S1040x256_S256x256_265_0).toLoadRect)) a1 wd⟩ ::
      ⟨Rect.unit ![0, 0] ![256, 1024] inb_S1024x1024_S256x1024_0_0, k0_pay18 (k0_pay15 k0_pay8 g0 g1 g2 (k0_pay14 k0_pay8 u0 u1 u2 s0 pu (v1.readCov (Val := Elt Ideal) K2 (Rect.unit (s := S1040x256) ![9, 0] ![256, 256] inb_S1040x256_S256x256_9_0).toLoadRect))
        q0 pg (v2.readCov (Val := Elt Ideal) J2 (Rect.unit (s := S1040x256) ![9, 0] ![256, 256] inb_S1040x256_S256x256_9_0).toLoadRect)) a0 wd⟩ :: T) y
      = A (y 0) (y 1) + added U G wu wg D (y 0) (y 1) := by
  refine four_blocks (fun R l => A R l + added U G wu wg D R l) _ _ _ _ _ _ _ _ T _ rfl ?_ ?_ ?_ ?_ y
  · exact fun r l => (block_first _ _ _ _ _ _ _ _ _ _ _ _ _ _ r l).trans
      (sum_of hu hg hd (hU.b0 _) (hG.b0 _) rfl (hA.a0 r l) (r.val = 0) False (by omega) (iff_of_false id (by omega)))
  · exact fun r l => (block_mid _ _ _ _ _ _ _ _ _ _ _ _ _ _ r l).trans
      (sum_of hu hg hd (hU.b1 _ _) (hG.b1 _ _) rfl (hA.a1 r l) False False (iff_of_false id (by omega)) (iff_of_false id (by omega)))
  · exact fun r l => (block_mid' _ _ _ _ _ _ _ _ _ _ _ _ _ _ r l).trans
      (sum_of hu hg hd (hU.b2 _ _) (hG.b2 _ _) rfl (hA.a2 r l) False False (iff_of_false id (by omega)) (iff_of_false id (by omega)))
  · exact fun r l => (block_last _ _ _ _ _ _ _ _ _ _ _ _ _ _ r l).trans
      (sum_of hu hg hd (hU.b3 _) (hG.b3 _) rfl (hA.a3 r l) False (r.val = 255) (iff_of_false id (by omega)) (by omega))

end

section
/-! ## The point's loads -/

/-- 256 rows of a block. -/
theorem ld_rows {e : EltTy} (x : Vec Ideal S1024x1024 e) (b o : ℕ) (ho : o = 256 * b) (hb : b < 4) (i) (r : Fin 256) (d : Fin 1024) :
    View.ld x (Rect.unit (s := S1024x1024) ![o, 0] ![256, 1024] i) (ix2 (n0 := 256) (n1 := 1024) r d) = x (ix2 ⟨256 * b + r.val, by omega⟩ d) := by
  subst ho
  refine congrArg x (funext fun a => Fin.ext ?_)
  fin_cases a
  · show 256 * b + 1 * r.val = 256 * b + r.val
    omega
  · show 0 + 1 * d.val = d.val
    omega

/-- The four blocks of an accumulator read as a whole. -/
theorem acc4_ld (X : Vec Ideal S1024x1024 .f32) (A : Fin 1024 → Fin 1024 → EReal) (hA : ∀ R l : Fin 1024, X (ix2 R l) = A R l) (i0 i1 i2 i3) :
    Acc4 A (View.ld X (Rect.unit (s := S1024x1024) ![0, 0] ![256, 1024] i0)) (View.ld X (Rect.unit (s := S1024x1024) ![256, 0] ![256, 1024] i1))
      (View.ld X (Rect.unit (s := S1024x1024) ![512, 0] ![256, 1024] i2)) (View.ld X (Rect.unit (s := S1024x1024) ![768, 0] ![256, 1024] i3)) where
  a0 := fun r l => (ld_rows (e := .f32) X 0 _ rfl (by decide) _ r l).trans (hA _ _)
  a1 := fun r l => (ld_rows (e := .f32) X 1 _ rfl (by decide) _ r l).trans (hA _ _)
  a2 := fun r l => (ld_rows (e := .f32) X 2 _ rfl (by decide) _ r l).trans (hA _ _)
  a3 := fun r l => (ld_rows (e := .f32) X 3 _ rfl (by decide) _ r l).trans (hA _ _)

/-- One row of the taps. -/
theorem ld_tap (x : Vec Ideal S3x256 .f32) (n : ℕ) (hn : n < 3) (i) (k : Fin 256) :
    View.ld x (Rect.unit (s := S3x256) ![n, 0] ![1, 256] i) (ix2 (n0 := 1) (n1 := 256) 0 k) = x (ix2 ⟨n, hn⟩ k) := by
  refine congrArg x (funext fun a => Fin.ext ?_)
  fin_cases a
  · show n + 1 * 0 = n
    omega
  · show 0 + 1 * k.val = k.val
    omega

variable (m : (ℓ : Loc nD τ sig) → Buf (Elt Ideal) ℓ) (c : Dev nD) (t : Fin grid0.N)

/-- The point's projected rows, its taps and its down weights. -/
def hRow (R d : Fin 1024) : EReal := iblk m c 0 t (ix2 (n0 := 1024) (n1 := 1024) R d)
def wU (d : Fin 1024) (k : Fin 256) : EReal := iblk m c 3 t (ix2 (n0 := 1024) (n1 := 256) d k)
def wG (d : Fin 1024) (k : Fin 256) : EReal := iblk m c 4 t (ix2 (n0 := 1024) (n1 := 256) d k)
def tapU (n : Fin 3) (k : Fin 256) : EReal := iblk m c 5 t (ix2 (n0 := 3) (n1 := 256) n k)
def tapG (n : Fin 3) (k : Fin 256) : EReal := iblk m c 6 t (ix2 (n0 := 3) (n1 := 256) n k)
def down (k : Fin 256) (l : Fin 1024) : EReal := iblk m c 7 t (ix2 (n0 := 256) (n1 := 1024) k l)

/-- What the point adds. -/
def gain (R l : Fin 1024) : EReal := added (upRow (hRow m c t) (wU m c t)) (upRow (hRow m c t) (wG m c t)) (tapU m c t) (tapG m c t) (down m c t) R l

end

end Cert.FfnIdeal.Hand
end
-- ==== Proof.FfnStep.lean ====
/- The feed-forward's points: after each, the accumulator is what it was before (at a first column tile: zero) and what the point
   adds; at a last column tile the output block is the accumulated rows closed by residual, norm and gain. -/
module

public import proofs.«01_k».proof.Proof.FfnBody

@[expose] public section

set_option maxRecDepth 16384

noncomputable section

namespace Cert.FfnIdeal.Hand

open Cert.FfnIdeal Cert.FfnIdeal.Gen Cert.Rows Idealize.ShloMosaic Idealize.ShloMosaic.TcCoe

variable (m : (ℓ : Loc nD τ sig) → Buf (Elt Ideal) ℓ) (c : Dev nD) (t : Fin grid0.N)

theorem h_held (b o : ℕ) (ho : o = 256 * b) (i) :
    Held (hRow m c t) b (View.ld (iblk m c 0 t) (Rect.unit (s := S1024x1024) ![o, 0] ![256, 1024] i)) := fun r d R hR =>
  (ld_rows (e := .bf16) (iblk m c 0 t) b o ho (by omega) i r d).trans (congrArg (hRow m c t · d) (Fin.ext hR.symm))

theorem taps_u : Taps3 (tapU m c t) (View.ld (iblk m c 5 t) (Rect.unit (s := S3x256) ![0, 0] ![1, 256] inb_S3x256_S1x256_0_0))
    (View.ld (iblk m c 5 t) (Rect.unit (s := S3x256) ![1, 0] ![1, 256] inb_S3x256_S1x256_1_0))
    (View.ld (iblk m c 5 t) (Rect.unit (s := S3x256) ![2, 0] ![1, 256] inb_S3x256_S1x256_2_0)) :=
  ⟨ld_tap _ 0 (by decide) _, ld_tap _ 1 (by decide) _, ld_tap _ 2 (by decide) _⟩

theorem taps_g : Taps3 (tapG m c t) (View.ld (iblk m c 6 t) (Rect.unit (s := S3x256) ![0, 0] ![1, 256] inb_S3x256_S1x256_0_0))
    (View.ld (iblk m c 6 t) (Rect.unit (s := S3x256) ![1, 0] ![1, 256] inb_S3x256_S1x256_1_0))
    (View.ld (iblk m c 6 t) (Rect.unit (s := S3x256) ![2, 0] ![1, 256] inb_S3x256_S1x256_2_0)) :=
  ⟨ld_tap _ 0 (by decide) _, ld_tap _ 1 (by decide) _, ld_tap _ 2 (by decide) _⟩

/-- What the accumulator held before the point. -/
def prior (R l : Fin 1024) : EReal :=
  (outsAt0 m c (t.val - 1) (lt_of_le_of_lt (Nat.sub_le _ _) t.isLt)).2.1 (ix2 (n0 := 1024) (n1 := 1024) R l)

theorem prior_read (s : (Memref.whole cc0_scratch0).IsWhole) (R l : Fin 1024) :
    View.read (Elt Ideal) (View.whole cc0_scratch0) (s.unread (outsAt0 m c (t.val - 1) (lt_of_le_of_lt (Nat.sub_le _ _) t.isLt)).2.1)
      (ix2 (n0 := 1024) (n1 := 1024) R l) = prior m c t R l := by
  rw [read_unread_whole]
  rfl

theorem zero7 (R l : Fin 1024) : k0_pay7 (F := Ideal) (ix2 (n0 := 1024) (n1 := 1024) R l) = 0 := by pointwise [k0_pay7]
theorem pad3 (y : S8x256.Idx) : k0_pay3 (F := Ideal) y = 0 := by rw [eq_ix2 y]; pointwise [k0_pay3]
theorem pad4 (y : S8x256.Idx) : k0_pay4 (F := Ideal) y = 0 := by rw [eq_ix2 y]; pointwise [k0_pay4]
theorem pad5 (y : S8x256.Idx) : k0_pay5 (F := Ideal) y = 0 := by rw [eq_ix2 y]; pointwise [k0_pay5]
theorem pad6 (y : S8x256.Idx) : k0_pay6 (F := Ideal) y = 0 := by rw [eq_ix2 y]; pointwise [k0_pay6]

/-- The projected rows the point stores, four blocks of them. -/
theorem rows_u : Rows4 (upRow (hRow m c t) (wU m c t)) (k0_pay10 (View.ld (iblk m c 0 t) (Rect.unit (s := S1024x1024) ![0, 0] ![256, 1024] inb_S1024x1024_S256x1024_0_0)) (iblk m c 3 t))
    (k0_pay12 (View.ld (iblk m c 0 t) (Rect.unit (s := S1024x1024) ![256, 0] ![256, 1024] inb_S1024x1024_S256x1024_256_0)) (iblk m c 3 t))
    (k0_pay16 (View.ld (iblk m c 0 t) (Rect.unit (s := S1024x1024) ![512, 0] ![256, 1024] inb_S1024x1024_S256x1024_512_0)) (iblk m c 3 t))
    (k0_pay22 (View.ld (iblk m c 0 t) (Rect.unit (s := S1024x1024) ![768, 0] ![256, 1024] inb_S1024x1024_S256x1024_768_0)) (iblk m c 3 t)) where
  r0 := isRows_of (up10 _ _) (h_held m c t 0 _ rfl _) fun _ _ => rfl
  r1 := isRows_of (up12 _ _) (h_held m c t 1 _ rfl _) fun _ _ => rfl
  r2 := isRows_of (up16 _ _) (h_held m c t 2 _ rfl _) fun _ _ => rfl
  r3 := isRows_of (up22 _ _) (h_held m c t 3 _ rfl _) fun _ _ => rfl

theorem rows_g : Rows4 (upRow (hRow m c t) (wG m c t)) (k0_pay11 (View.ld (iblk m c 0 t) (Rect.unit (s := S1024x1024) ![0, 0] ![256, 1024] inb_S1024x1024_S256x1024_0_0)) (iblk m c 4 t))
    (k0_pay13 (View.ld (iblk m c 0 t) (Rect.unit (s := S1024x1024) ![256, 0] ![256, 1024] inb_S1024x1024_S256x1024_256_0)) (iblk m c 4 t))
    (k0_pay17 (View.ld (iblk m c 0 t) (Rect.unit (s := S1024x1024) ![512, 0] ![256, 1024] inb_S1024x1024_S256x1024_512_0)) (iblk m c 4 t))
    (k0_pay23 (View.ld (iblk m c 0 t) (Rect.unit (s := S1024x1024) ![768, 0] ![256, 1024] inb_S1024x1024_S256x1024_768_0)) (iblk m c 4 t)) where
  r0 := isRows_of (up11 _ _) (h_held m c t 0 _ rfl _) fun _ _ => rfl
  r1 := isRows_of (up13 _ _) (h_held m c t 1 _ rfl _) fun _ _ => rfl
  r2 := isRows_of (up17 _ _) (h_held m c t 2 _ rfl _) fun _ _ => rfl
  r3 := isRows_of (up23 _ _) (h_held m c t 3 _ rfl _) fun _ _ => rfl

theorem pad_u : Good (upRow (hRow m c t) (wU m c t)) [⟨Rect.unit ![1032, 0] ![8, 256] inb_S1040x256_S8x256_1032_0, k0_pay4 (F := Ideal)⟩,
    ⟨Rect.unit ![0, 0] ![8, 256] inb_S1040x256_S8x256_0_0, k0_pay3 (F := Ideal)⟩] 0 :=
  good_pads _ _ _ pad4 pad3 _ _

theorem pad_g : Good (upRow (hRow m c t) (wG m c t)) [⟨Rect.unit ![1032, 0] ![8, 256] inb_S1040x256_S8x256_1032_0, k0_pay6 (F := Ideal)⟩,
    ⟨Rect.unit ![0, 0] ![8, 256] inb_S1040x256_S8x256_0_0, k0_pay5 (F := Ideal)⟩] 0 :=
  good_pads _ _ _ pad6 pad5 _ _

theorem acc_B (h0 : ¬ t.val % 44 = 0) (h1 : ¬ t.val % 11 = 0) (h2 : ¬ t.val % 11 = 10) (R l : Fin 1024) :
    (outsAt0 m c t.val t.isLt).2.1 (ix2 (n0 := 1024) (n1 := 1024) R l) = prior m c t R l + gain m c t R l := by
  rw [outsAt0_B m c t h0 h1 h2]
  dsimp only
  frame_open
  simp (disch := decide) only [↓ View.readCov_skip, ↓ View.readCov_cons_toLoadRect, ↓ View.readCov_fill]
  frame_out
  exact tile_acc (taps_u m c t) (taps_g m c t) (fun _ _ => rfl) ((rows_u m c t).raw _ _ _ _) ((rows_g m c t).raw _ _ _ _) (acc4_ld _ _ (prior_read m c t _) _ _ _ _) _

theorem acc_C (h0 : ¬ t.val % 44 = 0) (h1 : ¬ t.val % 11 = 0) (h2 : t.val % 11 = 10) (R l : Fin 1024) :
    (outsAt0 m c t.val t.isLt).2.1 (ix2 (n0 := 1024) (n1 := 1024) R l) = prior m c t R l + gain m c t R l := by
  rw [outsAt0_C m c t h0 h1 h2]
  dsimp only
  frame_open
  simp (disch := decide) only [↓ View.readCov_skip, ↓ View.readCov_cons_toLoadRect, ↓ View.readCov_fill]
  frame_out
  exact tile_acc (taps_u m c t) (taps_g m c t) (fun _ _ => rfl) ((rows_u m c t).raw _ _ _ _) ((rows_g m c t).raw _ _ _ _) (acc4_ld _ _ (prior_read m c t _) _ _ _ _) _

theorem acc_D (h0 : ¬ t.val % 44 = 0) (h1 : t.val % 11 = 0) (h2 : ¬ t.val % 11 = 10) (R l : Fin 1024) :
    (outsAt0 m c t.val t.isLt).2.1 (ix2 (n0 := 1024) (n1 := 1024) R l) = 0 + gain m c t R l := by
  rw [outsAt0_D m c t h0 h1 h2]
  dsimp only
  frame_open
  simp (disch := decide) only [↓ View.readCov_skip, ↓ View.readCov_cons_toLoadRect, ↓ View.readCov_fill]
  frame_out
  exact tile_acc (taps_u m c t) (taps_g m c t) (fun _ _ => rfl) ((rows_u m c t).raw _ _ _ _) ((rows_g m c t).raw _ _ _ _) (acc4_ld _ (fun _ _ => 0) zero7 _ _ _ _) _

set_option maxHeartbeats 400000 in
theorem acc_A (h0 : t.val % 44 = 0) (h1 : t.val % 11 = 0) (h2 : ¬ t.val % 11 = 10) (R l : Fin 1024) :
    (outsAt0 m c t.val t.isLt).2.1 (ix2 (n0 := 1024) (n1 := 1024) R l) = 0 + gain m c t R l := by
  rw [outsAt0_A m c t h0 h1 h2]
  dsimp only
  frame_open
  simp (disch := decide) only [↓ View.readCov_skip, ↓ View.readCov_cons_toLoadRect, ↓ View.readCov_fill]
  frame_out
  exact tile_acc (taps_u m c t) (taps_g m c t) (fun _ _ => rfl) ((rows_u m c t).cov (pad_u m c t) _ _) ((rows_g m c t).cov (pad_g m c t) _ _) (acc4_ld _ (fun _ _ => 0) zero7 _ _ _ _) _

/-- At the first column tile the accumulator starts from zero. -/
theorem acc_first (h : t.val % 11 = 0) (R l : Fin 1024) :
    (outsAt0 m c t.val t.isLt).2.1 (ix2 (n0 := 1024) (n1 := 1024) R l) = 0 + gain m c t R l := by
  by_cases h0 : t.val % 44 = 0
  · exact acc_A m c t h0 h (by omega) R l
  · exact acc_D m c t h0 h (by omega) R l

theorem acc_next (h : ¬ t.val % 11 = 0) (R l : Fin 1024) :
    (outsAt0 m c t.val t.isLt).2.1 (ix2 (n0 := 1024) (n1 := 1024) R l) = prior m c t R l + gain m c t R l := by
  by_cases h2 : t.val % 11 = 10
  · exact acc_C m c t (by omega) h h2 R l
  · exact acc_B m c t (by omega) h h2 R l

/-- A value and a gated one. -/
def resid (x g a : EReal) : EReal := x + g * a

/-- The output block of a last column tile. -/
theorem out_last (h : t.val % 11 = 10) (r l : Fin 1024) :
    (dats m 0 c).after (9 : Fin 10) t (ix2 (n0 := 1024) (n1 := 1024) r l)
      = rmsRow (fun l => resid (iblk m c 1 t (ix2 (n0 := 1024) (n1 := 1024) r l)) (iblk m c 2 t (ix3 (n0 := 1) (n1 := 1) (n2 := 1024) 0 0 l))
          (prior m c t r l + gain m c t r l)) l * iblk m c 8 t (ix2 (n0 := 1) (n1 := 1024) 0 l) := by
  rw [after0_9]
  rw [outsAt0_C m c t (by omega) (by omega) h]
  dsimp only
  frame_open
  simp (disch := decide) only [↓ View.readCov_skip, ↓ View.readCov_cons_toLoadRect, ↓ View.readCov_fill]
  frame_out
  rw [close_apply]
  refine congrArg (· * _) (congrFun (congrArg rmsRow (funext fun l => ?_)) l)
  refine congrArg (resid _ _) ?_
  rw [View.readCov_eq_canon']
  refine (tile_acc (taps_u m c t) (taps_g m c t) (fun _ _ => rfl) ((rows_u m c t).raw _ _ _ _) ((rows_g m c t).raw _ _ _ _)
    (acc4_ld _ _ (prior_read m c t _) _ _ _ _) _).trans (congrArg₂ (fun a b => prior m c t a b + gain m c t a b) (Fin.ext ?_) (Fin.ext ?_))
  · show 0 + 1 * r.val = r.val
    omega
  · show 0 + 1 * l.val = l.val
    omega

end Cert.FfnIdeal.Hand
end
-- ==== Proof.FfnArr.lean ====
/- The feed-forward as a function of the arguments, and that the kernel leaves it in its array. -/
module

public import proofs.«01_k».proof.Proof.FfnStep

@[expose] public section

set_option maxRecDepth 16384

noncomputable section

namespace Cert.Rows

open Idealize.ShloMosaic

/-- The two halves of the up-projection's columns. -/
def colU (K : Fin 2816) : Fin 5632 := ⟨K.val, by omega⟩
def colG (K : Fin 2816) : Fin 5632 := ⟨2816 + K.val, by omega⟩

section
variable {n : ℕ} (x : Fin n → Fin 1024 → EReal) (w : Fin 1024 → Fin 5632 → EReal) (cw : Fin 3 → Fin 5632 → EReal)

/-- Column `K` of the up-projected rows of one sequence, convolved over the rows. -/
def upConv (K : Fin 5632) (R : Fin n) : EReal := conv (fun R => ∑ d : Fin 1024, x R d * w d K) (cw · K) R

/-- The gated activation at a row. -/
def act (R : Fin n) (K : Fin 2816) : EReal := swish (upConv x w cw (colG K) R) (upConv x w cw (colU K) R)

/-- One row of the feed-forward: residual, norm, gain. -/
def ffnRow (y : Fin n → Fin 1024 → EReal) (gt : Fin 1024 → EReal) (wd : Fin 2816 → Fin 1024 → EReal) (fg : Fin 1024 → EReal) (R : Fin n) (l : Fin 1024) : EReal :=
  rmsRow (fun l => y R l + gt l * ∑ K : Fin 2816, act x w cw R K * wd K l) l * fg l
end

end Cert.Rows

namespace Cert.FfnIdeal.Hand

open Cert.FfnIdeal Cert.FfnIdeal.Gen Cert.Rows Idealize.ShloMosaic Idealize.ShloMosaic.TcCoe

variable (m : (ℓ : Loc nD τ sig) → Buf (Elt Ideal) ℓ) (c : Dev nD)

/-- The arguments as functions of their indices, the rows by sequence. -/
def rows (b : Fin 4) (R k : Fin 1024) : EReal := m ((c.tc : Thread nD τ).loc main_arg0) (ix2 (n0 := 4096) (n1 := 1024) (rowOf b R) k)
def skip (b : Fin 4) (R k : Fin 1024) : EReal := m ((c.tc : Thread nD τ).loc main_arg1) (ix2 (n0 := 4096) (n1 := 1024) (rowOf b R) k)
def gates (b : Fin 4) (k : Fin 1024) : EReal := m ((c.tc : Thread nD τ).loc main_arg2) (ix3 (n0 := 4) (n1 := 1) (n2 := 1024) b 0 k)
def wgtUp (d : Fin 1024) (K : Fin 5632) : EReal := m ((c.tc : Thread nD τ).loc main_arg3) (ix2 (n0 := 1024) (n1 := 5632) d K)
def wgtC (n : Fin 3) (K : Fin 5632) : EReal := m ((c.tc : Thread nD τ).loc main_arg4) (ix2 (n0 := 3) (n1 := 5632) n K)
def wgtD (K : Fin 2816) (l : Fin 1024) : EReal := m ((c.tc : Thread nD τ).loc main_arg5) (ix2 (n0 := 2816) (n1 := 1024) K l)
def finalG (l : Fin 1024) : EReal := m ((c.tc : Thread nD τ).loc main_arg6) (ix2 (n0 := 1) (n1 := 1024) 0 l)

def result (R : Fin 4096) (l : Fin 1024) : EReal :=
  ffnRow (rows m c (seqOf R)) (wgtUp m c) (wgtC m c) (skip m c (seqOf R)) (gates m c (seqOf R)) (wgtD m c) (finalG m c)
    ⟨R.val % 1024, Nat.mod_lt _ (by decide)⟩ l

theorem idx : ∀ t : Fin grid0.N, win0_0.index t = ![t.val / 11, 0] ∧ win0_1.index t = ![t.val / 11, 0] ∧ win0_2.index t = ![t.val / 11, 0, 0]
    ∧ win0_3.index t = ![0, t.val % 11] ∧ win0_4.index t = ![0, 11 + t.val % 11] ∧ win0_5.index t = ![0, t.val % 11]
    ∧ win0_6.index t = ![0, 11 + t.val % 11] ∧ win0_7.index t = ![t.val % 11, 0] ∧ win0_8.index t = ![0, 0]
    ∧ win0_9.index t = ![t.val / 11, 0] := by decide +kernel

variable (t : Fin grid0.N)

/-- A point's sequence, and the column of the activation that column `k` of its tile is. -/
def sq : Fin 4 := ⟨t.val / 11, by have h : t.val < 44 := t.isLt; omega⟩
def col (k : Fin 256) : Fin 2816 := ⟨256 * (t.val % 11) + k.val, by omega⟩

theorem h_at (R d : Fin 1024) : hRow m c t R d = rows m c (sq t) R d := by
  unfold hRow
  blk_ext [iblk, V, idx t, rows, rowOf, sq]
theorem wU_at (d : Fin 1024) (k : Fin 256) : wU m c t d k = wgtUp m c d (colU (col t k)) := by
  unfold wU
  blk_ext [iblk, V, idx t, wgtUp, colU, col]
theorem wG_at (d : Fin 1024) (k : Fin 256) : wG m c t d k = wgtUp m c d (colG (col t k)) := by
  unfold wG
  blk_ext [iblk, V, idx t, wgtUp, colG, col]
theorem tapU_at (n : Fin 3) (k : Fin 256) : tapU m c t n k = wgtC m c n (colU (col t k)) := by
  unfold tapU
  blk_ext [iblk, V, idx t, wgtC, colU, col]
theorem tapG_at (n : Fin 3) (k : Fin 256) : tapG m c t n k = wgtC m c n (colG (col t k)) := by
  unfold tapG
  blk_ext [iblk, V, idx t, wgtC, colG, col]
theorem down_at (k : Fin 256) (l : Fin 1024) : down m c t k l = wgtD m c (col t k) l := by
  unfold down
  blk_ext [iblk, V, idx t, wgtD, col]

theorem gain_at (R l : Fin 1024) : gain m c t R l = ∑ k : Fin 256, act (rows m c (sq t)) (wgtUp m c) (wgtC m c) R (col t k) * wgtD m c (col t k) l := by
  unfold gain added
  refine Finset.sum_congr rfl fun k _ => ?_
  unfold act upConv upRow
  simp only [h_at, wU_at, wG_at, tapU_at, tapG_at, down_at]

/-- The accumulator after a sequence's last column tile. -/
theorem acc_last (h : t.val % 11 = 10) (R l : Fin 1024) : (outsAt0 m c t.val t.isLt).2.1 (ix2 (n0 := 1024) (n1 := 1024) R l)
    = ∑ K : Fin 2816, act (rows m c (sq t)) (wgtUp m c) (wgtC m c) R K * wgtD m c K l := by
  rw [Pipeline.eq_sum_fin_of_reset_step_of_flush (N := grid0.N)
    (fun n h => ((outsAt0 m c n h).2.1 (ix2 (n0 := 1024) (n1 := 1024) R l) : EReal)) 11 0 (fun t => gain m c t R l)
    (fun t h => acc_first m c t h R l) (fun t h => acc_next m c t h R l) t h, zero_add]
  simp only [gain_at]
  refine Fin.sum_mul_add_congr fun s k hl => ?_
  have hs : (11 * (t.val / 11) + s.val) / 11 = t.val / 11 := by omega
  have hk : 256 * ((11 * (t.val / 11) + s.val) % 11) + k.val = s.val * 256 + k.val := by omega
  refine congrArg₂ (fun a K => act (rows m c a) (wgtUp m c) (wgtC m c) R K * wgtD m c K l) (Fin.ext hs) (Fin.ext hk)

theorem out_window (h : t.val % 11 = 10) (r l : Fin 1024) :
    (dats m 0 c).after (9 : Fin 10) t (ix2 (n0 := 1024) (n1 := 1024) r l) = result m c (rowOf (sq t) r) l := by
  rw [out_last m c t h]
  unfold result ffnRow
  rw [seqOf_rowOf, show (⟨(rowOf (sq t) r).val % 1024, Nat.mod_lt _ (by decide)⟩ : Fin 1024) = r from
    Fin.ext (by show ((sq t).val * 1024 + r.val) % 1024 = r.val; omega)]
  refine congrArg₂ (fun a b : EReal => a * b) (congrFun (congrArg rmsRow (funext fun l => ?_)) l) ?_
  · unfold resid
    rw [← acc_next m c t (by omega), acc_last m c t h]
    refine congrArg₂ (fun a b : EReal => a + b) ?_ (congrArg₂ (fun a b : EReal => a * b) ?_ rfl)
    · blk_ext [iblk, V, idx t, skip, rowOf, sq]
    · blk_ext [iblk, V, idx t, gates, sq]
  · blk_ext [iblk, V, idx t, finalG]

theorem out_array : (dats m 0 c).arrAt 9 cfg0.N = arr2 (result m c) := by
  refine (dats m 0 c).arrAt_eq_of_covers 9 _ (by decide +kernel) fun t hf y => ?_
  obtain ⟨r, l, rfl⟩ : ∃ (r l : Fin 1024), y = ix2 (n0 := 1024) (n1 := 1024) r l := ⟨_, _, eq_ix2 y⟩
  refine Eq.trans ?_ ((out_window m c t ((flush0_9 t).mp hf) r l).trans (arr2_of (result m c) _ (rowOf (sq t) r) l ?_ ?_).symm)
  all_goals blk_simp [idx t]
  all_goals first | rfl | (show _ = t.val / 11 * 1024 + r.val; omega)

end Cert.FfnIdeal.Hand
end
-- ==== Proof.FfnClaim.lean ====
/- The plainly written feed-forward gives the same array, so kernel and reference end with equal results. -/
module

public import proofs.«01_k».proof.Defs
public import proofs.«01_k».proof.Proof.FfnArr
public import proofs.«01_k».proof.Proof.Gen.FfnRefIdeal
public import proofs.«01_k».proof.Proof.Gen.FfnRefIdeal.Run
public import proofs.«01_k».proof.Proof.Gen.FfnRefIdeal.Read

@[expose] public section

set_option maxRecDepth 16384

noncomputable section

namespace Cert.FfnRefIdeal.Hand

open Cert.FfnRefIdeal Cert.FfnRefIdeal.Gen Cert.FfnRefIdeal.Read Cert.Rows Idealize.ShloMosaic Idealize.ShloMosaic.TcCoe
open Cert.FfnIdeal.Hand (pad_before pad_behind)

variable (x0 : FVec Ideal S4096x1024 .bf16) (x1 : FVec Ideal S4096x1024 .f32) (x2 : FVec Ideal S4x1x1024 .f32)
  (x3 : FVec Ideal S1024x5632 .bf16) (x4 : FVec Ideal S3x5632 .f32) (x5 : FVec Ideal S2816x1024 .bf16) (x6 : FVec Ideal S1x1024 .f32)

/-- The arrays' entries: the rows by sequence. -/
def rows (b : Fin 4) (R d : Fin 1024) : EReal := x0 (ix2 (n0 := 4096) (n1 := 1024) (rowOf b R) d)
def wgtUp (d : Fin 1024) (K : Fin 5632) : EReal := x3 (ix2 (n0 := 1024) (n1 := 5632) d K)
def wgtC (n : Fin 3) (K : Fin 5632) : EReal := x4 (ix2 (n0 := 3) (n1 := 5632) n K)

def skip (b : Fin 4) (R l : Fin 1024) : EReal := x1 (ix2 (n0 := 4096) (n1 := 1024) (rowOf b R) l)

/-- The feed-forward of these arrays. -/
def result (R : Fin 4096) (l : Fin 1024) : EReal :=
  ffnRow (rows x0 (seqOf R)) (wgtUp x3) (wgtC x4) (skip x1 (seqOf R))
    (fun l => x2 (ix3 (n0 := 4) (n1 := 1) (n2 := 1024) (seqOf R) 0 l)) (fun K l => x5 (ix2 (n0 := 2816) (n1 := 1024) K l))
    (fun l => x6 (ix2 (n0 := 1) (n1 := 1024) 0 l)) ⟨R.val % 1024, Nat.mod_lt _ (by decide)⟩ l

theorem up_read (b : Fin 4) (r : Fin 1024) (K : Fin 5632) : val_main_v4 (F := Ideal) x0 x3 (ix3 (n0 := 4) (n1 := 1024) (n2 := 5632) b r K)
    = ∑ d : Fin 1024, rows x0 b r d * wgtUp x3 d K := by
  pointwise [val_main_v4, val_main_v3, val_main_v1, val_main_v0]
  rfl

theorem conv_read (b : Fin 4) (r : Fin 1024) (K : Fin 5632) :
    val_main_v25 (F := Ideal) x0 x3 x4 (ix3 (n0 := 4) (n1 := 1024) (n2 := 5632) b r K) = upConv (rows x0 b) (wgtUp x3) (wgtC x4) K r := by
  have h := fun r => up_read x0 x3 b r K
  unfold val_main_v25 val_main_v24 val_main_v19 val_main_v18 val_main_v17 val_main_v12 val_main_v11 val_main_v6 val_main_v5
  generalize val_main_v4 (F := Ideal) x0 x3 = M at h ⊢
  pointwise [val_main_v23, val_main_v22, val_main_v21, val_main_v20, val_main_v16, val_main_v15, val_main_v14, val_main_v13, val_main_v10,
    val_main_v9, val_main_v8, val_main_v7, val_main_call0_v0, val_main_c, h]
  rw [pad_before (fun R => ∑ d, rows x0 b R d * wgtUp x3 d K) r, pad_behind (fun R => ∑ d, rows x0 b R d * wgtUp x3 d K) r]
  rfl

theorem act_read (b : Fin 4) (r : Fin 1024) (K : Fin 2816) :
    val_main_v29 (F := Ideal) x0 x3 x4 (ix3 (n0 := 4) (n1 := 1024) (n2 := 2816) b r K) = act (rows x0 b) (wgtUp x3) (wgtC x4) r K := by
  have h := fun K => conv_read x0 x3 x4 b r K
  unfold val_main_v29 val_main_v28 val_main_call1_v5 val_main_call1_v3 val_main_call1_v1 val_main_call1_v0 val_main_v27 val_main_v26
  generalize val_main_v25 (F := Ideal) x0 x3 x4 = M at h ⊢
  pointwise [val_main_call1_v4, val_main_call1_v2, val_main_call1_cst, val_main_call1_cst_0, h]
  rfl

theorem row_read (b : Fin 4) (r l : Fin 1024) :
    val_main_v48 (F := Ideal) x0 x1 x2 x3 x4 x5 x6 (ix3 (n0 := 4) (n1 := 1024) (n2 := 1024) b r l)
      = ffnRow (rows x0 b) (wgtUp x3) (wgtC x4) (skip x1 b)
    (fun l => x2 (ix3 (n0 := 4) (n1 := 1) (n2 := 1024) b 0 l)) (fun K l => x5 (ix2 (n0 := 2816) (n1 := 1024) K l))
    (fun l => x6 (ix2 (n0 := 1) (n1 := 1024) 0 l)) r l := by
  have h := act_read x0 x3 x4 b r
  unfold val_main_v48 val_main_v45 val_main_v44 val_main_v43 val_main_v42 val_main_v40 val_main_v38 val_main_v37 val_main_v36 val_main_v34 val_main_v33 val_main_v31
  unfold ffnRow
  generalize val_main_v29 (F := Ideal) x0 x3 x4 = M at h ⊢
  generalize act (rows x0 b) (wgtUp x3) (wgtC x4) r = N at h ⊢
  pointwise [val_main_v47, val_main_v46, val_main_v41, val_main_v39, val_main_v35, val_main_v32, val_main_v30, val_main_v2,
    val_main_cst, val_main_cst_0, val_main_cst_1, h]
  rfl

theorem result_read : val_main_v49 (F := Ideal) x0 x1 x2 x3 x4 x5 x6 = arr2 (result x0 x1 x2 x3 x4 x5 x6) := by
  funext i
  obtain ⟨R, l, rfl⟩ : ∃ (R : Fin 4096) (l : Fin 1024), i = ix2 (n0 := 4096) (n1 := 1024) R l := ⟨_, _, eq_ix2 i⟩
  rw [arr2_of _ _ R l rfl rfl]
  have h := row_read x0 x1 x2 x3 x4 x5 x6 (seqOf R) ⟨R.val % 1024, Nat.mod_lt _ (by decide)⟩ l
  refine Eq.trans ?_ h
  unfold val_main_v49
  pointwise
  rfl

end Cert.FfnRefIdeal.Hand

namespace Cert.Hand

open Cert.Rows Idealize.ShloMosaic Idealize.ShloMosaic.TcCoe Idealize.SL.Sem

theorem ffn_algebraic : Cert.algebraic_FfnIdeal_FfnRefIdeal (hFfnIdeal := Cert.FfnIdeal.Gen.facts)
    (hFfnRefIdeal := Cert.FfnRefIdeal.Gen.facts) := by
  intro m g m' g' _ hag
  refine ⟨fun c => arr2 (Cert.FfnIdeal.Hand.result m c), ?_, ?_⟩
  · refine (θ_run _ _ _).mono (fun r h c => ?_) (Cert.FfnIdeal.Value.run_blocks m g)
    obtain ⟨h0, ha⟩ := h c
    exact ⟨h0.trans (Cert.FfnIdeal.Hand.out_array m c), ha⟩
  · refine (θ_run _ _ _).mono (fun r h c => ?_) (Cert.FfnRefIdeal.Value.run (F := Ideal) m' g')
    obtain ⟨h0, ha⟩ := h c
    obtain ⟨a0, a1, a2, a3, a4, a5, a6⟩ := hag c
    refine ⟨h0.trans ?_, ha⟩
    rw [Cert.FfnRefIdeal.Read.val_main_v49_eq, a0, a1, a2, a3, a4, a5, a6]
    exact Cert.FfnRefIdeal.Hand.result_read _ _ _ _ _ _ _

end Cert.Hand
end
-- ==== Proof.ProjArr.lean ====
/- The combined projection: what it is, and that the kernel leaves it in its five arrays. -/
module

public import proofs.«01_k».proof.Proof.Gen.ProjIdeal.Value
public import proofs.«01_k».proof.Proof.Rows
public import Idealize.ShloMosaic.Lib.Pipeline.ReadBack

@[expose] public section

set_option maxRecDepth 16384

noncomputable section

namespace Cert.Rows

open Idealize.ShloMosaic

/-- The projection: every row normalised and modulated by its sequence's scale and shift, against a column of the weights. -/
def projRow (X : Fin 4096 → Fin 1024 → EReal) (md : Fin 4 → Fin 6 → Fin 1024 → EReal) (g : Fin 1024 → EReal) (R : Fin 4096) :
    Fin 1024 → EReal := modRow (X R) g (md (seqOf R) 1) (md (seqOf R) 0)

def proj (X : Fin 4096 → Fin 1024 → EReal) (md : Fin 4 → Fin 6 → Fin 1024 → EReal) (g : Fin 1024 → EReal)
    (w : Fin 1024 → Fin 4608 → EReal) (R : Fin 4096) (j : Fin 4608) : EReal := ∑ k, projRow X md g R k * w k j

/-- The `n` columns of a matrix from column `o` on. -/
def cols {a N : Nat} (o n : Nat) (h : o + n ≤ N) (f : Fin a → Fin N → EReal) (R : Fin a) (j : Fin n) : EReal := f R ⟨o + j.val, by omega⟩

end Cert.Rows

namespace Cert.ProjIdeal.Hand

open Cert.ProjIdeal Cert.ProjIdeal.Gen Cert.Rows Idealize.ShloMosaic Idealize.ShloMosaic.TcCoe
open Idealize.ShloMosaic.Pipeline (Dat)

/-! ## The body's operations at an index -/

theorem row_apply (v0 : Vec Ideal S1024x1024 .f32) (v11 : Vec Ideal S1x1024 .f32) (v14 v20 : Vec Ideal S1x1x1024 .f32) (r l : Fin 1024) :
    k0_pay4 v0 v11 v14 v20 (ix2 (n0 := 1024) (n1 := 1024) r l)
      = modRow (fun k => v0 (ix2 r k)) (fun k => v11 (ix2 0 k)) (fun k => v14 (ix3 0 0 k)) (fun k => v20 (ix3 0 0 k)) l := by
  pointwise [k0_pay4]
  rfl

theorem qkv_apply (v0 : Vec Ideal S1024x1024 .f32) (v11 : Vec Ideal S1x1024 .f32) (v14 v20 : Vec Ideal S1x1x1024 .f32)
    (w : Vec Ideal S1024x768 .bf16) (r : Fin 1024) (l : Fin 768) : k0_pay5 v0 v11 v14 v20 w (ix2 (n0 := 1024) (n1 := 768) r l)
      = ∑ k : Fin 1024, k0_pay4 v0 v11 v14 v20 (ix2 r k) * w (ix2 k l) := by
  unfold k0_pay5
  generalize k0_pay4 v0 v11 v14 v20 = A
  pointwise

theorem rkv_apply (v0 : Vec Ideal S1024x1024 .f32) (v11 : Vec Ideal S1x1024 .f32) (v14 v20 : Vec Ideal S1x1x1024 .f32)
    (w : Vec Ideal S1024x1536 .bf16) (r : Fin 1024) (l : Fin 1536) : k0_pay6 v0 v11 v14 v20 w (ix2 (n0 := 1024) (n1 := 1536) r l)
      = ∑ k : Fin 1024, k0_pay4 v0 v11 v14 v20 (ix2 r k) * w (ix2 k l) := by
  unfold k0_pay6
  generalize k0_pay4 v0 v11 v14 v20 = A
  pointwise

theorem lora_apply (A : FVec Ideal S1024x1024 .bf16) (w : Vec Ideal S1024x256 .bf16) (r : Fin 1024) (l : Fin 256) :
    k0_pay1 A w (ix2 (n0 := 1024) (n1 := 256) r l) = ∑ k : Fin 1024, A (ix2 r k) * w (ix2 k l) := by
  pointwise [k0_pay1]

theorem ga_apply (A : FVec Ideal S1024x1024 .bf16) (w : Vec Ideal S1024x1024 .bf16) (r l : Fin 1024) :
    k0_pay2 A w (ix2 (n0 := 1024) (n1 := 1024) r l) = gate (∑ k : Fin 1024, A (ix2 r k) * w (ix2 k l)) := by
  pointwise [k0_pay2]
  rw [zero_sub]
  rfl

theorem gr_apply (A : FVec Ideal S1024x1024 .bf16) (w : Vec Ideal S1024x1024 .bf16) (r l : Fin 1024) :
    k0_pay3 A w (ix2 (n0 := 1024) (n1 := 1024) r l) = gate (∑ k : Fin 1024, A (ix2 r k) * w (ix2 k l)) := by
  pointwise [k0_pay3]
  rw [zero_sub]
  rfl

/-! ## The arrays -/

variable (m : (ℓ : Loc nD τ sig) → Buf (Elt Ideal) ℓ) (c : Dev nD)

/-- The arguments as functions of their indices. -/
def rows (R : Fin 4096) (k : Fin 1024) : EReal := m ((c.tc : Thread nD τ).loc main_arg0) (ix2 (n0 := 4096) (n1 := 1024) R k)
def mods (b : Fin 4) (n : Fin 6) (k : Fin 1024) : EReal := m ((c.tc : Thread nD τ).loc main_arg1) (ix3 (n0 := 4) (n1 := 6) (n2 := 1024) b n k)
def gain (k : Fin 1024) : EReal := m ((c.tc : Thread nD τ).loc main_arg2) (ix2 (n0 := 1) (n1 := 1024) 0 k)
def wgt (k : Fin 1024) (j : Fin 4608) : EReal := m ((c.tc : Thread nD τ).loc main_arg3) (ix2 (n0 := 1024) (n1 := 4608) k j)

/-- The whole projection of the arguments. -/
def P : Fin 4096 → Fin 4608 → EReal := proj (rows m c) (mods m c) (gain m c) (wgt m c)

theorem idx : ∀ t : Fin grid0.N, win0_0.index t = ![t.val, 0] ∧ win0_1.index t = ![t.val, 0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] := by decide +kernel

variable (t : Fin grid0.N)

/-- The sequence a point works on. -/
def sq : Fin 4 := ⟨t.val, t.isLt⟩

/-- Where a load of some columns of the weights reads. -/
theorem ld2 (o : Nat) {n : Nat} (i) (k : Fin 1024) (l : Fin n) (h : o + l.val < 4608) :
    (Rect.unit (s := S1024x4608) ![0, o] (⟨2, ![1024, n]⟩ : Shape).size i).emb (ix2 (n0 := 1024) (n1 := n) k l)
      = ix2 (n0 := 1024) (n1 := 4608) k ⟨o + l.val, h⟩ := by
  funext a; apply Fin.ext; fin_cases a <;> simp <;> rfl

/-- The normalised rows a point multiplies. -/
theorem point_row (r l : Fin 1024) : k0_pay4 (iblk m c 0 t) (iblk m c 2 t) (View.ld (iblk m c 1 t) r0_2) (View.ld (iblk m c 1 t) r0_3)
    (ix2 (n0 := 1024) (n1 := 1024) r l) = projRow (rows m c) (mods m c) (gain m c) (rowOf (sq t) r) l := by
  rw [row_apply]
  unfold projRow
  rw [seqOf_rowOf]
  congr 1 <;> funext k
  · blk_ext [iblk, V, idx t, rows, sq, rowOf]
  · blk_ext [iblk, V, idx t, gain]
  · refine (congrArg (iblk m c 1 t) (ld3 1 _ k)).trans ?_
    blk_ext [iblk, V, idx t, mods, sq]
  · refine (congrArg (iblk m c 1 t) (ld3 0 _ k)).trans ?_
    blk_ext [iblk, V, idx t, mods, sq]

theorem qkv_window (r : Fin 1024) (l : Fin 768) :
    (dats m 0 c).after (4 : Fin 9) t (ix2 (n0 := 1024) (n1 := 768) r l) = P m c (rowOf (sq t) r) ⟨0 + l.val, by omega⟩ := by
  have e : (dats m 0 c).after (4 : Fin 9) t = (k0_pay5 (iblk m c 0 t) (iblk m c 2 t) (View.ld (iblk m c 1 t) r0_2)
      (View.ld (iblk m c 1 t) r0_3) (View.ld (iblk m c 3 t) r0_4) : FVec Ideal S1024x768 .f32) := by rw [after0_4]; frame_out; rfl
  rw [e, qkv_apply]
  unfold P proj
  refine dot_congr _ _ _ _ (fun k => point_row m c t r k) fun k => ?_
  refine (congrArg (iblk m c 3 t) (ld2 0 _ k l (by omega))).trans ?_
  blk_ext [iblk, V, idx t, wgt]

theorem rkv_window (r : Fin 1024) (l : Fin 1536) :
    (dats m 0 c).after (5 : Fin 9) t (ix2 (n0 := 1024) (n1 := 1536) r l) = P m c (rowOf (sq t) r) ⟨768 + l.val, by omega⟩ := by
  have e : (dats m 0 c).after (5 : Fin 9) t = (k0_pay6 (iblk m c 0 t) (iblk m c 2 t) (View.ld (iblk m c 1 t) r0_2)
      (View.ld (iblk m c 1 t) r0_3) (View.ld (iblk m c 3 t) r0_6) : FVec Ideal S1024x1536 .f32) := by rw [after0_5]; frame_out; rfl
  rw [e, rkv_apply]
  unfold P proj
  refine dot_congr _ _ _ _ (fun k => point_row m c t r k) fun k => ?_
  refine (congrArg (iblk m c 3 t) (ld2 768 _ k l (by omega))).trans ?_
  blk_ext [iblk, V, idx t, wgt]

/-- The normalised rows, under the name the later windows read them by. -/
theorem point_rows : k0_pay7 (iblk m c 0 t) (iblk m c 1 t) (iblk m c 2 t) (iblk m c 3 t)
    = k0_pay4 (iblk m c 0 t) (iblk m c 2 t) (View.ld (iblk m c 1 t) r0_2) (View.ld (iblk m c 1 t) r0_3) := by
  unfold k0_pay7
  congr 1 <;> frame_out

theorem lora_window (r : Fin 1024) (l : Fin 256) :
    (dats m 0 c).after (6 : Fin 9) t (ix2 (n0 := 1024) (n1 := 256) r l) = P m c (rowOf (sq t) r) ⟨2304 + l.val, by omega⟩ := by
  have e : (dats m 0 c).after (6 : Fin 9) t = (k0_pay1 (k0_pay7 (iblk m c 0 t) (iblk m c 1 t) (iblk m c 2 t) (iblk m c 3 t))
      (View.ld (iblk m c 3 t) r0_8) : FVec Ideal S1024x256 .f32) := by rw [after0_6]; frame_out; rfl
  rw [e, point_rows, lora_apply]
  unfold P proj
  refine dot_congr _ _ _ _ (fun k => point_row m c t r k) fun k => ?_
  refine (congrArg (iblk m c 3 t) (ld2 2304 _ k l (by omega))).trans ?_
  blk_ext [iblk, V, idx t, wgt]

theorem ga_window (r l : Fin 1024) :
    (dats m 0 c).after (7 : Fin 9) t (ix2 (n0 := 1024) (n1 := 1024) r l) = gate (P m c (rowOf (sq t) r) ⟨2560 + l.val, by omega⟩) := by
  have e : (dats m 0 c).after (7 : Fin 9) t = (k0_pay2 (k0_pay7 (iblk m c 0 t) (iblk m c 1 t) (iblk m c 2 t) (iblk m c 3 t))
      (View.ld (iblk m c 3 t) r0_10) : FVec Ideal S1024x1024 .bf16) := by rw [after0_7]; frame_out; rfl
  rw [e, point_rows, ga_apply]
  unfold P proj
  refine congrArg gate (dot_congr _ _ _ _ (fun k => point_row m c t r k) fun k => ?_)
  refine (congrArg (iblk m c 3 t) (ld2 2560 _ k l (by omega))).trans ?_
  blk_ext [iblk, V, idx t, wgt]

theorem gr_window (r l : Fin 1024) :
    (dats m 0 c).after (8 : Fin 9) t (ix2 (n0 := 1024) (n1 := 1024) r l) = gate (P m c (rowOf (sq t) r) ⟨3584 + l.val, by omega⟩) := by
  have e : (dats m 0 c).after (8 : Fin 9) t = (k0_pay3 (k0_pay7 (iblk m c 0 t) (iblk m c 1 t) (iblk m c 2 t) (iblk m c 3 t))
      (View.ld (iblk m c 3 t) r0_11) : FVec Ideal S1024x1024 .bf16) := by rw [after0_8]; frame_out; rfl
  rw [e, point_rows, gr_apply]
  unfold P proj
  refine congrArg gate (dot_congr _ _ _ _ (fun k => point_row m c t r k) fun k => ?_)
  refine (congrArg (iblk m c 3 t) (ld2 3584 _ k l (by omega))).trans ?_
  blk_ext [iblk, V, idx t, wgt]

theorem qkv_array : (dats m 0 c).arrAt 4 cfg0.N = arr2 (cols 0 768 (by decide) (P m c)) := by
  refine (dats m 0 c).arrAt_eq_of_covers 4 _ (by decide +kernel) fun t hf y => ?_
  obtain ⟨r, l, rfl⟩ : ∃ (r : Fin 1024) (l : Fin 768), y = ix2 (n0 := 1024) (n1 := 768) r l := ⟨_, _, eq_ix2 y⟩
  refine Eq.trans ?_ ((qkv_window m c t r l).trans (arr2_of (cols 0 768 (by decide) (P m c)) _ (rowOf (sq t) r) l ?_ ?_).symm)
  all_goals blk_simp [idx t]
  all_goals first | rfl | (show _ = t.val * 1024 + r.val; omega)

theorem rkv_array : (dats m 0 c).arrAt 5 cfg0.N = arr2 (cols 768 1536 (by decide) (P m c)) := by
  refine (dats m 0 c).arrAt_eq_of_covers 5 _ (by decide +kernel) fun t hf y => ?_
  obtain ⟨r, l, rfl⟩ : ∃ (r : Fin 1024) (l : Fin 1536), y = ix2 (n0 := 1024) (n1 := 1536) r l := ⟨_, _, eq_ix2 y⟩
  refine Eq.trans ?_ ((rkv_window m c t r l).trans (arr2_of (cols 768 1536 (by decide) (P m c)) _ (rowOf (sq t) r) l ?_ ?_).symm)
  all_goals blk_simp [idx t]
  all_goals first | rfl | (show _ = t.val * 1024 + r.val; omega)

theorem lora_array : (dats m 0 c).arrAt 6 cfg0.N = arr2 (cols 2304 256 (by decide) (P m c)) := by
  refine (dats m 0 c).arrAt_eq_of_covers 6 _ (by decide +kernel) fun t hf y => ?_
  obtain ⟨r, l, rfl⟩ : ∃ (r : Fin 1024) (l : Fin 256), y = ix2 (n0 := 1024) (n1 := 256) r l := ⟨_, _, eq_ix2 y⟩
  refine Eq.trans ?_ ((lora_window m c t r l).trans (arr2_of (cols 2304 256 (by decide) (P m c)) _ (rowOf (sq t) r) l ?_ ?_).symm)
  all_goals blk_simp [idx t]
  all_goals first | rfl | (show _ = t.val * 1024 + r.val; omega)

theorem ga_array : (dats m 0 c).arrAt 7 cfg0.N = arr2 (fun R j => gate (cols 2560 1024 (by decide) (P m c) R j)) := by
  refine (dats m 0 c).arrAt_eq_of_covers 7 _ (by decide +kernel) fun t hf y => ?_
  obtain ⟨r, l, rfl⟩ : ∃ (r : Fin 1024) (l : Fin 1024), y = ix2 (n0 := 1024) (n1 := 1024) r l := ⟨_, _, eq_ix2 y⟩
  refine Eq.trans ?_ ((ga_window m c t r l).trans
    (arr2_of (fun R j => gate (cols 2560 1024 (by decide) (P m c) R j)) _ (rowOf (sq t) r) l ?_ ?_).symm)
  all_goals blk_simp [idx t]
  all_goals first | rfl | (show _ = t.val * 1024 + r.val; omega)

theorem gr_array : (dats m 0 c).arrAt 8 cfg0.N = arr2 (fun R j => gate (cols 3584 1024 (by decide) (P m c) R j)) := by
  refine (dats m 0 c).arrAt_eq_of_covers 8 _ (by decide +kernel) fun t hf y => ?_
  obtain ⟨r, l, rfl⟩ : ∃ (r : Fin 1024) (l : Fin 1024), y = ix2 (n0 := 1024) (n1 := 1024) r l := ⟨_, _, eq_ix2 y⟩
  refine Eq.trans ?_ ((gr_window m c t r l).trans
    (arr2_of (fun R j => gate (cols 3584 1024 (by decide) (P m c) R j)) _ (rowOf (sq t) r) l ?_ ?_).symm)
  all_goals blk_simp [idx t]
  all_goals first | rfl | (show _ = t.val * 1024 + r.val; omega)

end Cert.ProjIdeal.Hand
end
-- ==== Proof.ProjClaim.lean ====
/- The plainly written projection gives the same five arrays, so kernel and reference end with equal results. -/
module

public import proofs.«01_k».proof.Defs
public import proofs.«01_k».proof.Proof.ProjArr
public import proofs.«01_k».proof.Proof.Gen.ProjRefIdeal
public import proofs.«01_k».proof.Proof.Gen.ProjRefIdeal.Run
public import proofs.«01_k».proof.Proof.Gen.ProjRefIdeal.Read

@[expose] public section

set_option maxRecDepth 16384

noncomputable section

namespace Cert.ProjRefIdeal.Hand

open Cert.ProjRefIdeal Cert.ProjRefIdeal.Gen Cert.ProjRefIdeal.Read Cert.Rows Idealize.ShloMosaic Idealize.ShloMosaic.TcCoe

variable (x0 : FVec Ideal S4096x1024 .f32) (x1 : FVec Ideal S4x6x1024 .f32) (x2 : FVec Ideal S1x1024 .f32)
  (x3 : FVec Ideal S1024x4608 .bf16)

/-- The projection of these arrays. -/
def P : Fin 4096 → Fin 4608 → EReal :=
  proj (fun R k => x0 (ix2 (n0 := 4096) (n1 := 1024) R k)) (fun b n k => x1 (ix3 (n0 := 4) (n1 := 6) (n2 := 1024) b n k))
    (fun k => x2 (ix2 (n0 := 1) (n1 := 1024) 0 k)) (fun k j => x3 (ix2 (n0 := 1024) (n1 := 4608) k j))

theorem row_read (b : Fin 4) (r l : Fin 1024) : val_main_v26 (F := Ideal) x0 x1 x2 (ix3 (n0 := 4) (n1 := 1024) (n2 := 1024) b r l)
    = projRow (fun R k => x0 (ix2 (n0 := 4096) (n1 := 1024) R k)) (fun b n k => x1 (ix3 (n0 := 4) (n1 := 6) (n2 := 1024) b n k))
        (fun k => x2 (ix2 (n0 := 1) (n1 := 1024) 0 k)) (rowOf b r) l := by
  unfold projRow
  rw [seqOf_rowOf]
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  rfl

theorem proj_read (R : Fin 4096) (j : Fin 4608) :
    val_main_v29 (F := Ideal) x0 x1 x2 x3 (ix2 (n0 := 4096) (n1 := 4608) R j) = P x0 x1 x2 x3 R j := by
  have h := row_read x0 x1 x2 (seqOf R) ⟨R.val % 1024, Nat.mod_lt _ (by decide)⟩
  rw [← row_split] at h
  unfold val_main_v29 val_main_v28
  generalize val_main_v26 (F := Ideal) x0 x1 x2 = H at h ⊢
  pointwise [val_main_v27]
  exact dot_congr _ _ _ _ h fun k => rfl

theorem qkv_read : val_main_v30 (F := Ideal) x0 x1 x2 x3 = arr2 (cols 0 768 (by decide) (P x0 x1 x2 x3)) := by
  funext i
  obtain ⟨R, l, rfl⟩ : ∃ (R : Fin 4096) (l : Fin 768), i = ix2 (n0 := 4096) (n1 := 768) R l := ⟨_, _, eq_ix2 i⟩
  rw [arr2_of _ _ R l rfl rfl]
  have h := proj_read x0 x1 x2 x3 R
  unfold val_main_v30
  generalize val_main_v29 (F := Ideal) x0 x1 x2 x3 = Y at h ⊢
  pointwise
  refine (h _).trans (congrArg (P x0 x1 x2 x3 R) (Fin.ext ?_))
  show l.val = 0 + l.val; omega

theorem rkv_read : val_main_v31 (F := Ideal) x0 x1 x2 x3 = arr2 (cols 768 1536 (by decide) (P x0 x1 x2 x3)) := by
  funext i
  obtain ⟨R, l, rfl⟩ : ∃ (R : Fin 4096) (l : Fin 1536), i = ix2 (n0 := 4096) (n1 := 1536) R l := ⟨_, _, eq_ix2 i⟩
  rw [arr2_of _ _ R l rfl rfl]
  have h := proj_read x0 x1 x2 x3 R
  unfold val_main_v31
  generalize val_main_v29 (F := Ideal) x0 x1 x2 x3 = Y at h ⊢
  pointwise
  exact h _

theorem lora_read : val_main_v32 (F := Ideal) x0 x1 x2 x3 = arr2 (cols 2304 256 (by decide) (P x0 x1 x2 x3)) := by
  funext i
  obtain ⟨R, l, rfl⟩ : ∃ (R : Fin 4096) (l : Fin 256), i = ix2 (n0 := 4096) (n1 := 256) R l := ⟨_, _, eq_ix2 i⟩
  rw [arr2_of _ _ R l rfl rfl]
  have h := proj_read x0 x1 x2 x3 R
  unfold val_main_v32
  generalize val_main_v29 (F := Ideal) x0 x1 x2 x3 = Y at h ⊢
  pointwise
  exact h _

theorem ga_read : val_main_v41 (F := Ideal) x0 x1 x2 x3 = arr2 (fun R j => gate (cols 2560 1024 (by decide) (P x0 x1 x2 x3) R j)) := by
  funext i
  obtain ⟨R, l, rfl⟩ : ∃ (R : Fin 4096) (l : Fin 1024), i = ix2 (n0 := 4096) (n1 := 1024) R l := ⟨_, _, eq_ix2 i⟩
  rw [arr2_of _ _ R l rfl rfl]
  have h := proj_read x0 x1 x2 x3 R
  unfold val_main_v41 val_main_v40 val_main_v38 val_main_v36 val_main_v35 val_main_v33
  generalize val_main_v29 (F := Ideal) x0 x1 x2 x3 = Y at h ⊢
  pointwise [val_main_v39, val_main_v37, val_main_cst_3, val_main_cst_4]
  exact congrArg gate (h _)

theorem gr_read : val_main_v48 (F := Ideal) x0 x1 x2 x3 = arr2 (fun R j => gate (cols 3584 1024 (by decide) (P x0 x1 x2 x3) R j)) := by
  funext i
  obtain ⟨R, l, rfl⟩ : ∃ (R : Fin 4096) (l : Fin 1024), i = ix2 (n0 := 4096) (n1 := 1024) R l := ⟨_, _, eq_ix2 i⟩
  rw [arr2_of _ _ R l rfl rfl]
  have h := proj_read x0 x1 x2 x3 R
  unfold val_main_v48 val_main_v47 val_main_v45 val_main_v43 val_main_v42 val_main_v34
  generalize val_main_v29 (F := Ideal) x0 x1 x2 x3 = Y at h ⊢
  pointwise [val_main_v46, val_main_v44, val_main_cst_5, val_main_cst_6]
  exact congrArg gate (h _)

end Cert.ProjRefIdeal.Hand

namespace Cert.Hand

open Cert.Rows Idealize.ShloMosaic Idealize.ShloMosaic.TcCoe Idealize.SL.Sem

theorem proj_algebraic : Cert.algebraic_ProjIdeal_ProjRefIdeal (hProjIdeal := Cert.ProjIdeal.Gen.facts)
    (hProjRefIdeal := Cert.ProjRefIdeal.Gen.facts) := by
  intro m g m' g' _ hag
  refine ⟨fun c => arr2 (cols 0 768 (by decide) (Cert.ProjIdeal.Hand.P m c)), fun c => arr2 (cols 768 1536 (by decide) (Cert.ProjIdeal.Hand.P m c)),
    fun c => arr2 (cols 2304 256 (by decide) (Cert.ProjIdeal.Hand.P m c)),
    fun c => arr2 (fun R j => gate (cols 2560 1024 (by decide) (Cert.ProjIdeal.Hand.P m c) R j)),
    fun c => arr2 (fun R j => gate (cols 3584 1024 (by decide) (Cert.ProjIdeal.Hand.P m c) R j)), ?_, ?_⟩
  · refine (θ_run _ _ _).mono (fun r h c => ?_) (Cert.ProjIdeal.Value.run_blocks m g)
    obtain ⟨h0, h1, h2, h3, h4, ha⟩ := h c
    exact ⟨h0.trans (Cert.ProjIdeal.Hand.qkv_array m c), h1.trans (Cert.ProjIdeal.Hand.rkv_array m c),
      h2.trans (Cert.ProjIdeal.Hand.lora_array m c), h3.trans (Cert.ProjIdeal.Hand.ga_array m c),
      h4.trans (Cert.ProjIdeal.Hand.gr_array m c), ha⟩
  · refine (θ_run _ _ _).mono (fun r h c => ?_) (Cert.ProjRefIdeal.Value.run (F := Ideal) m' g')
    obtain ⟨h0, h1, h2, h3, h4, ha⟩ := h c
    obtain ⟨a0, a1, a2, a3⟩ := hag c
    refine ⟨h0.trans ?_, h1.trans ?_, h2.trans ?_, h3.trans ?_, h4.trans ?_, ha⟩ <;> rw [a0, a1, a2, a3]
    · rw [Cert.ProjRefIdeal.Read.val_main_v30_eq]; exact Cert.ProjRefIdeal.Hand.qkv_read _ _ _ _
    · rw [Cert.ProjRefIdeal.Read.val_main_v31_eq]; exact Cert.ProjRefIdeal.Hand.rkv_read _ _ _ _
    · rw [Cert.ProjRefIdeal.Read.val_main_v32_eq]; exact Cert.ProjRefIdeal.Hand.lora_read _ _ _ _
    · rw [Cert.ProjRefIdeal.Read.val_main_v41_eq]; exact Cert.ProjRefIdeal.Hand.ga_read _ _ _ _
    · rw [Cert.ProjRefIdeal.Read.val_main_v48_eq]; exact Cert.ProjRefIdeal.Hand.gr_read _ _ _ _

end Cert.Hand
end
-- ==== Proof.MergeArr.lean ====
/- The merge of the two branches and the output projection: what they are, and that the kernel leaves them in its two arrays. -/
module

public import proofs.«01_k».proof.Proof.Gen.MergeIdeal.Value
public import proofs.«01_k».proof.Proof.Rows
public import Idealize.ShloMosaic.Lib.Pipeline.ReadBack

@[expose] public section

set_option maxRecDepth 16384

noncomputable section

namespace Cert.Rows

open Idealize.ShloMosaic

/-- One row of the gated sum of the two branches, each branch against its weights. -/
def mergedRow (a o : Fin 512 → EReal) (ga gr : Fin 1024 → EReal) (wa wr : Fin 512 → Fin 1024 → EReal) (j : Fin 1024) : EReal :=
  ga j * ∑ k, a k * wa k j + gr j * ∑ k, o k * wr k j

/-- One row after the output projection and the gated residual. -/
def residRow (x gt : Fin 1024 → EReal) (mg : Fin 1024 → EReal) (wo : Fin 1024 → Fin 1024 → EReal) (l : Fin 1024) : EReal :=
  x l + gt l * ∑ j, mg j * wo j l

end Cert.Rows

namespace Cert.MergeIdeal.Hand

open Cert.MergeIdeal Cert.MergeIdeal.Gen Cert.Rows Idealize.ShloMosaic Idealize.ShloMosaic.TcCoe
open Idealize.ShloMosaic.Pipeline (Dat)

/-! ## The body's operations at an index -/

theorem resid_apply (v0 : Vec Ideal S512x1024 .bf16) (v1 : Vec Ideal S512x512 .bf16) (v2 : Vec Ideal S512x1024 .bf16)
    (v6 : Vec Ideal S512x1024 .bf16) (v7 : Vec Ideal S512x512 .bf16) (v8 : Vec Ideal S512x1024 .bf16) (v13 : Vec Ideal S512x1024 .f32)
    (v14 : Vec Ideal S1x1x1024 .f32) (v17 : Vec Ideal S1024x1024 .bf16) (r : Fin 512) (l : Fin 1024) :
    k0_pay2 v0 v1 v2 v6 v7 v8 v13 v14 v17 (ix2 (n0 := 512) (n1 := 1024) r l)
      = residRow (fun k => v13 (ix2 r k)) (fun k => v14 (ix3 0 0 k))
          (mergedRow (fun k => v1 (ix2 r k)) (fun k => v7 (ix2 r k)) (fun k => v0 (ix2 r k)) (fun k => v6 (ix2 r k))
            (fun k j => v2 (ix2 k j)) (fun k j => v8 (ix2 k j))) (fun k j => v17 (ix2 k j)) l := by
  pointwise [k0_pay2]
  rfl

theorem next_apply (A : FVec Ideal S512x1024 .f32) (B : FVec Ideal S512x1 .f32) (v33 : Vec Ideal S1x1024 .f32) (v36 v42 : Vec Ideal S1x1x1024 .f32)
    (r : Fin 512) (l : Fin 1024) (hB : B (ix2 (n0 := 512) (n1 := 1) r 0) = Ideal.rsqrt (Ideal.div
      (∑ k : Fin 1024, A (ix2 r k) * A (ix2 r k)) (Ideal.ofBits FTy.f32 0x44800000#32) + Ideal.ofBits FTy.f32 0x358637BD#32)) :
    k0_pay1 A B v33 v36 v42 (ix2 (n0 := 512) (n1 := 1024) r l)
      = modRow (fun k => A (ix2 r k)) (fun k => v33 (ix2 0 k)) (fun k => v36 (ix3 0 0 k)) (fun k => v42 (ix3 0 0 k)) l := by
  pointwise [k0_pay1]
  rw [hB]
  rfl

theorem scale_apply (v0 : Vec Ideal S512x1024 .bf16) (v1 : Vec Ideal S512x512 .bf16) (v2 : Vec Ideal S512x1024 .bf16)
    (v6 : Vec Ideal S512x1024 .bf16) (v7 : Vec Ideal S512x512 .bf16) (v8 : Vec Ideal S512x1024 .bf16) (v13 : Vec Ideal S512x1024 .f32)
    (v14 : Vec Ideal S1x1x1024 .f32) (v17 : Vec Ideal S1024x1024 .bf16) (r : Fin 512) :
    k0_pay3 v0 v1 v2 v6 v7 v8 v13 v14 v17 (ix2 (n0 := 512) (n1 := 1) r 0) = Ideal.rsqrt (Ideal.div
      (∑ k : Fin 1024, k0_pay2 v0 v1 v2 v6 v7 v8 v13 v14 v17 (ix2 r k) * k0_pay2 v0 v1 v2 v6 v7 v8 v13 v14 v17 (ix2 r k))
      (Ideal.ofBits FTy.f32 0x44800000#32) + Ideal.ofBits FTy.f32 0x358637BD#32) := by
  unfold k0_pay3
  generalize k0_pay2 v0 v1 v2 v6 v7 v8 v13 v14 v17 = A
  pointwise

/-! ## The arrays -/

variable (m : (ℓ : Loc nD τ sig) → Buf (Elt Ideal) ℓ) (c : Dev nD)

/-- The arguments as functions of their indices. -/
def rows (R : Fin 4096) (k : Fin 1024) : EReal := m ((c.tc : Thread nD τ).loc main_arg0) (ix2 (n0 := 4096) (n1 := 1024) R k)
def att (R : Fin 4096) (k : Fin 512) : EReal := m ((c.tc : Thread nD τ).loc main_arg1) (ix2 (n0 := 4096) (n1 := 512) R k)
def rec (R : Fin 4096) (k : Fin 512) : EReal := m ((c.tc : Thread nD τ).loc main_arg2) (ix2 (n0 := 4096) (n1 := 512) R k)
def gateA (R : Fin 4096) (k : Fin 1024) : EReal := m ((c.tc : Thread nD τ).loc main_arg3) (ix2 (n0 := 4096) (n1 := 1024) R k)
def gateR (R : Fin 4096) (k : Fin 1024) : EReal := m ((c.tc : Thread nD τ).loc main_arg4) (ix2 (n0 := 4096) (n1 := 1024) R k)
def mods (b : Fin 4) (n : Fin 6) (k : Fin 1024) : EReal := m ((c.tc : Thread nD τ).loc main_arg5) (ix3 (n0 := 4) (n1 := 6) (n2 := 1024) b n k)
def gain (k : Fin 1024) : EReal := m ((c.tc : Thread nD τ).loc main_arg6) (ix2 (n0 := 1) (n1 := 1024) 0 k)
def wgtA (k : Fin 512) (j : Fin 1024) : EReal := m ((c.tc : Thread nD τ).loc main_arg7) (ix2 (n0 := 512) (n1 := 1024) k j)
def wgtR (k : Fin 512) (j : Fin 1024) : EReal := m ((c.tc : Thread nD τ).loc main_arg8) (ix2 (n0 := 512) (n1 := 1024) k j)
def wgtO (k : Fin 1024) (j : Fin 1024) : EReal := m ((c.tc : Thread nD τ).loc main_arg9) (ix2 (n0 := 1024) (n1 := 1024) k j)

/-- The rows after the residual, and the rows the feed-forward takes. -/
def resid (R : Fin 4096) : Fin 1024 → EReal := residRow (rows m c R) (mods m c (seqOf R) 2)
  (mergedRow (att m c R) (rec m c R) (gateA m c R) (gateR m c R) (wgtA m c) (wgtR m c)) (wgtO m c)
def next (R : Fin 4096) : Fin 1024 → EReal := modRow (resid m c R) (gain m c) (mods m c (seqOf R) 4) (mods m c (seqOf R) 3)

theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 2, 0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] := by decide +kernel

variable (t : Fin grid0.N)

/-- The row of the arrays that row `r` of a point's blocks is, and the sequence it lies in. -/
def at512 (r : Fin 512) : Fin 4096 := ⟨t.val * 512 + r.val, by have h : t.val < 8 := t.isLt; omega⟩

theorem seq_at (r : Fin 512) : (seqOf (at512 t r)).val = t.val / 2 := by
  show (t.val * 512 + r.val) / 1024 = t.val / 2; omega

/-- What a point computes before its second norm. -/
def blk2 : FVec Ideal S512x1024 .f32 := k0_pay2 (iblk m c 3 t) (iblk m c 1 t) (iblk m c 7 t) (iblk m c 4 t) (iblk m c 2 t) (iblk m c 8 t)
  (iblk m c 0 t) (View.ld (iblk m c 5 t) r0_2) (iblk m c 9 t)

theorem mod_at (n : Fin 6) (i) (r : Fin 512) (k : Fin 1024) :
    View.ld (iblk m c 5 t) (Rect.unit (s := S1x6x1024) ![0, n.val, 0] S1x1x1024.size i) (ix3 (n0 := 1) (n1 := 1) (n2 := 1024) 0 0 k)
      = mods m c (seqOf (at512 t r)) n k := by
  have hs : seqOf (at512 t r) = ⟨t.val / 2, by have h : t.val < 8 := t.isLt; omega⟩ := Fin.ext (seq_at t r)
  rw [hs]
  refine (congrArg (iblk m c 5 t) (ld3 n _ k)).trans ?_
  blk_ext [iblk, V, idx t, mods]

theorem blk2_at (r : Fin 512) (l : Fin 1024) : blk2 m c t (ix2 (n0 := 512) (n1 := 1024) r l) = resid m c (at512 t r) l := by
  unfold blk2
  rw [resid_apply]
  unfold resid
  congr 1
  · funext k; blk_ext [iblk, V, idx t, rows, at512]
  · funext k; exact mod_at m c t 2 _ r k
  · congr 1
    · funext k; blk_ext [iblk, V, idx t, att, at512]
    · funext k; blk_ext [iblk, V, idx t, rec, at512]
    · funext k; blk_ext [iblk, V, idx t, gateA, at512]
    · funext k; blk_ext [iblk, V, idx t, gateR, at512]
    · funext k j; blk_ext [iblk, V, idx t, wgtA]
    · funext k j; blk_ext [iblk, V, idx t, wgtR]
  · funext k j; blk_ext [iblk, V, idx t, wgtO]

theorem resid_window (r : Fin 512) (l : Fin 1024) :
    (dats m 0 c).after (10 : Fin 12) t (ix2 (n0 := 512) (n1 := 1024) r l) = resid m c (at512 t r) l := by
  have e : (dats m 0 c).after (10 : Fin 12) t = blk2 m c t := by rw [after0_10]; frame_out; rfl
  rw [e, blk2_at]

theorem next_window (r : Fin 512) (l : Fin 1024) :
    (dats m 0 c).after (11 : Fin 12) t (ix2 (n0 := 512) (n1 := 1024) r l) = next m c (at512 t r) l := by
  have e : (dats m 0 c).after (11 : Fin 12) t = (k0_pay1 (blk2 m c t) (k0_pay3 (iblk m c 3 t) (iblk m c 1 t) (iblk m c 7 t) (iblk m c 4 t)
      (iblk m c 2 t) (iblk m c 8 t) (iblk m c 0 t) (View.ld (iblk m c 5 t) r0_2) (iblk m c 9 t)) (iblk m c 6 t)
      (View.ld (iblk m c 5 t) r0_5) (View.ld (iblk m c 5 t) r0_6) : FVec Ideal S512x1024 .bf16) := by rw [after0_11]; frame_out; rfl
  rw [e]
  refine (next_apply (blk2 m c t) _ _ _ _ r l (scale_apply _ _ _ _ _ _ _ _ _ r)).trans ?_
  unfold next
  congr 1
  · funext k; exact blk2_at m c t r k
  · funext k; blk_ext [iblk, V, idx t, gain]
  · funext k; exact mod_at m c t 4 _ r k
  · funext k; exact mod_at m c t 3 _ r k

theorem resid_array : (dats m 0 c).arrAt 10 cfg0.N = arr2 (resid m c) := by
  refine (dats m 0 c).arrAt_eq_of_covers 10 _ (by decide +kernel) fun t hf y => ?_
  obtain ⟨r, l, rfl⟩ : ∃ (r : Fin 512) (l : Fin 1024), y = ix2 (n0 := 512) (n1 := 1024) r l := ⟨_, _, eq_ix2 y⟩
  refine Eq.trans ?_ ((resid_window m c t r l).trans (arr2_of (resid m c) _ (at512 t r) l ?_ ?_).symm)
  all_goals blk_simp [idx t]
  all_goals first | rfl | (show _ = t.val * 512 + r.val; omega)

theorem next_array : (dats m 0 c).arrAt 11 cfg0.N = arr2 (next m c) := by
  refine (dats m 0 c).arrAt_eq_of_covers 11 _ (by decide +kernel) fun t hf y => ?_
  obtain ⟨r, l, rfl⟩ : ∃ (r : Fin 512) (l : Fin 1024), y = ix2 (n0 := 512) (n1 := 1024) r l := ⟨_, _, eq_ix2 y⟩
  refine Eq.trans ?_ ((next_window m c t r l).trans (arr2_of (next m c) _ (at512 t r) l ?_ ?_).symm)
  all_goals blk_simp [idx t]
  all_goals first | rfl | (show _ = t.val * 512 + r.val; omega)

end Cert.MergeIdeal.Hand
end
-- ==== Proof.MergeClaim.lean ====
/- The plainly written merge gives the same two arrays, so kernel and reference end with equal results. -/
module

public import proofs.«01_k».proof.Defs
public import proofs.«01_k».proof.Proof.MergeArr
public import proofs.«01_k».proof.Proof.Gen.MergeRefIdeal
public import proofs.«01_k».proof.Proof.Gen.MergeRefIdeal.Run
public import proofs.«01_k».proof.Proof.Gen.MergeRefIdeal.Read

@[expose] public section

set_option maxRecDepth 16384

noncomputable section

namespace Cert.MergeRefIdeal.Hand

open Cert.MergeRefIdeal Cert.MergeRefIdeal.Gen Cert.MergeRefIdeal.Read Cert.Rows Idealize.ShloMosaic Idealize.ShloMosaic.TcCoe

variable (x0 : FVec Ideal S4096x1024 .f32) (x1 x2 : FVec Ideal S4096x512 .bf16) (x3 x4 : FVec Ideal S4096x1024 .bf16)
  (x5 : FVec Ideal S4x6x1024 .f32) (x6 : FVec Ideal S1x1024 .f32) (x7 x8 : FVec Ideal S512x1024 .bf16) (x9 : FVec Ideal S1024x1024 .bf16)

/-- The merged rows, the rows after the residual and the rows the feed-forward takes, of these arrays. -/
def merged (R : Fin 4096) : Fin 1024 → EReal :=
  mergedRow (fun k => x1 (ix2 (n0 := 4096) (n1 := 512) R k)) (fun k => x2 (ix2 (n0 := 4096) (n1 := 512) R k))
    (fun k => x3 (ix2 (n0 := 4096) (n1 := 1024) R k)) (fun k => x4 (ix2 (n0 := 4096) (n1 := 1024) R k))
    (fun k j => x7 (ix2 (n0 := 512) (n1 := 1024) k j)) (fun k j => x8 (ix2 (n0 := 512) (n1 := 1024) k j))

def resid (R : Fin 4096) : Fin 1024 → EReal :=
  residRow (fun k => x0 (ix2 (n0 := 4096) (n1 := 1024) R k)) (fun k => x5 (ix3 (n0 := 4) (n1 := 6) (n2 := 1024) (seqOf R) 2 k))
    (merged x1 x2 x3 x4 x7 x8 R) (fun k j => x9 (ix2 (n0 := 1024) (n1 := 1024) k j))

def next (R : Fin 4096) : Fin 1024 → EReal :=
  modRow (resid x0 x1 x2 x3 x4 x5 x7 x8 x9 R) (fun k => x6 (ix2 (n0 := 1) (n1 := 1024) 0 k))
    (fun k => x5 (ix3 (n0 := 4) (n1 := 6) (n2 := 1024) (seqOf R) 4 k)) (fun k => x5 (ix3 (n0 := 4) (n1 := 6) (n2 := 1024) (seqOf R) 3 k))

theorem merged_read (b : Fin 4) (r l : Fin 1024) : val_main_v15 (F := Ideal) x1 x2 x3 x4 x7 x8 (ix3 (n0 := 4) (n1 := 1024) (n2 := 1024) b r l)
    = merged x1 x2 x3 x4 x7 x8 (rowOf b r) l := by
  pointwise [val_main_v15, val_main_v14, val_main_v13, val_main_v12, val_main_v11, val_main_v10, val_main_v9, val_main_v8, val_main_v7,
    val_main_v6, val_main_v5, val_main_v4, val_main_v3, val_main_v2, val_main_v1]
  rfl

theorem resid_row (b : Fin 4) (r l : Fin 1024) :
    val_main_v23 (F := Ideal) x0 x1 x2 x3 x4 x5 x7 x8 x9 (ix3 (n0 := 4) (n1 := 1024) (n2 := 1024) b r l)
      = resid x0 x1 x2 x3 x4 x5 x7 x8 x9 (rowOf b r) l := by
  have h := merged_read x1 x2 x3 x4 x7 x8 b r
  unfold resid residRow
  rw [seqOf_rowOf]
  unfold val_main_v23 val_main_v22 val_main_v20
  generalize val_main_v15 (F := Ideal) x1 x2 x3 x4 x7 x8 = M at h ⊢
  generalize merged x1 x2 x3 x4 x7 x8 (rowOf b r) = N at h ⊢
  pointwise [val_main_v21, val_main_v19, val_main_v18, val_main_v17, val_main_v16, val_main_v0, h]
  rfl

theorem next_row (b : Fin 4) (r l : Fin 1024) :
    val_main_v49 (F := Ideal) x0 x1 x2 x3 x4 x5 x6 x7 x8 x9 (ix3 (n0 := 4) (n1 := 1024) (n2 := 1024) b r l)
      = next x0 x1 x2 x3 x4 x5 x6 x7 x8 x9 (rowOf b r) l := by
  have h := resid_row x0 x1 x2 x3 x4 x5 x7 x8 x9 b r
  unfold next
  rw [seqOf_rowOf]
  unfold val_main_v49 val_main_v46 val_main_v37 val_main_v34 val_main_v33 val_main_v32 val_main_v31 val_main_v29 val_main_v27 val_main_v26
    val_main_v25
  generalize val_main_v23 (F := Ideal) x0 x1 x2 x3 x4 x5 x7 x8 x9 = M at h ⊢
  generalize resid x0 x1 x2 x3 x4 x5 x7 x8 x9 (rowOf b r) = N at h ⊢
  pointwise [val_main_v48, val_main_v47, val_main_v45, val_main_v44, val_main_v43, val_main_v42, val_main_v41, val_main_v40,
    val_main_v39, val_main_v38, val_main_v36, val_main_v35, val_main_v30, val_main_v28, val_main_v24,
    val_main_cst, val_main_cst_0, val_main_cst_1, val_main_cst_2, h]
  rfl

theorem resid_read : val_main_v50 (F := Ideal) x0 x1 x2 x3 x4 x5 x7 x8 x9 = arr2 (resid x0 x1 x2 x3 x4 x5 x7 x8 x9) := by
  funext i
  obtain ⟨R, l, rfl⟩ : ∃ (R : Fin 4096) (l : Fin 1024), i = ix2 (n0 := 4096) (n1 := 1024) R l := ⟨_, _, eq_ix2 i⟩
  rw [arr2_of _ _ R l rfl rfl]
  have h := resid_row x0 x1 x2 x3 x4 x5 x7 x8 x9 (seqOf R) ⟨R.val % 1024, Nat.mod_lt _ (by decide)⟩ l
  rw [← row_split] at h
  refine Eq.trans ?_ h
  unfold val_main_v50
  pointwise
  rfl

theorem next_read : val_main_v52 (F := Ideal) x0 x1 x2 x3 x4 x5 x6 x7 x8 x9 = arr2 (next x0 x1 x2 x3 x4 x5 x6 x7 x8 x9) := by
  funext i
  obtain ⟨R, l, rfl⟩ : ∃ (R : Fin 4096) (l : Fin 1024), i = ix2 (n0 := 4096) (n1 := 1024) R l := ⟨_, _, eq_ix2 i⟩
  rw [arr2_of _ _ R l rfl rfl]
  have h := next_row x0 x1 x2 x3 x4 x5 x6 x7 x8 x9 (seqOf R) ⟨R.val % 1024, Nat.mod_lt _ (by decide)⟩ l
  rw [← row_split] at h
  refine Eq.trans ?_ h
  unfold val_main_v52 val_main_v51
  pointwise
  rfl

end Cert.MergeRefIdeal.Hand

namespace Cert.Hand

open Cert.Rows Idealize.ShloMosaic Idealize.ShloMosaic.TcCoe Idealize.SL.Sem

theorem merge_algebraic : Cert.algebraic_MergeIdeal_MergeRefIdeal (hMergeIdeal := Cert.MergeIdeal.Gen.facts)
    (hMergeRefIdeal := Cert.MergeRefIdeal.Gen.facts) := by
  intro m g m' g' _ hag
  refine ⟨fun c => arr2 (Cert.MergeIdeal.Hand.resid m c), fun c => arr2 (Cert.MergeIdeal.Hand.next m c), ?_, ?_⟩
  · refine (θ_run _ _ _).mono (fun r h c => ?_) (Cert.MergeIdeal.Value.run_blocks m g)
    obtain ⟨h0, h1, ha⟩ := h c
    exact ⟨h0.trans (Cert.MergeIdeal.Hand.resid_array m c), h1.trans (Cert.MergeIdeal.Hand.next_array m c), ha⟩
  · refine (θ_run _ _ _).mono (fun r h c => ?_) (Cert.MergeRefIdeal.Value.run (F := Ideal) m' g')
    obtain ⟨h0, h1, ha⟩ := h c
    obtain ⟨a0, a1, a2, a3, a4, a5, a6, a7, a8, a9⟩ := hag c
    refine ⟨h0.trans ?_, h1.trans ?_, ha⟩
    · rw [a0, a1, a2, a3, a4, a5, a7, a8, a9, Cert.MergeRefIdeal.Read.val_main_v50_eq]
      exact Cert.MergeRefIdeal.Hand.resid_read _ _ _ _ _ _ _ _ _
    · rw [Cert.MergeRefIdeal.Read.val_main_v52_eq, a0, a1, a2, a3, a4, a5, a6, a7, a8, a9]
      exact Cert.MergeRefIdeal.Hand.next_read _ _ _ _ _ _ _ _ _ _

end Cert.Hand
end
-- ==== Proof.FfnCtxPay.lean ====
/- The operations of the context path's feed-forward at an index: there every block of 256 rows is a sequence of its own, so the row
   before a block's first and the row after its last are put to zero. -/
module

public import proofs.«01_k».proof.Proof.Gen.FfnCtxIdeal.Value
public import proofs.«01_k».proof.Proof.FfnBody

@[expose] public section

set_option maxRecDepth 16384

noncomputable section

namespace Cert.FfnCtxIdeal.Hand

open Cert.FfnCtxIdeal Cert.FfnCtxIdeal.Gen Cert.Rows Idealize.ShloMosaic Idealize.ShloMosaic.TcCoe
open Cert.FfnIdeal.Hand (part first_row last_row)

/-! ## Up-projections -/

section
variable (h : Vec Ideal S256x1024 .bf16) (w : Vec Ideal S1024x256 .bf16) (r k : Fin 256)

theorem up0 : k0_pay10 h w (ix2 (n0 := 256) (n1 := 256) r k) = ∑ d : Fin 1024, h (ix2 r d) * w (ix2 d k) := by pointwise [k0_pay10]
theorem up0' : k0_pay11 h w (ix2 (n0 := 256) (n1 := 256) r k) = ∑ d : Fin 1024, h (ix2 r d) * w (ix2 d k) := by pointwise [k0_pay11]
theorem up1 : k0_pay12 h w (ix2 (n0 := 256) (n1 := 256) r k) = ∑ d : Fin 1024, h (ix2 r d) * w (ix2 d k) := by pointwise [k0_pay12]
theorem up1' : k0_pay13 h w (ix2 (n0 := 256) (n1 := 256) r k) = ∑ d : Fin 1024, h (ix2 r d) * w (ix2 d k) := by pointwise [k0_pay13]
theorem up2 : k0_pay18 (k0_pay17 h w) (ix2 (n0 := 256) (n1 := 256) r k) = ∑ d : Fin 1024, h (ix2 r d) * w (ix2 d k) := by
  pointwise [k0_pay18, k0_pay17]
theorem up2' : k0_pay19 h w (ix2 (n0 := 256) (n1 := 256) r k) = ∑ d : Fin 1024, h (ix2 r d) * w (ix2 d k) := by pointwise [k0_pay19]
theorem up3 : k0_pay26 (k0_pay25 h w) (ix2 (n0 := 256) (n1 := 256) r k) = ∑ d : Fin 1024, h (ix2 r d) * w (ix2 d k) := by
  pointwise [k0_pay26, k0_pay25]
theorem up3' : k0_pay27 h w (ix2 (n0 := 256) (n1 := 256) r k) = ∑ d : Fin 1024, h (ix2 r d) * w (ix2 d k) := by pointwise [k0_pay27]
end

/-! ## The four blocks, each a sequence -/

section
variable (u0 u1 u2 g0 g1 g2 : Vec Ideal S1x256 .f32) (cu pu nu cg pg ng : Vec Ideal S256x256 .f32) (acc : Vec Ideal S256x1024 .f32)
  (wd : Vec Ideal S256x1024 .bf16)

/-- What a block becomes: what it was, and its rows' activation against the down weights, both ends of the sequence masked. -/
def seqPart (r : Fin 256) (l : Fin 1024) : EReal := acc (ix2 (n0 := 256) (n1 := 1024) r l)
  + part u0 u1 u2 g0 g1 g2 cu cg wd (fun k => if r.val = 0 then 0 else pu (ix2 (n0 := 256) (n1 := 256) r k))
    (fun k => if r.val = 255 then 0 else nu (ix2 (n0 := 256) (n1 := 256) r k))
    (fun k => if r.val = 0 then 0 else pg (ix2 (n0 := 256) (n1 := 256) r k))
    (fun k => if r.val = 255 then 0 else ng (ix2 (n0 := 256) (n1 := 256) r k)) r l

theorem block0 (r : Fin 256) (l : Fin 1024) :
    k0_pay20 (k0_pay16 k0_pay8 k0_pay9 u1 u2 g0 g1 g2 cu (k0_pay14 k0_pay9 nu) (k0_pay15 k0_pay8 u0 pu) cg pg ng) acc wd
      (ix2 (n0 := 256) (n1 := 1024) r l) = seqPart u0 u1 u2 g0 g1 g2 cu pu nu cg pg ng acc wd r l := by
  pointwise [k0_pay20, k0_pay16, k0_pay14, k0_pay15, k0_pay8, k0_pay9]
  refine congrArg (acc (ix2 r l) + ·) (Finset.sum_congr rfl fun k _ => ?_)
  rw [first_row (fun r => pu (ix2 r k)) r, first_row (fun r => pg (ix2 r k)) r, last_row (fun r => nu (ix2 r k)) r,
    last_row (fun r => ng (ix2 r k)) r, zero_sub]
  rfl

theorem block1 (r : Fin 256) (l : Fin 1024) :
    k0_pay28 (k0_pay24 k0_pay8 k0_pay9 u2 g0 g1 g2 cu (k0_pay21 k0_pay9 nu) (k0_pay22 k0_pay8 u0 pu) (k0_pay23 u1) cg pg ng) acc wd
      (ix2 (n0 := 256) (n1 := 1024) r l) = seqPart u0 u1 u2 g0 g1 g2 cu pu nu cg pg ng acc wd r l := by
  pointwise [k0_pay28, k0_pay24, k0_pay21, k0_pay22, k0_pay23, k0_pay8, k0_pay9]
  refine congrArg (acc (ix2 r l) + ·) (Finset.sum_congr rfl fun k _ => ?_)
  rw [first_row (fun r => pu (ix2 r k)) r, first_row (fun r => pg (ix2 r k)) r, last_row (fun r => nu (ix2 r k)) r,
    last_row (fun r => ng (ix2 r k)) r, zero_sub]
  rfl

theorem block2 (r : Fin 256) (l : Fin 1024) :
    k0_pay33 (k0_pay32 k0_pay8 k0_pay9 u2 g0 g1 g2 (k0_pay29 k0_pay9 nu) (k0_pay30 k0_pay8 u0 pu) (k0_pay31 u1 cu) cg pg ng acc wd)
      (ix2 (n0 := 256) (n1 := 1024) r l) = seqPart u0 u1 u2 g0 g1 g2 cu pu nu cg pg ng acc wd r l := by
  pointwise [k0_pay33, k0_pay32, k0_pay29, k0_pay30, k0_pay31, k0_pay8, k0_pay9]
  refine congrArg (acc (ix2 r l) + ·) (Finset.sum_congr rfl fun k _ => ?_)
  rw [first_row (fun r => pu (ix2 r k)) r, first_row (fun r => pg (ix2 r k)) r, last_row (fun r => nu (ix2 r k)) r,
    last_row (fun r => ng (ix2 r k)) r, zero_sub]
  rfl

theorem block3 (r : Fin 256) (l : Fin 1024) :
    k0_pay1 g0 g1 g2 (k0_pay34 k0_pay8 k0_pay9 u0 u1 u2 cu pu nu) cg (k0_pay35 k0_pay8 pg) (k0_pay36 ng) (k0_pay37 ng)
      (Scalar.ofBits .f32 0x00000000#32) (k0_pay38 k0_pay9) acc wd (ix2 (n0 := 256) (n1 := 1024) r l)
      = seqPart u0 u1 u2 g0 g1 g2 cu pu nu cg pg ng acc wd r l := by
  pointwise [k0_pay1, k0_pay34, k0_pay35, k0_pay36, k0_pay37, k0_pay38, k0_pay8, k0_pay9]
  refine congrArg (acc (ix2 r l) + ·) (Finset.sum_congr rfl fun k _ => ?_)
  rw [first_row (fun r => pu (ix2 r k)) r, first_row (fun r => pg (ix2 r k)) r, last_row (fun r => nu (ix2 r k)) r,
    last_row (fun r => ng (ix2 r k)) r, zero_sub]
  rfl
end

/-- The last point's closing: residual, norm and gain. -/
theorem close_apply (x : Vec Ideal S1024x1024 .f32) (gt : Vec Ideal S1x1x1024 .f32) (A : Vec Ideal S1024x1024 .f32) (g : Vec Ideal S1x1024 .f32)
    (r l : Fin 1024) : k0_pay2 x gt A g (ix2 (n0 := 1024) (n1 := 1024) r l)
      = rmsRow (fun l => x (ix2 r l) + gt (ix3 0 0 l) * A (ix2 r l)) l * g (ix2 0 l) := by
  pointwise [k0_pay2]
  rfl

end Cert.FfnCtxIdeal.Hand
end
-- ==== Proof.FfnCtxBody.lean ====
/- One point of the context path's feed-forward: whatever the point, the accumulator gains, at every row, the point's 256 columns of
   activation, convolved within the row's sequence, against their down weights. -/
module

public import proofs.«01_k».proof.Proof.FfnCtxPay

@[expose] public section

set_option maxRecDepth 16384

noncomputable section

namespace Cert.FfnCtxIdeal.Hand

open Cert.FfnCtxIdeal Cert.FfnCtxIdeal.Gen Cert.Rows Idealize.ShloMosaic Idealize.ShloMosaic.TcCoe
open Cert.FfnIdeal.Hand (part Rows3 Rows4 Side Acc4 Taps3 Held upRow isRows_of before_of before_zero behind_of behind_last four_blocks
  ld_rows ld_tap)

/-! ## A row within its sequence -/

/-- The sequence a row lies in, and the row's place in it. -/
def seg (V : Fin 1024 → EReal) (R : Fin 1024) (r : Fin 256) : EReal := V ⟨256 * (R.val / 256) + r.val, by omega⟩
def place (R : Fin 1024) : Fin 256 := ⟨R.val % 256, Nat.mod_lt _ (by decide)⟩

theorem seg_at (V : Fin 1024 → EReal) (b : ℕ) (r r' : Fin 256) (R R' : Fin 1024) (h : R.val = 256 * b + r.val) (h' : R'.val = 256 * b + r'.val) :
    seg V R r' = V R' := congrArg V (Fin.ext (by show 256 * (R.val / 256) + r'.val = R'.val; omega))

section
variable (U G : Fin 1024 → Fin 256 → EReal) (wu wg : Fin 3 → Fin 256 → EReal) (D : Fin 256 → Fin 1024 → EReal)

/-- What a point adds at a row and a column. -/
def added (R l : Fin 1024) : EReal :=
  ∑ k : Fin 256, swish (conv (seg (G · k) R) (wg · k) (place R)) (conv (seg (U · k) R) (wu · k) (place R)) * D k l

variable {U G wu wg D}
variable {u0 u1 u2 g0 g1 g2 : Vec Ideal S1x256 .f32} {cu pu nu cg pg ng : Vec Ideal S256x256 .f32} {acc : Vec Ideal S256x1024 .f32}
  {wd : Vec Ideal S256x1024 .bf16}

theorem prev_masked {V : Fin 1024 → Fin 256 → EReal} {b : ℕ} {c p n : Vec Ideal S256x256 .f32} (h : Rows3 V b c p n) (r : Fin 256) (R : Fin 1024)
    (hR : R.val = 256 * b + r.val) (k : Fin 256) : (if r.val = 0 then 0 else p (ix2 r k)) = before (seg (V · k) R) (place R) := by
  by_cases hr : r.val = 0
  · rw [if_pos hr, before_zero _ _ (by show R.val % 256 = 0; omega)]
  · rw [if_neg hr, before_of _ (place R) ⟨r.val - 1, by omega⟩ (by show r.val - 1 + 1 = R.val % 256; omega)]
    exact (h.prev r k ⟨R.val - 1, by omega⟩ (by show R.val - 1 + 1 = _; omega)).trans
      (seg_at (V · k) b r _ R _ hR (by show R.val - 1 = 256 * b + (r.val - 1); omega)).symm

theorem next_masked {V : Fin 1024 → Fin 256 → EReal} {b : ℕ} {c p n : Vec Ideal S256x256 .f32} (h : Rows3 V b c p n) (r : Fin 256) (R : Fin 1024)
    (hR : R.val = 256 * b + r.val) (k : Fin 256) : (if r.val = 255 then 0 else n (ix2 r k)) = behind (seg (V · k) R) (place R) := by
  by_cases hr : r.val = 255
  · rw [if_pos hr, behind_last _ _ (by show R.val % 256 + 1 = 256; omega)]
  · rw [if_neg hr, behind_of _ (place R) ⟨r.val + 1, by omega⟩ (by show r.val + 1 = R.val % 256 + 1; omega)]
    exact (h.next r k ⟨R.val + 1, by omega⟩ (by show R.val + 1 = _; omega)).trans
      (seg_at (V · k) b r _ R _ hR (by show R.val + 1 = 256 * b + (r.val + 1); omega)).symm

theorem taps_seq {V : Fin 1024 → Fin 256 → EReal} {w : Fin 3 → Fin 256 → EReal} {w0 w1 w2 : Vec Ideal S1x256 .f32} (hw : Taps3 w w0 w1 w2)
    {b : ℕ} {c p n : Vec Ideal S256x256 .f32} (h : Rows3 V b c p n) (r : Fin 256) (R : Fin 1024) (hR : R.val = 256 * b + r.val) (k : Fin 256) :
    taps (if r.val = 0 then 0 else p (ix2 (n0 := 256) (n1 := 256) r k)) (c (ix2 (n0 := 256) (n1 := 256) r k))
      (if r.val = 255 then 0 else n (ix2 (n0 := 256) (n1 := 256) r k))
      ![w0 (ix2 (n0 := 1) (n1 := 256) 0 k), w1 (ix2 (n0 := 1) (n1 := 256) 0 k), w2 (ix2 (n0 := 1) (n1 := 256) 0 k)]
      = conv (seg (V · k) R) (w · k) (place R) := by
  rw [prev_masked h r R hR k, next_masked h r R hR k, h.cur r k R hR, hw.w0, hw.w1, hw.w2,
    show V R k = seg (V · k) R (place R) from (seg_at (V · k) b r _ R R hR (by show R.val = 256 * b + R.val % 256; omega)).symm]
  rfl

theorem seqPart_added (b : ℕ) (hu : Taps3 wu u0 u1 u2) (hg : Taps3 wg g0 g1 g2) (hd : ∀ (k : Fin 256) (l : Fin 1024), wd (ix2 k l) = D k l)
    {r : Fin 256} {R l : Fin 1024} {a : EReal} (hR : R.val = 256 * b + r.val) (hU : Rows3 U b cu pu nu) (hG : Rows3 G b cg pg ng)
    (ha : acc (ix2 r l) = a) : seqPart u0 u1 u2 g0 g1 g2 cu pu nu cg pg ng acc wd r l = a + added U G wu wg D R l := by
  unfold seqPart part added
  rw [ha]
  refine congrArg (a + ·) (Finset.sum_congr rfl fun k _ => ?_)
  rw [hd, taps_seq hg hG r R hR k, taps_seq hu hU r R hR k]

variable {T : List (View.Piece (Elt Ideal) S1024x1024 .f32)} {K2 K3 K4 J2 J3 J4 : List (View.Piece (Elt Ideal) S1040x256 .f32)} {sig : RefSig}
  {κ : Kind} {sp : Space} {v1 v2 : View sig κ sp S1040x256 .f32} {s0 s1 s2 s3 q0 q1 q2 q3 : Vec Ideal S256x256 .f32}
  {a0 a1 a2 a3 : Vec Ideal S256x1024 .f32} {A : Fin 1024 → Fin 1024 → EReal}

/-- A point's accumulator, from what its loads hold. -/
theorem tile (hu : Taps3 wu u0 u1 u2) (hg : Taps3 wg g0 g1 g2) (hd : ∀ (k : Fin 256) (l : Fin 1024), wd (ix2 k l) = D k l)
    (hU : Side U s0 s1 s2 s3 K2 K3 K4 pu nu) (hG : Side G q0 q1 q2 q3 J2 J3 J4 pg ng) (hA : Acc4 A a0 a1 a2 a3) (y : S1024x1024.Idx) :
    View.canon (Val := Elt Ideal) (s := S1024x1024) (e := .f32)
      (⟨Rect.unit ![768, 0] ![256, 1024] inb_S1024x1024_S256x1024_768_0, k0_pay1 g0 g1 g2 (k0_pay34 k0_pay8 k0_pay9 u0 u1 u2 s3 (v1.readCov (Val := Elt Ideal) K4 (Rect.unit (s := S1040x256) ![775, 0] ![256, 256] inb_S1040x256_S256x256_775_0).toLoadRect) nu) q3
        (k0_pay35 k0_pay8 (v2.readCov (Val := Elt Ideal) J4 (Rect.unit (s := S1040x256) ![775, 0] ![256, 256] inb_S1040x256_S256x256_775_0).toLoadRect)) (k0_pay36 ng) (k0_pay37 ng) (FloatOps.ofBits FTy.f32 0x00000000#32) (k0_pay38 k0_pay9) a3 wd⟩ ::
      ⟨Rect.unit ![512, 0] ![256, 1024] inb_S1024x1024_S256x1024_512_0, k0_pay33 (k0_pay32 k0_pay8 k0_pay9 u2 g0 g1 g2 (k0_pay29 k0_pay9 (v1.readCov (Val := Elt Ideal) K4 (Rect.unit (s := S1040x256) ![521, 0] ![256, 256] inb_S1040x256_S256x256_521_0).toLoadRect))
        (k0_pay30 k0_pay8 u0 (v1.readCov (Val := Elt Ideal) K3 (Rect.unit (s := S1040x256) ![519, 0] ![256, 256] inb_S1040x256_S256x256_519_0).toLoadRect)) (k0_pay31 u1 s2) q2
        (v2.readCov (Val := Elt Ideal) J3 (Rect.unit (s := S1040x256) ![519, 0] ![256, 256] inb_S1040x256_S256x256_519_0).toLoadRect)
        (v2.readCov (Val := Elt Ideal) J4 (Rect.unit (s := S1040x256) ![521, 0] ![256, 256] inb_S1040x256_S256x256_521_0).toLoadRect) a2 wd)⟩ ::
      ⟨Rect.unit ![256, 0] ![256, 1024] inb_S1024x1024_S256x1024_256_0, k0_pay28 (k0_pay24 k0_pay8 k0_pay9 u2 g0 g1 g2 s1 (k0_pay21 k0_pay9 (v1.readCov (Val := Elt Ideal) K3 (Rect.unit (s := S1040x256) ![265, 0] ![256, 256] inb_S1040x256_S256x256_265_0).toLoadRect))
        (k0_pay22 k0_pay8 u0 (v1.readCov (Val := Elt Ideal) K2 (Rect.unit (s := S1040x256) ![263, 0] ![256, 256] inb_S1040x256_S256x256_263_0).toLoadRect)) (k0_pay23 u1) q1
        (v2.readCov (Val := Elt Ideal) J2 (Rect.unit (s := S1040x256) ![263, 0] ![256, 256] inb_S1040x256_S256x256_263_0).toLoadRect)
        (v2.readCov (Val := Elt Ideal) J3 (Rect.unit (s := S1040x256) ![265, 0] ![256, 256] inb_S1040x256_S256x256_265_0).toLoadRect)) a1 wd⟩ ::
      ⟨Rect.unit ![0, 0] ![256, 1024] inb_S1024x1024_S256x1024_0_0, k0_pay20 (k0_pay16 k0_pay8 k0_pay9 u1 u2 g0 g1 g2 s0 (k0_pay14 k0_pay9 (v1.readCov (Val := Elt Ideal) K2 (Rect.unit (s := S1040x256) ![9, 0] ![256, 256] inb_S1040x256_S256x256_9_0).toLoadRect))
        (k0_pay15 k0_pay8 u0 pu) q0 pg (v2.readCov (Val := Elt Ideal) J2 (Rect.unit (s := S1040x256) ![9, 0] ![256, 256] inb_S1040x256_S256x256_9_0).toLoadRect)) a0 wd⟩ :: T) y
      = A (y 0) (y 1) + added U G wu wg D (y 0) (y 1) := by
  refine four_blocks (fun R l => A R l + added U G wu wg D R l) _ _ _ _ _ _ _ _ T _ rfl ?_ ?_ ?_ ?_ y
  · exact fun r l => (block0 u0 u1 u2 g0 g1 g2 _ _ _ _ _ _ _ _ r l).trans (seqPart_added 0 hu hg hd rfl (hU.b0 _) (hG.b0 _) (hA.a0 r l))
  · exact fun r l => (block1 u0 u1 u2 g0 g1 g2 _ _ _ _ _ _ _ _ r l).trans (seqPart_added 1 hu hg hd rfl (hU.b1 _ _) (hG.b1 _ _) (hA.a1 r l))
  · exact fun r l => (block2 u0 u1 u2 g0 g1 g2 _ _ _ _ _ _ _ _ r l).trans (seqPart_added 2 hu hg hd rfl (hU.b2 _ _) (hG.b2 _ _) (hA.a2 r l))
  · exact fun r l => (block3 u0 u1 u2 g0 g1 g2 _ _ _ _ _ _ _ _ r l).trans (seqPart_added 3 hu hg hd rfl (hU.b3 _) (hG.b3 _) (hA.a3 r l))

end

/-! ## The point's loads and stores -/

section
variable (m : (ℓ : Loc nD τ sig) → Buf (Elt Ideal) ℓ) (c : Dev nD) (t : Fin grid0.N)

/-- The point's projected rows, its taps and its down weights. -/
def hRow (R d : Fin 1024) : EReal := iblk m c 0 t (ix2 (n0 := 1024) (n1 := 1024) R d)
def wU (d : Fin 1024) (k : Fin 256) : EReal := iblk m c 3 t (ix2 (n0 := 1024) (n1 := 256) d k)
def wG (d : Fin 1024) (k : Fin 256) : EReal := iblk m c 4 t (ix2 (n0 := 1024) (n1 := 256) d k)
def tapU (n : Fin 3) (k : Fin 256) : EReal := iblk m c 5 t (ix2 (n0 := 3) (n1 := 256) n k)
def tapG (n : Fin 3) (k : Fin 256) : EReal := iblk m c 6 t (ix2 (n0 := 3) (n1 := 256) n k)
def down (k : Fin 256) (l : Fin 1024) : EReal := iblk m c 7 t (ix2 (n0 := 256) (n1 := 1024) k l)

/-- What the point adds. -/
def gain (R l : Fin 1024) : EReal := added (upRow (hRow m c t) (wU m c t)) (upRow (hRow m c t) (wG m c t)) (tapU m c t) (tapG m c t) (down m c t) R l

theorem h_held (b o : ℕ) (ho : o = 256 * b) (hb : b < 4) (i) :
    Held (hRow m c t) b (View.ld (iblk m c 0 t) (Rect.unit (s := S1024x1024) ![o, 0] ![256, 1024] i)) := fun r d R hR =>
  (ld_rows (e := .bf16) (iblk m c 0 t) b o ho hb i r d).trans (congrArg (hRow m c t · d) (Fin.ext hR.symm))

theorem taps_u : Taps3 (tapU m c t) (View.ld (iblk m c 5 t) (Rect.unit (s := S3x256) ![0, 0] ![1, 256] inb_S3x256_S1x256_0_0))
    (View.ld (iblk m c 5 t) (Rect.unit (s := S3x256) ![1, 0] ![1, 256] inb_S3x256_S1x256_1_0))
    (View.ld (iblk m c 5 t) (Rect.unit (s := S3x256) ![2, 0] ![1, 256] inb_S3x256_S1x256_2_0)) :=
  ⟨ld_tap _ 0 (by decide) _, ld_tap _ 1 (by decide) _, ld_tap _ 2 (by decide) _⟩

theorem taps_g : Taps3 (tapG m c t) (View.ld (iblk m c 6 t) (Rect.unit (s := S3x256) ![0, 0] ![1, 256] inb_S3x256_S1x256_0_0))
    (View.ld (iblk m c 6 t) (Rect.unit (s := S3x256) ![1, 0] ![1, 256] inb_S3x256_S1x256_1_0))
    (View.ld (iblk m c 6 t) (Rect.unit (s := S3x256) ![2, 0] ![1, 256] inb_S3x256_S1x256_2_0)) :=
  ⟨ld_tap _ 0 (by decide) _, ld_tap _ 1 (by decide) _, ld_tap _ 2 (by decide) _⟩

/-- The projected rows the point stores, four blocks of them. -/
theorem rows_u : Rows4 (upRow (hRow m c t) (wU m c t)) (k0_pay10 (View.ld (iblk m c 0 t) (Rect.unit (s := S1024x1024) ![0, 0] ![256, 1024] inb_S1024x1024_S256x1024_0_0)) (iblk m c 3 t))
    (k0_pay12 (View.ld (iblk m c 0 t) (Rect.unit (s := S1024x1024) ![256, 0] ![256, 1024] inb_S1024x1024_S256x1024_256_0)) (iblk m c 3 t))
    (k0_pay18 (k0_pay17 (View.ld (iblk m c 0 t) (Rect.unit (s := S1024x1024) ![512, 0] ![256, 1024] inb_S1024x1024_S256x1024_512_0)) (iblk m c 3 t)))
    (k0_pay26 (k0_pay25 (View.ld (iblk m c 0 t) (Rect.unit (s := S1024x1024) ![768, 0] ![256, 1024] inb_S1024x1024_S256x1024_768_0)) (iblk m c 3 t))) where
  r0 := isRows_of (up0 _ _) (h_held m c t 0 _ rfl (by decide) _) fun _ _ => rfl
  r1 := isRows_of (up1 _ _) (h_held m c t 1 _ rfl (by decide) _) fun _ _ => rfl
  r2 := isRows_of (up2 _ _) (h_held m c t 2 _ rfl (by decide) _) fun _ _ => rfl
  r3 := isRows_of (up3 _ _) (h_held m c t 3 _ rfl (by decide) _) fun _ _ => rfl

theorem rows_g : Rows4 (upRow (hRow m c t) (wG m c t)) (k0_pay11 (View.ld (iblk m c 0 t) (Rect.unit (s := S1024x1024) ![0, 0] ![256, 1024] inb_S1024x1024_S256x1024_0_0)) (iblk m c 4 t))
    (k0_pay13 (View.ld (iblk m c 0 t) (Rect.unit (s := S1024x1024) ![256, 0] ![256, 1024] inb_S1024x1024_S256x1024_256_0)) (iblk m c 4 t))
    (k0_pay19 (View.ld (iblk m c 0 t) (Rect.unit (s := S1024x1024) ![512, 0] ![256, 1024] inb_S1024x1024_S256x1024_512_0)) (iblk m c 4 t))
    (k0_pay27 (View.ld (iblk m c 0 t) (Rect.unit (s := S1024x1024) ![768, 0] ![256, 1024] inb_S1024x1024_S256x1024_768_0)) (iblk m c 4 t)) where
  r0 := isRows_of (up0' _ _) (h_held m c t 0 _ rfl (by decide) _) fun _ _ => rfl
  r1 := isRows_of (up1' _ _) (h_held m c t 1 _ rfl (by decide) _) fun _ _ => rfl
  r2 := isRows_of (up2' _ _) (h_held m c t 2 _ rfl (by decide) _) fun _ _ => rfl
  r3 := isRows_of (up3' _ _) (h_held m c t 3 _ rfl (by decide) _) fun _ _ => rfl

end

end Cert.FfnCtxIdeal.Hand
end
-- ==== Proof.FfnCtxStep.lean ====
/- The points of the context path's feed-forward: after each, the accumulator is what it was before (at a first column tile: zero) and
   what the point adds; at a last column tile the output block is the accumulated rows closed by residual, norm and gain. -/
module

public import proofs.«01_k».proof.Proof.FfnCtxBody
public import proofs.«01_k».proof.Proof.FfnStep

@[expose] public section

set_option maxRecDepth 16384

noncomputable section

namespace Cert.FfnCtxIdeal.Hand

open Cert.FfnCtxIdeal Cert.FfnCtxIdeal.Gen Cert.Rows Idealize.ShloMosaic Idealize.ShloMosaic.TcCoe
open Cert.FfnIdeal.Hand (upRow Good good_pads Rows4 Side acc4_ld resid)

variable (m : (ℓ : Loc nD τ sig) → Buf (Elt Ideal) ℓ) (c : Dev nD) (t : Fin grid0.N)

/-- What the accumulator held before the point. -/
def prior (R l : Fin 1024) : EReal :=
  (outsAt0 m c (t.val - 1) (lt_of_le_of_lt (Nat.sub_le _ _) t.isLt)).2.1 (ix2 (n0 := 1024) (n1 := 1024) R l)

theorem prior_read (s : (Memref.whole cc0_scratch0).IsWhole) (R l : Fin 1024) :
    View.read (Elt Ideal) (View.whole cc0_scratch0) (s.unread (outsAt0 m c (t.val - 1) (lt_of_le_of_lt (Nat.sub_le _ _) t.isLt)).2.1)
      (ix2 (n0 := 1024) (n1 := 1024) R l) = prior m c t R l := by
  rw [read_unread_whole]
  rfl

theorem zero7 (R l : Fin 1024) : k0_pay7 (F := Ideal) (ix2 (n0 := 1024) (n1 := 1024) R l) = 0 := by pointwise [k0_pay7]
theorem pad3 (y : S8x256.Idx) : k0_pay3 (F := Ideal) y = 0 := by rw [eq_ix2 y]; pointwise [k0_pay3]
theorem pad4 (y : S8x256.Idx) : k0_pay4 (F := Ideal) y = 0 := by rw [eq_ix2 y]; pointwise [k0_pay4]
theorem pad5 (y : S8x256.Idx) : k0_pay5 (F := Ideal) y = 0 := by rw [eq_ix2 y]; pointwise [k0_pay5]
theorem pad6 (y : S8x256.Idx) : k0_pay6 (F := Ideal) y = 0 := by rw [eq_ix2 y]; pointwise [k0_pay6]

theorem pad_u : Good (upRow (hRow m c t) (wU m c t)) [⟨Rect.unit ![1032, 0] ![8, 256] inb_S1040x256_S8x256_1032_0, k0_pay4 (F := Ideal)⟩,
    ⟨Rect.unit ![0, 0] ![8, 256] inb_S1040x256_S8x256_0_0, k0_pay3 (F := Ideal)⟩] 0 :=
  good_pads _ _ _ pad4 pad3 _ _

theorem pad_g : Good (upRow (hRow m c t) (wG m c t)) [⟨Rect.unit ![1032, 0] ![8, 256] inb_S1040x256_S8x256_1032_0, k0_pay6 (F := Ideal)⟩,
    ⟨Rect.unit ![0, 0] ![8, 256] inb_S1040x256_S8x256_0_0, k0_pay5 (F := Ideal)⟩] 0 :=
  good_pads _ _ _ pad6 pad5 _ _

theorem acc_B (h0 : ¬ t.val % 44 = 0) (h1 : ¬ t.val % 11 = 0) (h2 : ¬ t.val % 11 = 10) (R l : Fin 1024) :
    (outsAt0 m c t.val t.isLt).2.1 (ix2 (n0 := 1024) (n1 := 1024) R l) = prior m c t R l + gain m c t R l := by
  rw [outsAt0_B m c t h0 h1 h2]
  dsimp only
  frame_open
  simp (disch := decide) only [↓ View.readCov_skip, ↓ View.readCov_cons_toLoadRect, ↓ View.readCov_fill]
  frame_out
  exact tile (taps_u m c t) (taps_g m c t) (fun _ _ => rfl) ((rows_u m c t).raw _ _ _ _) ((rows_g m c t).raw _ _ _ _)
    (acc4_ld _ _ (prior_read m c t _) _ _ _ _) _

theorem acc_C (h0 : ¬ t.val % 44 = 0) (h1 : ¬ t.val % 11 = 0) (h2 : t.val % 11 = 10) (R l : Fin 1024) :
    (outsAt0 m c t.val t.isLt).2.1 (ix2 (n0 := 1024) (n1 := 1024) R l) = prior m c t R l + gain m c t R l := by
  rw [outsAt0_C m c t h0 h1 h2]
  dsimp only
  frame_open
  simp (disch := decide) only [↓ View.readCov_skip, ↓ View.readCov_cons_toLoadRect, ↓ View.readCov_fill]
  frame_out
  exact tile (taps_u m c t) (taps_g m c t) (fun _ _ => rfl) ((rows_u m c t).raw _ _ _ _) ((rows_g m c t).raw _ _ _ _)
    (acc4_ld _ _ (prior_read m c t _) _ _ _ _) _

theorem acc_D (h0 : ¬ t.val % 44 = 0) (h1 : t.val % 11 = 0) (h2 : ¬ t.val % 11 = 10) (R l : Fin 1024) :
    (outsAt0 m c t.val t.isLt).2.1 (ix2 (n0 := 1024) (n1 := 1024) R l) = 0 + gain m c t R l := by
  rw [outsAt0_D m c t h0 h1 h2]
  dsimp only
  frame_open
  simp (disch := decide) only [↓ View.readCov_skip, ↓ View.readCov_cons_toLoadRect, ↓ View.readCov_fill]
  frame_out
  exact tile (taps_u m c t) (taps_g m c t) (fun _ _ => rfl) ((rows_u m c t).raw _ _ _ _) ((rows_g m c t).raw _ _ _ _)
    (acc4_ld _ (fun _ _ => 0) zero7 _ _ _ _) _

set_option maxHeartbeats 400000 in
theorem acc_A (h0 : t.val % 44 = 0) (h1 : t.val % 11 = 0) (h2 : ¬ t.val % 11 = 10) (R l : Fin 1024) :
    (outsAt0 m c t.val t.isLt).2.1 (ix2 (n0 := 1024) (n1 := 1024) R l) = 0 + gain m c t R l := by
  rw [outsAt0_A m c t h0 h1 h2]
  dsimp only
  frame_open
  simp (disch := decide) only [↓ View.readCov_skip, ↓ View.readCov_cons_toLoadRect, ↓ View.readCov_fill]
  frame_out
  exact tile (taps_u m c t) (taps_g m c t) (fun _ _ => rfl) ((rows_u m c t).cov (pad_u m c t) _ _) ((rows_g m c t).cov (pad_g m c t) _ _)
    (acc4_ld _ (fun _ _ => 0) zero7 _ _ _ _) _

/-- At the first column tile the accumulator starts from zero. -/
theorem acc_first (h : t.val % 11 = 0) (R l : Fin 1024) :
    (outsAt0 m c t.val t.isLt).2.1 (ix2 (n0 := 1024) (n1 := 1024) R l) = 0 + gain m c t R l := by
  by_cases h0 : t.val % 44 = 0
  · exact acc_A m c t h0 h (by omega) R l
  · exact acc_D m c t h0 h (by omega) R l

theorem acc_next (h : ¬ t.val % 11 = 0) (R l : Fin 1024) :
    (outsAt0 m c t.val t.isLt).2.1 (ix2 (n0 := 1024) (n1 := 1024) R l) = prior m c t R l + gain m c t R l := by
  by_cases h2 : t.val % 11 = 10
  · exact acc_C m c t (by omega) h h2 R l
  · exact acc_B m c t (by omega) h h2 R l

/-- The output block of a last column tile. -/
theorem out_last (h : t.val % 11 = 10) (r l : Fin 1024) :
    (dats m 0 c).after (9 : Fin 10) t (ix2 (n0 := 1024) (n1 := 1024) r l)
      = rmsRow (fun l => resid (iblk m c 1 t (ix2 (n0 := 1024) (n1 := 1024) r l)) (iblk m c 2 t (ix3 (n0 := 1) (n1 := 1) (n2 := 1024) 0 0 l))
          (prior m c t r l + gain m c t r l)) l * iblk m c 8 t (ix2 (n0 := 1) (n1 := 1024) 0 l) := by
  rw [after0_9]
  rw [outsAt0_C m c t (by omega) (by omega) h]
  dsimp only
  frame_open
  simp (disch := decide) only [↓ View.readCov_skip, ↓ View.readCov_cons_toLoadRect, ↓ View.readCov_fill]
  frame_out
  rw [close_apply]
  refine congrArg (· * _) (congrFun (congrArg rmsRow (funext fun l => ?_)) l)
  refine congrArg (resid _ _) ?_
  rw [View.readCov_eq_canon']
  refine (tile (taps_u m c t) (taps_g m c t) (fun _ _ => rfl) ((rows_u m c t).raw _ _ _ _) ((rows_g m c t).raw _ _ _ _)
    (acc4_ld _ _ (prior_read m c t _) _ _ _ _) _).trans (congrArg₂ (fun a b => prior m c t a b + gain m c t a b) (Fin.ext ?_) (Fin.ext ?_))
  · show 0 + 1 * r.val = r.val
    omega
  · show 0 + 1 * l.val = l.val
    omega

end Cert.FfnCtxIdeal.Hand
end
-- ==== Proof.FfnCtxArr.lean ====
/- The context path's feed-forward as a function of the arguments, and that the kernel leaves it in its array. -/
module

public import proofs.«01_k».proof.Proof.FfnCtxStep
public import proofs.«01_k».proof.Proof.FfnArr

@[expose] public section

set_option maxRecDepth 16384

noncomputable section

namespace Cert.Rows

/-- The sequence of 256 positions a row of the context lies in, and the row of a position. -/
def ctxOf (R : Fin 4096) : Fin 16 := ⟨R.val / 256, by omega⟩
def ctxRow (s : Fin 16) (r : Fin 256) : Fin 4096 := ⟨s.val * 256 + r.val, by omega⟩
def ctxPlace (R : Fin 4096) : Fin 256 := ⟨R.val % 256, Nat.mod_lt _ (by decide)⟩

end Cert.Rows

namespace Cert.FfnCtxIdeal.Hand

open Cert.FfnCtxIdeal Cert.FfnCtxIdeal.Gen Cert.Rows Idealize.ShloMosaic Idealize.ShloMosaic.TcCoe
open Cert.FfnIdeal.Hand (upRow resid)

variable (m : (ℓ : Loc nD τ sig) → Buf (Elt Ideal) ℓ) (c : Dev nD)

/-- The arguments as functions of their indices, the rows by sequence. -/
def rows (s : Fin 16) (r : Fin 256) (k : Fin 1024) : EReal := m ((c.tc : Thread nD τ).loc main_arg0) (ix2 (n0 := 4096) (n1 := 1024) (ctxRow s r) k)
def skip (s : Fin 16) (r : Fin 256) (k : Fin 1024) : EReal := m ((c.tc : Thread nD τ).loc main_arg1) (ix2 (n0 := 4096) (n1 := 1024) (ctxRow s r) k)
def gates (k : Fin 1024) : EReal := m ((c.tc : Thread nD τ).loc main_arg2) (ix3 (n0 := 1) (n1 := 1) (n2 := 1024) 0 0 k)
def wgtUp (d : Fin 1024) (K : Fin 5632) : EReal := m ((c.tc : Thread nD τ).loc main_arg3) (ix2 (n0 := 1024) (n1 := 5632) d K)
def wgtC (n : Fin 3) (K : Fin 5632) : EReal := m ((c.tc : Thread nD τ).loc main_arg4) (ix2 (n0 := 3) (n1 := 5632) n K)
def wgtD (K : Fin 2816) (l : Fin 1024) : EReal := m ((c.tc : Thread nD τ).loc main_arg5) (ix2 (n0 := 2816) (n1 := 1024) K l)
def finalG (l : Fin 1024) : EReal := m ((c.tc : Thread nD τ).loc main_arg6) (ix2 (n0 := 1) (n1 := 1024) 0 l)

def result (R : Fin 4096) (l : Fin 1024) : EReal :=
  ffnRow (rows m c (ctxOf R)) (wgtUp m c) (wgtC m c) (skip m c (ctxOf R)) (gates m c) (wgtD m c) (finalG m c) (ctxPlace R) l

theorem idx : ∀ t : Fin grid0.N, win0_0.index t = ![t.val / 11, 0] ∧ win0_1.index t = ![t.val / 11, 0] ∧ win0_2.index t = ![4 * (t.val / 11), 0, 0]
    ∧ win0_3.index t = ![0, t.val % 11] ∧ win0_4.index t = ![0, 11 + t.val % 11] ∧ win0_5.index t = ![0, t.val % 11]
    ∧ win0_6.index t = ![0, 11 + t.val % 11] ∧ win0_7.index t = ![t.val % 11, 0] ∧ win0_8.index t = ![0, 0]
    ∧ win0_9.index t = ![t.val / 11, 0] := by decide +kernel

variable (t : Fin grid0.N)

/-- The sequence of a row of the point's block, and the column of the activation that column `k` of its tile is. -/
def sq (R : Fin 1024) : Fin 16 := ⟨4 * (t.val / 11) + R.val / 256, by have h : t.val < 44 := t.isLt; omega⟩
def col (k : Fin 256) : Fin 2816 := ⟨256 * (t.val % 11) + k.val, by omega⟩

theorem h_at (R d : Fin 1024) (r : Fin 256) (R' : Fin 1024) (h : R'.val = 256 * (R.val / 256) + r.val) : hRow m c t R' d = rows m c (sq t R) r d := by
  obtain ⟨R', hR⟩ := R'
  obtain rfl : R' = _ := h
  unfold hRow
  blk_ext [iblk, V, idx t, rows, ctxRow, sq]
theorem wU_at (d : Fin 1024) (k : Fin 256) : wU m c t d k = wgtUp m c d (colU (col t k)) := by
  unfold wU
  blk_ext [iblk, V, idx t, wgtUp, colU, col]
theorem wG_at (d : Fin 1024) (k : Fin 256) : wG m c t d k = wgtUp m c d (colG (col t k)) := by
  unfold wG
  blk_ext [iblk, V, idx t, wgtUp, colG, col]
theorem tapU_at (n : Fin 3) (k : Fin 256) : tapU m c t n k = wgtC m c n (colU (col t k)) := by
  unfold tapU
  blk_ext [iblk, V, idx t, wgtC, colU, col]
theorem tapG_at (n : Fin 3) (k : Fin 256) : tapG m c t n k = wgtC m c n (colG (col t k)) := by
  unfold tapG
  blk_ext [iblk, V, idx t, wgtC, colG, col]
theorem down_at (k : Fin 256) (l : Fin 1024) : down m c t k l = wgtD m c (col t k) l := by
  unfold down
  blk_ext [iblk, V, idx t, wgtD, col]

theorem skip_at (R l : Fin 1024) : iblk m c 1 t (ix2 (n0 := 1024) (n1 := 1024) R l) = skip m c (sq t R) (place R) l := by
  blk_ext [iblk, V, idx t, skip, ctxRow, sq, place]
/-- The gate, repeated by the host for each of the sixteen sequences. -/
theorem gate_host : V m c main_v0 = broadcastInDim S16x1x1024 ![0, 1, 2] bcast_S1x1x1024_S16x1x1024_0_1_2 (m ((c.tc : Thread nD τ).loc main_arg2)) := by
  unfold_abbrev_sides
  after_results
theorem gate_at (l : Fin 1024) : iblk m c 2 t (ix3 (n0 := 1) (n1 := 1) (n2 := 1024) 0 0 l) = gates m c l := by
  show V m c main_v0 ((win0_2.blk t).view.emb (ix3 0 0 l)) = _
  rw [gate_host]
  unfold gates broadcastInDim
  blk_ext [idx t]
  exact congrArg Fin.val (dif_neg (show ¬ (1024 : ℕ) = 1 by decide))
theorem finalG_at (l : Fin 1024) : iblk m c 8 t (ix2 (n0 := 1) (n1 := 1024) 0 l) = finalG m c l := by
  blk_ext [iblk, V, idx t, finalG]

theorem upConv_at (W : Fin 1024 → Fin 256 → EReal) (K : Fin 256 → Fin 5632) (hW : ∀ d k, W d k = wgtUp m c d (K k)) (tap : Fin 3 → Fin 256 → EReal)
    (ht : ∀ n k, tap n k = wgtC m c n (K k)) (R : Fin 1024) (k : Fin 256) :
    conv (seg (upRow (hRow m c t) W · k) R) (tap · k) (place R) = upConv (rows m c (sq t R)) (wgtUp m c) (wgtC m c) (K k) (place R) := by
  unfold upConv
  refine congrFun (congrArg₂ conv (funext fun r => ?_) (funext fun n => ht n k)) _
  refine dot_congr _ _ _ _ (fun d => h_at m c t R d r _ rfl) fun d => hW d k

theorem gain_at (R l : Fin 1024) : gain m c t R l
    = ∑ k : Fin 256, act (rows m c (sq t R)) (wgtUp m c) (wgtC m c) (place R) (col t k) * wgtD m c (col t k) l := by
  unfold gain added
  refine Finset.sum_congr rfl fun k _ => ?_
  rw [upConv_at m c t _ (fun k => colU (col t k)) (wU_at m c t) _ (tapU_at m c t), upConv_at m c t _ (fun k => colG (col t k)) (wG_at m c t) _ (tapG_at m c t),
    down_at]
  rfl

/-- The accumulator after a tile of rows' last column tile. -/
theorem acc_last (h : t.val % 11 = 10) (R l : Fin 1024) : (outsAt0 m c t.val t.isLt).2.1 (ix2 (n0 := 1024) (n1 := 1024) R l)
    = ∑ K : Fin 2816, act (rows m c (sq t R)) (wgtUp m c) (wgtC m c) (place R) K * wgtD m c K l := by
  rw [Pipeline.eq_sum_fin_of_reset_step_of_flush (N := grid0.N)
    (fun n h => ((outsAt0 m c n h).2.1 (ix2 (n0 := 1024) (n1 := 1024) R l) : EReal)) 11 0 (fun t => gain m c t R l)
    (fun t h => acc_first m c t h R l) (fun t h => acc_next m c t h R l) t h, zero_add]
  simp only [gain_at]
  refine Fin.sum_mul_add_congr fun s k hl => ?_
  have hs : 4 * ((11 * (t.val / 11) + s.val) / 11) + R.val / 256 = 4 * (t.val / 11) + R.val / 256 := by omega
  have hk : 256 * ((11 * (t.val / 11) + s.val) % 11) + k.val = s.val * 256 + k.val := by omega
  refine congrArg₂ (fun a K => act (rows m c a) (wgtUp m c) (wgtC m c) (place R) K * wgtD m c K l) (Fin.ext hs) (Fin.ext hk)

/-- The row of the array that row `r` of the point's block is. -/
def out (r : Fin 1024) : Fin 4096 := ⟨t.val / 11 * 1024 + r.val, by have h : t.val < 44 := t.isLt; omega⟩

theorem out_window (h : t.val % 11 = 10) (r l : Fin 1024) :
    (dats m 0 c).after (9 : Fin 10) t (ix2 (n0 := 1024) (n1 := 1024) r l) = result m c (out t r) l := by
  rw [out_last m c t h, finalG_at]
  unfold result ffnRow
  rw [show ctxOf (out t r) = sq t r from Fin.ext (by show (t.val / 11 * 1024 + r.val) / 256 = 4 * (t.val / 11) + r.val / 256; omega),
    show ctxPlace (out t r) = place r from Fin.ext (by show (t.val / 11 * 1024 + r.val) % 256 = r.val % 256; omega)]
  refine congrArg (· * _) (congrFun (congrArg rmsRow (funext fun l => ?_)) l)
  unfold resid
  rw [← acc_next m c t (by omega), acc_last m c t h, skip_at, gate_at]

theorem out_array : (dats m 0 c).arrAt 9 cfg0.N = arr2 (result m c) := by
  refine (dats m 0 c).arrAt_eq_of_covers 9 _ (by decide +kernel) fun t hf y => ?_
  obtain ⟨r, l, rfl⟩ : ∃ (r l : Fin 1024), y = ix2 (n0 := 1024) (n1 := 1024) r l := ⟨_, _, eq_ix2 y⟩
  refine Eq.trans ?_ ((out_window m c t ((flush0_9 t).mp hf) r l).trans (arr2_of (result m c) _ (out t r) l ?_ ?_).symm)
  all_goals blk_simp [idx t]
  all_goals first | rfl | (show _ = t.val / 11 * 1024 + r.val; omega)

end Cert.FfnCtxIdeal.Hand
end
-- ==== Proof.FfnCtxClaim.lean ====
/- The plainly written feed-forward of the context path gives the same array, so kernel and reference end with equal results. -/
module

public import proofs.«01_k».proof.Defs
public import proofs.«01_k».proof.Proof.FfnCtxArr
public import proofs.«01_k».proof.Proof.Gen.FfnCtxRefIdeal
public import proofs.«01_k».proof.Proof.Gen.FfnCtxRefIdeal.Run
public import proofs.«01_k».proof.Proof.Gen.FfnCtxRefIdeal.Read

@[expose] public section

set_option maxRecDepth 16384

noncomputable section

namespace Cert.FfnCtxRefIdeal.Hand

open Cert.FfnCtxRefIdeal Cert.FfnCtxRefIdeal.Gen Cert.FfnCtxRefIdeal.Read Cert.Rows Idealize.ShloMosaic Idealize.ShloMosaic.TcCoe
open Cert.FfnIdeal.Hand (pad_before pad_behind)

variable (x0 : FVec Ideal S4096x1024 .bf16) (x1 : FVec Ideal S4096x1024 .f32) (x2 : FVec Ideal S1x1x1024 .f32)
  (x3 : FVec Ideal S1024x5632 .bf16) (x4 : FVec Ideal S3x5632 .f32) (x5 : FVec Ideal S2816x1024 .bf16) (x6 : FVec Ideal S1x1024 .f32)

/-- The arrays' entries: the rows by sequence. -/
def rows (s : Fin 16) (r : Fin 256) (d : Fin 1024) : EReal := x0 (ix2 (n0 := 4096) (n1 := 1024) (ctxRow s r) d)
def wgtUp (d : Fin 1024) (K : Fin 5632) : EReal := x3 (ix2 (n0 := 1024) (n1 := 5632) d K)
def wgtC (n : Fin 3) (K : Fin 5632) : EReal := x4 (ix2 (n0 := 3) (n1 := 5632) n K)

def skip (s : Fin 16) (r : Fin 256) (l : Fin 1024) : EReal := x1 (ix2 (n0 := 4096) (n1 := 1024) (ctxRow s r) l)

/-- The feed-forward of these arrays. -/
def result (R : Fin 4096) (l : Fin 1024) : EReal :=
  ffnRow (rows x0 (ctxOf R)) (wgtUp x3) (wgtC x4) (skip x1 (ctxOf R))
    (fun l => x2 (ix3 (n0 := 1) (n1 := 1) (n2 := 1024) 0 0 l)) (fun K l => x5 (ix2 (n0 := 2816) (n1 := 1024) K l))
    (fun l => x6 (ix2 (n0 := 1) (n1 := 1024) 0 l)) (ctxPlace R) l

theorem up_read (b : Fin 16) (r : Fin 256) (K : Fin 5632) : val_main_v4 (F := Ideal) x0 x3 (ix3 (n0 := 16) (n1 := 256) (n2 := 5632) b r K)
    = ∑ d : Fin 1024, rows x0 b r d * wgtUp x3 d K := by
  pointwise [val_main_v4, val_main_v3, val_main_v1, val_main_v0]
  rfl

theorem conv_read (b : Fin 16) (r : Fin 256) (K : Fin 5632) :
    val_main_v25 (F := Ideal) x0 x3 x4 (ix3 (n0 := 16) (n1 := 256) (n2 := 5632) b r K) = upConv (rows x0 b) (wgtUp x3) (wgtC x4) K r := by
  have h := fun r => up_read x0 x3 b r K
  unfold val_main_v25 val_main_v24 val_main_v19 val_main_v18 val_main_v17 val_main_v12 val_main_v11 val_main_v6 val_main_v5
  generalize val_main_v4 (F := Ideal) x0 x3 = M at h ⊢
  pointwise [val_main_v23, val_main_v22, val_main_v21, val_main_v20, val_main_v16, val_main_v15, val_main_v14, val_main_v13, val_main_v10,
    val_main_v9, val_main_v8, val_main_v7, val_main_call0_v0, val_main_c, h]
  rw [pad_before (fun R => ∑ d, rows x0 b R d * wgtUp x3 d K) r, pad_behind (fun R => ∑ d, rows x0 b R d * wgtUp x3 d K) r]
  rfl

theorem act_read (b : Fin 16) (r : Fin 256) (K : Fin 2816) :
    val_main_v29 (F := Ideal) x0 x3 x4 (ix3 (n0 := 16) (n1 := 256) (n2 := 2816) b r K) = act (rows x0 b) (wgtUp x3) (wgtC x4) r K := by
  have h := fun K => conv_read x0 x3 x4 b r K
  unfold val_main_v29 val_main_v28 val_main_call1_v5 val_main_call1_v3 val_main_call1_v1 val_main_call1_v0 val_main_v27 val_main_v26
  generalize val_main_v25 (F := Ideal) x0 x3 x4 = M at h ⊢
  pointwise [val_main_call1_v4, val_main_call1_v2, val_main_call1_cst, val_main_call1_cst_0, h]
  rfl

theorem row_read (b : Fin 16) (r : Fin 256) (l : Fin 1024) :
    val_main_v48 (F := Ideal) x0 x1 x2 x3 x4 x5 x6 (ix3 (n0 := 16) (n1 := 256) (n2 := 1024) b r l)
      = ffnRow (rows x0 b) (wgtUp x3) (wgtC x4) (skip x1 b)
    (fun l => x2 (ix3 (n0 := 1) (n1 := 1) (n2 := 1024) 0 0 l)) (fun K l => x5 (ix2 (n0 := 2816) (n1 := 1024) K l))
    (fun l => x6 (ix2 (n0 := 1) (n1 := 1024) 0 l)) r l := by
  have h := act_read x0 x3 x4 b r
  unfold val_main_v48 val_main_v45 val_main_v44 val_main_v43 val_main_v42 val_main_v40 val_main_v38 val_main_v37 val_main_v36 val_main_v34 val_main_v33 val_main_v31
  unfold ffnRow
  generalize val_main_v29 (F := Ideal) x0 x3 x4 = M at h ⊢
  generalize act (rows x0 b) (wgtUp x3) (wgtC x4) r = N at h ⊢
  pointwise [val_main_v47, val_main_v46, val_main_v41, val_main_v39, val_main_v35, val_main_v32, val_main_v30, val_main_v2,
    val_main_cst, val_main_cst_0, val_main_cst_1, h]
  rfl

theorem result_read : val_main_v49 (F := Ideal) x0 x1 x2 x3 x4 x5 x6 = arr2 (result x0 x1 x2 x3 x4 x5 x6) := by
  funext i
  obtain ⟨R, l, rfl⟩ : ∃ (R : Fin 4096) (l : Fin 1024), i = ix2 (n0 := 4096) (n1 := 1024) R l := ⟨_, _, eq_ix2 i⟩
  rw [arr2_of _ _ R l rfl rfl]
  have h := row_read x0 x1 x2 x3 x4 x5 x6 (ctxOf R) (ctxPlace R) l
  refine Eq.trans ?_ h
  unfold val_main_v49
  pointwise
  rfl

end Cert.FfnCtxRefIdeal.Hand

namespace Cert.Hand

open Cert.Rows Idealize.ShloMosaic Idealize.ShloMosaic.TcCoe Idealize.SL.Sem

theorem ffnctx_algebraic : Cert.algebraic_FfnCtxIdeal_FfnCtxRefIdeal (hFfnCtxIdeal := Cert.FfnCtxIdeal.Gen.facts)
    (hFfnCtxRefIdeal := Cert.FfnCtxRefIdeal.Gen.facts) := by
  intro m g m' g' _ hag
  refine ⟨fun c => arr2 (Cert.FfnCtxIdeal.Hand.result m c), ?_, ?_⟩
  · refine (θ_run _ _ _).mono (fun r h c => ?_) (Cert.FfnCtxIdeal.Value.run_blocks m g)
    obtain ⟨h0, ha⟩ := h c
    exact ⟨h0.trans (Cert.FfnCtxIdeal.Hand.out_array m c), ha⟩
  · refine (θ_run _ _ _).mono (fun r h c => ?_) (Cert.FfnCtxRefIdeal.Value.run (F := Ideal) m' g')
    obtain ⟨h0, ha⟩ := h c
    obtain ⟨a0, a1, a2, a3, a4, a5, a6⟩ := hag c
    refine ⟨h0.trans ?_, ha⟩
    rw [Cert.FfnCtxRefIdeal.Read.val_main_v49_eq, a0, a1, a2, a3, a4, a5, a6]
    exact Cert.FfnCtxRefIdeal.Hand.result_read _ _ _ _ _ _ _

end Cert.Hand
end
-- ==== Proof.LatSpec.lean ====
/- The attention of the latent path, the scores over real numbers: normalised queries and keys turned by their position's angles, the cached
   keys and values behind the new ones, one softmax over all 1536 keys; and the softmax taken chunk by chunk, whose running
   weights may stand under any real shift. -/
module

public import proofs.«01_k».proof.Proof.AttnSpec
public import Idealize.ShloMosaic.Lib.Pointwise

@[expose] public section

noncomputable section

namespace Cert.Maths.Latent

open Cert.Maths Idealize.ShloMosaic

/-! ## Averages of values that need not be finite -/

/-- A real factor that is not negative goes into a sum. -/
theorem scale_sum {ι : Type} (t : Finset ι) (f : ι → EReal) (x : ℝ) (hx : 0 ≤ x) : (x : EReal) * ∑ i ∈ t, f i = ∑ i ∈ t, (x : EReal) * f i := by
  classical
  induction t using Finset.induction_on with
  | empty => simp
  | insert a t ha ih => rw [Finset.sum_insert ha, Finset.sum_insert ha, EReal.left_distrib_of_nonneg_of_ne_top (EReal.coe_nonneg.mpr hx) (EReal.coe_ne_top x), ih]

/-- The average of the values `v` under the softmax of the scores `s`. -/
def mean {n : ℕ} (s : Fin n → ℝ) (v : Fin n → EReal) : EReal := ∑ j, ((Real.exp (s j) / ∑ k, Real.exp (s k) : ℝ) : EReal) * v j

theorem weight_shift {n : ℕ} (s : Fin n → ℝ) (μ : ℝ) (j : Fin n) :
    Real.exp (s j - μ) / ∑ k, Real.exp (s k - μ) = Real.exp (s j) / ∑ k, Real.exp (s k) := by
  simp only [Real.exp_sub]
  rw [← Finset.sum_div]
  exact div_div_div_cancel_right₀ (Real.exp_ne_zero _) _ _

/-- Every weight divided first, under any real shift, then the weighted sum. -/
theorem mean_early {n : ℕ} [NeZero n] (s : Fin n → ℝ) (v : Fin n → EReal) (M : EReal) (hM : ∃ μ : ℝ, M = (μ : EReal)) :
    ∑ j, Ideal.div (Ideal.exp ((s j : EReal) - M)) (∑ k, Ideal.exp ((s k : EReal) - M)) * v j = mean s v := by
  obtain ⟨μ, rfl⟩ := hM
  simp only [← EReal.coe_sub, Ideal.exp_coe]
  rw [coe_sum]
  simp only [div_coe_coe _ (sum_exp_pos fun j => s j - μ).ne', weight_shift]
  rfl

/-- The weighted sum first, then one division. -/
theorem mean_late {n : ℕ} [NeZero n] (s : Fin n → ℝ) (v : Fin n → EReal) (μ : ℝ) :
    Ideal.div (∑ j, (Real.exp (s j - μ) : EReal) * v j) ((∑ k, Real.exp (s k - μ) : ℝ) : EReal) = mean s v := by
  have hp := sum_exp_pos fun j => s j - μ
  unfold Ideal.div mean
  rw [if_neg (fun h => hp.ne' (EReal.coe_eq_zero.mp h)), ← EReal.coe_inv, mul_comm, scale_sum _ _ _ (inv_nonneg.mpr hp.le)]
  refine Finset.sum_congr rfl fun j _ => ?_
  rw [← mul_assoc, ← EReal.coe_mul, ← weight_shift s μ j, div_eq_inv_mul]

/-- A lane's place in its head's halves of 32, and the lane it is turned with. -/
def p32 (c : Fin 128) : Fin 32 := ⟨c.val % 32, Nat.mod_lt _ (by decide)⟩
def partner (c : Fin 128) : Fin 128 := if h : c.val % 64 < 32 then ⟨c.val + 32, by omega⟩ else ⟨c.val - 32, by omega⟩

/-- The sign of the partner's share. -/
def turn (s : Fin 32 → ℝ) (c : Fin 128) : ℝ := if c.val % 64 < 32 then -s (p32 c) else s (p32 c)

/-- A row of 128 lanes turned by the angles whose cosines and sines are `co` and `si`. -/
def rope (y : Fin 128 → ℝ) (co si : Fin 32 → ℝ) (c : Fin 128) : ℝ := y c * co (p32 c) + y (partner c) * turn si c

variable (X : Fin 4 → Fin 1024 → Fin 768 → ℝ) (qg kg : Fin 64 → ℝ) (CK : Fin 4 → Fin 2 → Fin 512 → Fin 64 → ℝ)
  (CV : Fin 4 → Fin 2 → Fin 512 → Fin 64 → EReal) (co si : Fin 1024 → Fin 32 → ℝ)

/-- The keys of batch `b`, key head `g`: the new ones, then the cached ones. -/
def keys (b : Fin 4) (g : Fin 2) (j : Fin 1536) (e : Fin 64) : ℝ :=
  if h : j.val < 1024 then rope (normed (fun k => X b ⟨j.val, h⟩ (kcol k)) kg) (co ⟨j.val, h⟩) (si ⟨j.val, h⟩) (lane g e)
  else CK b g ⟨j.val - 1024, by omega⟩ e

/-- The values, likewise; the cached ones need not be finite. -/
def vals (b : Fin 4) (g : Fin 2) (j : Fin 1536) (e : Fin 64) : EReal :=
  if h : j.val < 1024 then (X b ⟨j.val, h⟩ (vcol (lane g e)) : EReal) else CV b g ⟨j.val - 1024, by omega⟩ e

/-- The queries of batch `b`, pair `P`, turned and scaled by one eighth. -/
def queries (b : Fin 4) (P : Fin 4) (r : Fin 1024) (c : Fin 128) : ℝ :=
  rope (normed (fun k => X b r (qcol P k)) qg) (co r) (si r) c * (1 / 8)

/-- One head's row of scores. -/
def score (b : Fin 4) (P : Fin 4) (h : Fin 2) (r : Fin 1024) (j : Fin 1536) : ℝ :=
  ∑ e, queries X qg co si b P r (lane h e) * keys X kg CK co si b (grp P) j e

/-- The attention at row `r` of batch `b`, lane `c` of pair `P`. -/
def attn (b : Fin 4) (P : Fin 4) (r : Fin 1024) (c : Fin 128) : EReal :=
  mean (score X qg kg CK co si b P (hf c) r) (fun j => vals X CV b (grp P) j (pl c))

/-- The attention as one array of 512 lanes. -/
def attnAt (i : (⟨3, ![4, 1024, 512]⟩ : Shape).Idx) : EReal :=
  attn X qg kg CK CV co si (i 0) ⟨(i 2).val / 128, by have h : (i 2).val < 512 := (i 2).isLt; omega⟩ (i 1) ⟨(i 2).val % 128, by omega⟩

theorem attnAt_of (i : (⟨3, ![4, 1024, 512]⟩ : Shape).Idx) (b : Fin 4) (P : Fin 4) (r : Fin 1024) (l : Fin 128) (h0 : (i 0).val = b.val)
    (h1 : (i 1).val = r.val) (h2 : (i 2).val = 128 * P.val + l.val) :
    attnAt X qg kg CK CV co si i = attn X qg kg CK CV co si b P r l := by
  unfold attnAt
  congr 1 <;> apply Fin.ext
  · exact h0
  · show (i 2).val / 128 = P.val; omega
  · exact h1
  · show (i 2).val % 128 = l.val; omega

/-! ## The softmax taken chunk by chunk -/

/-- Key `i` of chunk `n`. -/
def key (n : Fin 6) (i : Fin 256) : Fin 1536 := ⟨256 * n.val + i.val, by omega⟩

/-- The chunks below `n`. -/
def below (n : ℕ) : Finset (Fin 6) := Finset.univ.filter fun a => a.val < n

/-- A running state after the chunks below `n`: some real shift, the weights' sum and the weighted values' sum under it. -/
def Run (s : Fin 1536 → ℝ) (v : Fin 1536 → EReal) (n : ℕ) (m l acc : EReal) : Prop :=
  ∃ μ : ℝ, m = (μ : EReal) ∧ l = ((∑ a ∈ below n, ∑ i, Real.exp (s (key a i) - μ) : ℝ) : EReal)
    ∧ acc = ∑ a ∈ below n, ∑ i, (Real.exp (s (key a i) - μ) : EReal) * v (key a i)

theorem below_succ {α : Type} [AddCommMonoid α] (n : Fin 6) (f : Fin 6 → α) : ∑ a ∈ below (n.val + 1), f a = ∑ a ∈ below n.val, f a + f n := by
  have e : below (n.val + 1) = insert n (below n.val) := by
    ext a
    simp only [below, Finset.mem_filter, Finset.mem_univ, true_and, Finset.mem_insert]
    constructor
    · intro h; by_cases h' : a = n
      · exact .inl h'
      · exact .inr (by have : a.val ≠ n.val := fun h => h' (Fin.ext h); omega)
    · rintro (rfl | h) <;> omega
  rw [e, Finset.sum_insert (by simp [below]), add_comm]

theorem below_all {α : Type} [AddCommMonoid α] (f : Fin 1536 → α) : ∑ a ∈ below 6, ∑ i, f (key a i) = ∑ j, f j := by
  have e : below 6 = Finset.univ := by ext a; simp [below]
  rw [e, ← Fintype.sum_prod_type']
  exact Fintype.sum_equiv
    { toFun := fun p : Fin 6 × Fin 256 => key p.1 p.2
      invFun := fun j => (⟨j.val / 256, by omega⟩, ⟨j.val % 256, by omega⟩)
      left_inv := fun p => Prod.ext (Fin.ext (by show (256 * p.1.val + p.2.val) / 256 = p.1.val; omega))
        (Fin.ext (by show (256 * p.1.val + p.2.val) % 256 = p.2.val; omega))
      right_inv := fun j => Fin.ext (by show 256 * (j.val / 256) + j.val % 256 = j.val; omega) } _ _ fun p => rfl

variable (s : Fin 1536 → ℝ) (v : Fin 1536 → EReal) (S V : Fin 256 → EReal)

/-- The first chunk, under its own greatest score. -/
theorem run_first (hS : ∀ i, S i = (s (key 0 i) : EReal)) (hV : ∀ i, V i = v (key 0 i)) :
    Run s v 1 (Finset.fold max (⊥ : EReal) S Finset.univ)
      (∑ i, Ideal.exp (S i - Finset.fold max (⊥ : EReal) S Finset.univ))
      (∑ i, Ideal.exp (S i - Finset.fold max (⊥ : EReal) S Finset.univ) * V i) := by
  obtain rfl : S = fun i => (s (key 0 i) : EReal) := funext hS
  obtain ⟨μ, hμ⟩ := fold_max_real fun i => s (key 0 i)
  have z : ∀ {α : Type} [AddCommMonoid α] (f : Fin 6 → α), ∑ a ∈ below 1, f a = f 0 := fun f => (below_succ 0 f).trans (by simp [below])
  refine ⟨μ, hμ, ?_, ?_⟩
  · rw [hμ, z, ← coe_sum]; simp only [← EReal.coe_sub, Ideal.exp_coe]
  · rw [hμ, z]; simp only [hV, ← EReal.coe_sub, Ideal.exp_coe]

/-- A further chunk: the state so far is brought under the greater of the two shifts. -/
theorem run_next (n : Fin 6) (hS : ∀ i, S i = (s (key n i) : EReal)) (hV : ∀ i, V i = v (key n i)) (m l acc : EReal)
    (h : Run s v n.val m l acc) (M : EReal) (hM : M = max m (Finset.fold max (⊥ : EReal) S Finset.univ)) :
    Run s v (n.val + 1) M (Ideal.exp (m - M) * l + ∑ i, Ideal.exp (S i - M))
      (Ideal.exp (m - M) * acc + ∑ i, Ideal.exp (S i - M) * V i) := by
  obtain rfl : S = fun i => (s (key n i) : EReal) := funext hS
  obtain ⟨μ, rfl, rfl, rfl⟩ := h
  obtain ⟨ν, hν⟩ := fold_max_real fun i => s (key n i)
  have e : M = ((max μ ν : ℝ) : EReal) := by rw [hM, hν]; exact (EReal.coe_strictMono.monotone.map_max).symm
  clear hM
  generalize max μ ν = κ at e
  subst e
  have x : ∀ t, Real.exp (μ - κ) * Real.exp (t - μ) = Real.exp (t - κ) := fun t => by rw [← Real.exp_add]; ring_nf
  refine ⟨κ, rfl, ?_, ?_⟩ <;> rw [below_succ]
  · simp only [← EReal.coe_sub, Ideal.exp_coe, ← EReal.coe_mul]
    rw [coe_sum, ← EReal.coe_add]
    simp only [Finset.mul_sum, x]
  · simp only [hV, ← EReal.coe_sub, Ideal.exp_coe, scale_sum _ _ _ (Real.exp_pos _).le, ← mul_assoc, ← EReal.coe_mul, x]

/-- After the last chunk the quotient is the softmax average over all keys. -/
theorem run_all (m l acc : EReal) (h : Run s v 6 m l acc) : Ideal.div acc l = mean s v := by
  obtain ⟨μ, -, rfl, rfl⟩ := h
  rw [below_all fun j => Real.exp (s j - μ), below_all fun j => (Real.exp (s j - μ) : EReal) * v j,
    mean_late]

end Cert.Maths.Latent

end
-- ==== Proof.LatLoop.lean ====
/- One trip of the latent attention's loop as a function of vectors: four heads, each a running softmax over six chunks of 256
   keys, two heads side by side in a row of 128 lanes. -/
module

public import proofs.«01_k».proof.Proof.Gen.LatIdeal.Value
public import proofs.«01_k».proof.Proof.LatSpec
public import Idealize.ShloMosaic.Lib.Pipeline.ReadBack
public import Idealize.ShloMosaic.Lib.Pointwise
public import Idealize.ShloMosaic.Lib.Pipeline.ValueKit

@[expose] public section

set_option maxRecDepth 200000

noncomputable section

namespace Cert.LatIdeal.Hand

open Cert.LatIdeal Cert.LatIdeal.Gen Idealize.ShloMosaic Idealize.ShloMosaic.TcCoe
open Idealize.ShloMosaic.Pipeline (Dat)

/-- The marks of the lanes of half `w`, for every row. -/
def marks (w : BitVec 32) : IVec S512x128 1 :=
  broadcastTo S512x128 (shapeCast S1x128 (cmpi .eq k0_pay105 (broadcast S1x128 w)) shapeCasts_S1x128_S1x128) broadcasts_S1x128_S512x128

/-- The queries of half `w`, zero elsewhere. -/
def masked (w : BitVec 32) (q : FVec Ideal S512x128 .bf16) : FVec Ideal S512x128 .bf16 :=
  select (marks w) q (broadcast S512x128 (Scalar.ofBits (F := Ideal) .bf16 0x0000#16))

/-- The scores of 512 queries against a chunk of keys, their greatest, their weights under a shift, and the weights' uses. -/
def raw (q : FVec Ideal S512x128 .bf16) (k : FVec Ideal S256x128 .bf16) : FVec Ideal S512x256 .f32 :=
  matmul dot_S512x128_S256x128_S512x256_1_1_0_0_n_n none q k (constant (F := Ideal) S512x256 .f32 0x00000000#32)
def best (s : FVec Ideal S512x256 .f32) : FVec Ideal S512x1 .f32 :=
  shapeCast S512x1 (multiReduction .maximumf [1] S512 s 0xFF800000#32 reduces_S512x256_S512 (.inl rfl) rfl) shapeCasts_S512_S512x1
def weigh (s : FVec Ideal S512x256 .f32) (m : FVec Ideal S512x1 .f32) : FVec Ideal S512x256 .f32 :=
  exp (subf s (broadcastTo S512x256 m broadcasts_S512x1_S512x256))
def total (p : FVec Ideal S512x256 .f32) : FVec Ideal S512x1 .f32 :=
  shapeCast S512x1 (multiReduction .add [1] S512 p 0x00000000#32 reduces_S512x256_S512 (.inl rfl) rfl) shapeCasts_S512_S512x1
def mix (p : FVec Ideal S512x256 .f32) (v : FVec Ideal S256x128 .bf16) : FVec Ideal S512x128 .f32 :=
  matmul dot_S512x256_S256x128_S512x128_1_0_0_1_n_n none (truncf .bf16 p bitsLt_bf16_f32) v (constant (F := Ideal) S512x128 .f32 0x00000000#32)

/-- The running state of one head: shift, sum of weights, weighted sum of values. -/
structure St where
  m : FVec Ideal S512x1 .f32
  l : FVec Ideal S512x1 .f32
  acc : FVec Ideal S512x128 .f32

def first (q : FVec Ideal S512x128 .bf16) (k v : FVec Ideal S256x128 .bf16) : St :=
  ⟨best (raw q k), total (weigh (raw q k) (best (raw q k))), mix (weigh (raw q k) (best (raw q k))) v⟩

def next (q : FVec Ideal S512x128 .bf16) (k v : FVec Ideal S256x128 .bf16) (x : St) : St :=
  let M := maximumf x.m (best (raw q k))
  ⟨M, addf (mulf (exp (subf x.m M)) x.l) (total (weigh (raw q k) M)),
    addf (mulf (broadcastTo S512x128 (exp (subf x.m M)) broadcasts_S512x1_S512x128) x.acc) (mix (weigh (raw q k) M) v)⟩

/-- One head after its six chunks. -/
def chain (q : FVec Ideal S512x128 .bf16) (k v : Fin 6 → FVec Ideal S256x128 .bf16) : St :=
  next q (k 5) (v 5) (next q (k 4) (v 4) (next q (k 3) (v 3) (next q (k 2) (v 2) (next q (k 1) (v 1) (first q (k 0) (v 0))))))
def head (q : FVec Ideal S512x128 .bf16) (k v : Fin 6 → FVec Ideal S256x128 .bf16) : FVec Ideal S512x128 .f32 :=
  divf (chain q k v).acc (broadcastTo S512x128 (chain q k v).l broadcasts_S512x1_S512x128)

/-- Two heads, each in its own half of the row. -/
def pair (q : FVec Ideal S512x128 .bf16) (k v : Fin 6 → FVec Ideal S256x128 .bf16) : FVec Ideal S512x128 .f32 :=
  select (marks 0#32) (head (masked 0#32 q) k v) (head (masked 1#32 q) k v)

/-- What one trip stores. -/
def stored (qa qb : FVec Ideal S512x128 .bf16) (k v : Fin 6 → FVec Ideal S256x128 .bf16) : FVec Ideal S1x512x256 .bf16 :=
  shapeCast S1x512x256 (truncf .bf16 (concatenate S512x256 1 [⟨S512x128, pair qa k v⟩, ⟨S512x128, pair qb k v⟩]
    concatenates_S512x128_S512x128_S512x256_d1) bitsLt_bf16_f32) shapeCasts_S512x256_S1x512x256

variable (m : (ℓ : Loc nD τ sig) → Buf (Elt Ideal) ℓ) (c : Dev nD) (t : Fin grid0.N)
variable (X12 : BufTy.Contents (Elt Ideal) (scM0_0 : Memref sig .tc .vmem S1024x256 .bf16).view.ty)
  (X13 : BufTy.Contents (Elt Ideal) (scM0_1 : Memref sig .tc .vmem S1536x128 .bf16).view.ty)
  (X14 : BufTy.Contents (Elt Ideal) (scM0_2 : Memref sig .tc .vmem S1536x128 .bf16).view.ty)

/-- A chunk of 256 rows of a scratch array. -/
theorem chunk_inb (n : Fin 6) : ∀ a, (![256 * n.val, 0] : Fin 2 → Nat) a + S256x128.size a ≤ S1536x128.size a := by revert n; decide
def chunk (Y : Vec Ideal S1536x128 .bf16) (n : Fin 6) : FVec Ideal S256x128 .bf16 :=
  View.ld Y (Rect.unit (s := S1536x128) ![256 * n.val, 0] S256x128.size (chunk_inb n))

/-- The pieces one trip writes, from whatever the scratch arrays hold. -/
abbrev pieces (k : Fin k0_t1_loop.trips) := tripL_k0_t1 (F := Ideal) Variants.none c none (grid0.coords t) (ms0_0 t) (hs0_0 t)
  (ms0_1 t) (hs0_1 t) (ms0_2 t) (hs0_2 t) (ms0_3 t) (hs0_3 t) (ms0_4 t) (hs0_4 t) (ms0_5 t) (hs0_5 t) (ms0_6 t) (hs0_6 t)
  (ms0_7 t) (hs0_7 t) (ms0_8 t) (hs0_8 t) (ms0_9 t) (hs0_9 t) scM0_0 (Memref.isWhole_whole _) scM0_1 (Memref.isWhole_whole _)
  scM0_2 (Memref.isWhole_whole _) k0_pay105 X12 X13 X14 k

theorem pieces_eq (k : Fin k0_t1_loop.trips) : pieces c t X12 X13 X14 k
    = [⟨Rect.unit (k0_off3 k) S1x512x256.size (k0_off3_inb k),
        stored (View.ld (View.read (Elt Ideal) (View.whole cc0_scratch0) X12) (Rect.unit (k0_off1 k) S512x128.size (k0_off1_inb k)))
          (View.ld (View.read (Elt Ideal) (View.whole cc0_scratch0) X12) (Rect.unit (k0_off2 k) S512x128.size (k0_off2_inb k)))
          (chunk (View.read (Elt Ideal) (View.whole cc0_scratch1) X13)) (chunk (View.read (Elt Ideal) (View.whole cc0_scratch2) X14))⟩] := by
  unfold pieces tripL_k0_t1 trip_k0_t1
  dsimp only
  frame_out
  rfl

end Cert.LatIdeal.Hand
end
-- ==== Proof.LatPay.lean ====
/- What the latent attention's vector operations before its loop compute at an index, on blocks of real numbers: normalised
   queries and keys turned by the tables' angles, one group's values, and the cached rows set side by side. -/
module

public import proofs.«01_k».proof.Proof.Gen.LatIdeal.Skeleton
public import proofs.«01_k».proof.Proof.LatSpec
public import proofs.«01_k».proof.Proof.AttnPay
public import Idealize.ShloMosaic.Lib.Pointwise
public import Idealize.ShloMosaic.Lib.Pipeline.ValueKit

@[expose] public section

set_option maxRecDepth 16384

noncomputable section

namespace Cert.LatIdeal.Hand

open Cert.LatIdeal Cert.LatIdeal.Gen Cert.Maths Cert.Maths.Latent Idealize.ShloMosaic Idealize.ShloMosaic.TcCoe
open Cert.AttnIdeal.Hand (normed_eq rot_lane own_lane)

/-- A choice by the word for the half a lane lies in. -/
theorem select_half {α : Type} (c : Fin 128) (w : BitVec 32) (h : Fin 2) (hw : w = BitVec.ofNat 32 h.val) (a b : α) :
    Scalar.select (IntOp.cmpi CmpIPredicate.eq (k0_pay105 (ix2 (n0 := 1) (n1 := 128) 0 c)) w) a b
      = if c.val / 64 = h.val then a else b := by
  have e : ∀ c : Fin 128, k0_pay105 (ix2 (n0 := 1) (n1 := 128) 0 c) = Cert.AttnIdeal.Gen.k0_pay2 (ix2 (n0 := 1) (n1 := 128) 0 c) := by
    decide +kernel
  rw [e]
  exact Cert.AttnIdeal.Hand.select_half c w h hw a b

/-- A choice by the mark of the lower half of a head's lanes. -/
theorem select_low {α : Type} (c : Fin 128) (a b : α) :
    Scalar.select (k0_pay106 (ix2 (n0 := 1) (n1 := 128) 0 c)) a b = if c.val % 64 < 32 then a else b := by
  have e : ∀ c : Fin 128, k0_pay106 (ix2 (n0 := 1) (n1 := 128) 0 c) = if c.val % 64 < 32 then 1#1 else 0#1 := by decide +kernel
  rw [e]
  split <;> rfl

/-- The matrix that marks lanes of one half. -/
def markMat : FVec Ideal S128x128 .bf16 :=
  k0_pay110 (k0_pay107 (iota Kind.tc S128x128 32 [0] iota_S128x128_d0_w32)) k0_pay108 k0_pay109 1#32

theorem mark_word (r c : Fin 128) : markMat (ix2 (n0 := 128) (n1 := 128) r c) = if r.val / 64 = c.val / 64 then 1 else 0 := by
  rw [← Cert.AttnIdeal.Hand.mark_word r c]
  rfl

/-- The gain of a lane: the 64 gains, twice. -/
theorem gain_apply (a : FVec Ideal S1x64 .f32) (c : Fin 128) :
    k0_pay111 (F := Ideal) a a (ix2 (n0 := 1) (n1 := 128) 0 c) = a (ix2 0 (pl c)) :=
  Cert.AttnIdeal.Hand.gain_apply a c

theorem partner_low (c : Fin 128) (h : c.val % 64 < 32) :
    (⟨(c.val + 128 - 96) % 128, Nat.mod_lt _ (by decide)⟩ : Fin 128) = partner c := by
  unfold partner; rw [dif_pos h]; exact Fin.ext (by show (c.val + 128 - 96) % 128 = c.val + 32; omega)

theorem partner_high (c : Fin 128) (h : ¬c.val % 64 < 32) :
    (⟨(c.val + 128 - 32) % 128, Nat.mod_lt _ (by decide)⟩ : Fin 128) = partner c := by
  unfold partner; rw [dif_neg h]; exact Fin.ext (by show (c.val + 128 - 32) % 128 = c.val - 32; omega)

/-- A lane turned by its angle, from the two rotations of the row. -/
theorem rope_eq (y : Fin 128 → ℝ) (co si : Fin 32 → ℝ) (c : Fin 128) (Y : Fin 128 → EReal) (hY : ∀ k, Y k = (y k : EReal)) (C S : EReal)
    (hC : C = (co (p32 c) : EReal)) (hS : S = (turn si c : EReal)) :
    Y c * C + Scalar.select (k0_pay106 (ix2 (n0 := 1) (n1 := 128) 0 c)) (Y ⟨(c.val + 128 - 96) % 128, Nat.mod_lt _ (by decide)⟩)
        (Y ⟨(c.val + 128 - 32) % 128, Nat.mod_lt _ (by decide)⟩) * S = (rope y co si c : EReal) := by
  have e : Scalar.select (k0_pay106 (ix2 (n0 := 1) (n1 := 128) 0 c)) (Y ⟨(c.val + 128 - 96) % 128, Nat.mod_lt _ (by decide)⟩)
      (Y ⟨(c.val + 128 - 32) % 128, Nat.mod_lt _ (by decide)⟩) = (y (partner c) : EReal) := by
    rw [select_low]
    split
    · next h => rw [partner_low c h, hY]
    · next h => rw [partner_high c h, hY]
  rw [e, hY, hC, hS, ← EReal.coe_mul, ← EReal.coe_mul, ← EReal.coe_add]
  rfl

variable (x : Fin 1024 → Fin 128 → ℝ) (g : Fin 64 → ℝ) (co si : Fin 1024 → Fin 32 → ℝ)
  (X : FVec Ideal S1x1024x128 .f32) (G : FVec Ideal S1x64 .f32) (C S : FVec Ideal S1024x128 .f32)
  (hX : ∀ r c, X (ix3 0 r c) = (x r c : EReal)) (hG : ∀ e, G (ix2 0 e) = (g e : EReal))
  (hC : ∀ r c, C (ix2 r c) = (co r (p32 c) : EReal)) (hS : ∀ r c, S (ix2 r c) = (turn (si r) c : EReal))

include hX hG hC hS in
/-- The query columns of one pair of heads, normalised, turned and scaled by the eighth. -/
theorem query_apply (r : Fin 1024) (c : Fin 128) :
    k0_pay121 (F := Ideal) (k0_pay120 k0_pay106 markMat (k0_pay112 G G) X C S) (ix2 (n0 := 1024) (n1 := 128) r c)
      = ((rope (normed (x r) g) (co r) (si r) c * (1 / 8) : ℝ) : EReal) := by
  have e : ∀ c, k0_pay112 (F := Ideal) G G (ix2 (n0 := 1) (n1 := 128) 0 c) = (g (pl c) : EReal) := fun c => (gain_apply G c).trans (hG _)
  have mk := fun c r => mark_word r c
  generalize markMat = M at mk ⊢
  generalize k0_pay112 (F := Ideal) G G = GG at e ⊢
  pointwise [k0_pay121, k0_pay120]
  refine (congrArg (fun z : EReal => z * Ideal.ofBits FTy.f32 0x3E000000#32) (rope_eq (normed (x r) g) (co r) (si r) c
    (fun k => _) (fun k => normed_eq (x r) g k (fun k => X (ix3 0 r k)) (hX r) (fun j => M (ix2 j k)) (mk k) _ (e k)) _ _ (hC r c) (hS r c))).trans ?_
  rw [ofBits_eighth, ← EReal.coe_mul]

include hX hG hC hS in
theorem query_apply' (r : Fin 1024) (c : Fin 128) :
    k0_pay1 (F := Ideal) (k0_pay122 k0_pay106 markMat (k0_pay112 G G) X C S) (FloatOps.ofBits FTy.f32 1040187392#32)
        (ix2 (n0 := 1024) (n1 := 128) r c)
      = ((rope (normed (x r) g) (co r) (si r) c * (1 / 8) : ℝ) : EReal) :=
  query_apply x g co si X G C S hX hG hC hS r c

include hX hG hC hS in
/-- The new keys of group `h`, normalised and turned, in both halves of the row. -/
theorem key_apply (w : BitVec 32) (h : Fin 2) (hw : w = BitVec.ofNat 32 h.val) (r : Fin 1024) (c : Fin 128) :
    k0_pay116 (F := Ideal) w k0_pay105 k0_pay106 (k0_pay111 G G) (k0_pay114 X)
        (k0_pay115 (k0_pay107 (iota Kind.tc S128x128 32 [0] iota_S128x128_d0_w32)) k0_pay108 k0_pay109 1#32 X) C S
        (ix2 (n0 := 1024) (n1 := 128) r c)
      = (rope (normed (x r) g) (co r) (si r) (lane h (pl c)) : EReal) := by
  have e : ∀ c, k0_pay111 (F := Ideal) G G (ix2 (n0 := 1) (n1 := 128) 0 c) = (g (pl c) : EReal) := fun c => (gain_apply G c).trans (hG _)
  have mk := fun c r => mark_word r c
  unfold k0_pay115
  rw [show k0_pay110 (F := Ideal) (k0_pay107 (iota Kind.tc S128x128 32 [0] iota_S128x128_d0_w32)) k0_pay108 k0_pay109 1#32 = markMat from rfl]
  generalize markMat = M at mk ⊢
  generalize k0_pay111 (F := Ideal) G G = GG at e ⊢
  pointwise [k0_pay116, k0_pay114]
  have R : ∀ c, _ = (rope (normed (x r) g) (co r) (si r) c : EReal) := fun c => rope_eq (normed (x r) g) (co r) (si r) c
    (fun k => _) (fun k => normed_eq (x r) g k (fun k => X (ix3 0 r k)) (hX r) (fun j => M (ix2 j k)) (mk k) _ (e k)) _ _ (hC r c) (hS r c)
  rw [select_half c w h hw]
  split
  · next hc => exact (R c).trans (congrArg (fun c => ((rope (normed (x r) g) (co r) (si r) c : ℝ) : EReal)) (own_lane h c hc))
  · next hc =>
    exact (R ⟨(c.val + 128 - 64) % 128, Nat.mod_lt _ (by decide)⟩).trans
      (congrArg (fun c => ((rope (normed (x r) g) (co r) (si r) c : ℝ) : EReal)) (rot_lane h c hc))

include hX in
/-- The new values of group `h`, in both halves of the row. -/
theorem value_apply (w : BitVec 32) (h : Fin 2) (hw : w = BitVec.ofNat 32 h.val) (r : Fin 1024) (c : Fin 128) :
    k0_pay118 (F := Ideal) (k0_pay113 w k0_pay105 X) (ix2 (n0 := 1024) (n1 := 128) r c) = (x r (lane h (pl c)) : EReal) := by
  pointwise [k0_pay118, k0_pay113]
  rw [select_half c w h hw]
  split
  · next hc => rw [hX]; exact congrArg (fun c => (x r c : EReal)) (own_lane h c hc)
  · next hc =>
    exact (hX r ⟨(c.val + 128 - 64) % 128, Nat.mod_lt _ (by decide)⟩).trans
      (congrArg (fun c => (x r c : EReal)) (rot_lane h c hc))

/-- The cached rows, the 64 lanes twice. -/
theorem cached_apply (Y : FVec Ideal S1x1x512x64 .f32) (r : Fin 512) (c : Fin 128) :
    k0_pay117 (F := Ideal) Y (ix2 (n0 := 512) (n1 := 128) r c) = Y (ix4 0 0 r (pl c)) := by
  pointwise [k0_pay117]
  by_cases h : c.val < 64
  · rw [dif_pos h]; exact congrArg Y (congrArg (ix4 0 0 r) (Fin.ext (by show c.val = c.val % 64; omega)))
  · rw [dif_neg h]; exact congrArg Y (congrArg (ix4 0 0 r) (Fin.ext (by show c.val - 64 = c.val % 64; omega)))

theorem cached_apply' (Y : FVec Ideal S1x1x512x64 .f32) (r : Fin 512) (c : Fin 128) :
    k0_pay119 (F := Ideal) Y (ix2 (n0 := 512) (n1 := 128) r c) = Y (ix4 0 0 r (pl c)) := cached_apply Y r c

end Cert.LatIdeal.Hand
end
-- ==== Proof.LatBody.lean ====
/- The latent attention's loop at an index: each running state is the softmax over the chunks so far, a trip stores the averages
   of its four heads, and the two trips cover the block. -/
module

public import proofs.«01_k».proof.Proof.LatLoop
public import proofs.«01_k».proof.Proof.LatPay

@[expose] public section

set_option maxRecDepth 16384

noncomputable section

namespace Cert.LatIdeal.Hand

open Cert.LatIdeal Cert.LatIdeal.Gen Cert.Maths Cert.Maths.Latent Idealize.ShloMosaic Idealize.ShloMosaic.TcCoe
open Idealize.ShloMosaic.Pipeline (Dat)

/-! ## The vector functions at an index -/

theorem masked_apply (h : Fin 2) (q : FVec Ideal S512x128 .bf16) (r : Fin 512) (c : Fin 128) :
    masked (BitVec.ofNat 32 h.val) q (ix2 r c) = if c.val / 64 = h.val then q (ix2 r c) else 0 := by
  pointwise [masked, marks]
  exact select_half c _ h rfl _ _

theorem raw_apply (q : FVec Ideal S512x128 .bf16) (k : FVec Ideal S256x128 .bf16) (r : Fin 512) (i : Fin 256) :
    raw q k (ix2 r i) = ∑ x, q (ix2 r x) * k (ix2 i x) := by
  pointwise [raw]

theorem best_apply (s : FVec Ideal S512x256 .f32) (r : Fin 512) :
    best s (ix2 r 0) = Finset.fold max (⊥ : EReal) (fun i => s (ix2 r i)) Finset.univ := by
  pointwise [best]
  rw [ofBits_neg_inf]

theorem weigh_apply (s : FVec Ideal S512x256 .f32) (m : FVec Ideal S512x1 .f32) (r : Fin 512) (i : Fin 256) :
    weigh s m (ix2 r i) = Ideal.exp (s (ix2 r i) - m (ix2 r 0)) := by
  pointwise [weigh]

theorem total_apply (p : FVec Ideal S512x256 .f32) (r : Fin 512) : total p (ix2 r 0) = ∑ i, p (ix2 r i) := by
  pointwise [total]

theorem mix_apply (p : FVec Ideal S512x256 .f32) (v : FVec Ideal S256x128 .bf16) (r : Fin 512) (c : Fin 128) :
    mix p v (ix2 r c) = ∑ i, p (ix2 r i) * v (ix2 i c) := by
  pointwise [mix]

/-! ## The running state -/

variable (q : FVec Ideal S512x128 .bf16) (k v : Fin 6 → FVec Ideal S256x128 .bf16) (r : Fin 512) (c : Fin 128)
  (s : Fin 1536 → ℝ) (w : Fin 1536 → EReal) (hs : ∀ n i, raw q (k n) (ix2 r i) = (s (key n i) : EReal)) (hw : ∀ n i, v n (ix2 i c) = w (key n i))

/-- Row `r`, lane `c` of a state is the softmax's after the chunks below `n`. -/
def Good (n : ℕ) (x : St) : Prop := Run s w n (x.m (ix2 r 0)) (x.l (ix2 r 0)) (x.acc (ix2 r c))

include hs hw in
theorem first_good : Good r c s w 1 (first q (k 0) (v 0)) := by
  have h := run_first s w (fun i => raw q (k 0) (ix2 r i)) (fun i => v 0 (ix2 i c)) (hs 0) (hw 0)
  unfold Good first
  dsimp only
  rw [total_apply, mix_apply]
  simp only [weigh_apply, best_apply]
  exact h

include hs hw in
theorem next_good (n : Fin 6) (x : St) (hx : Good r c s w n.val x) : Good r c s w (n.val + 1) (next q (k n) (v n) x) := by
  have h := run_next s w (fun i => raw q (k n) (ix2 r i)) (fun i => v n (ix2 i c)) n (hs n) (hw n) _ _ _ hx _ rfl
  have e : maximumf x.m (best (raw q (k n))) (ix2 r 0)
      = max (x.m (ix2 r 0)) (Finset.fold max (⊥ : EReal) (fun i => raw q (k n) (ix2 r i)) Finset.univ) := by
    rw [← best_apply]; rfl
  rw [← e] at h
  unfold Good next
  dsimp only
  generalize maximumf x.m (best (raw q (k n))) = M at h ⊢
  have e1 : addf (mulf (exp (subf x.m M)) x.l) (total (weigh (raw q (k n)) M)) (ix2 r 0)
      = Ideal.exp (x.m (ix2 r 0) - M (ix2 r 0)) * x.l (ix2 r 0) + total (weigh (raw q (k n)) M) (ix2 r 0) := rfl
  have e2 : addf (mulf (broadcastTo S512x128 (exp (subf x.m M)) broadcasts_S512x1_S512x128) x.acc) (mix (weigh (raw q (k n)) M) (v n)) (ix2 r c)
      = Ideal.exp (x.m (ix2 r 0) - M (ix2 r 0)) * x.acc (ix2 r c) + mix (weigh (raw q (k n)) M) (v n) (ix2 r c) := by
    generalize mix (weigh (raw q (k n)) M) (v n) = Y
    pointwise []
  rw [e1, e2, total_apply, mix_apply]
  simp only [weigh_apply]
  exact h

include hs hw in
theorem head_apply : head q k v (ix2 r c) = mean s w := by
  have N := fun (n : Fin 6) x hx => next_good q k v r c s w hs hw n x hx
  have h : Good r c s w 6 (chain q k v) := N 5 _ (N 4 _ (N 3 _ (N 2 _ (N 1 _ (first_good q k v r c s w hs hw)))))
  refine Eq.trans ?_ (run_all s w _ _ _ h)
  unfold head
  generalize chain q k v = x
  pointwise []

/-! ## Two heads in a row, and two pairs side by side -/

variable (a : Fin 128 → ℝ) (kk : Fin 1536 → Fin 64 → ℝ) (vv : Fin 1536 → Fin 64 → EReal) (hq : ∀ c, q (ix2 r c) = (a c : EReal))
  (hk : ∀ n i c, k n (ix2 i c) = (kk (key n i) (pl c) : EReal)) (hv : ∀ n i c, v n (ix2 i c) = vv (key n i) (pl c))

/-- The average of the head whose queries are half `h` of a row. -/
def avg (a : Fin 128 → ℝ) (kk : Fin 1536 → Fin 64 → ℝ) (vv : Fin 1536 → Fin 64 → EReal) (h : Fin 2) (e : Fin 64) : EReal :=
  mean (fun j => ∑ e, a (lane h e) * kk j e) fun j => vv j e

include hq hk in
theorem raw_masked (h : Fin 2) (n : Fin 6) (i : Fin 256) :
    raw (masked (BitVec.ofNat 32 h.val) q) (k n) (ix2 r i) = ((∑ e, a (lane h e) * kk (key n i) e : ℝ) : EReal) := by
  have e : ∀ x : Fin 128, masked (BitVec.ofNat 32 h.val) q (ix2 r x) * k n (ix2 i x)
      = if x.val / 64 = h.val then (a x : EReal) * (kk (key n i) (pl x) : EReal) else 0 := fun x => by
    rw [masked_apply, hk]
    split
    · rw [hq]
    · exact zero_mul _
  rw [raw_apply]
  simp only [e]
  rw [sum_half (fun x => (a x : EReal) * (kk (key n i) (pl x) : EReal)) h]
  simp only [pl_lane, ← EReal.coe_mul]
  rw [coe_sum]

include hq hk hv in
theorem pair_apply : pair q k v (ix2 r c) = avg a kk vv (hf c) (pl c) := by
  have H : ∀ h : Fin 2, head (masked (BitVec.ofNat 32 h.val) q) k v (ix2 r c) = avg a kk vv h (pl c) := fun h =>
    head_apply (masked (BitVec.ofNat 32 h.val) q) k v r c _ (fun j => vv j (pl c)) (raw_masked q k r a kk hq hk h) fun n i => hv n i c
  have H0 : head (masked 0#32 q) k v (ix2 r c) = _ := H 0
  have H1 : head (masked 1#32 q) k v (ix2 r c) = _ := H 1
  unfold pair
  generalize head (masked 0#32 q) k v = A at H0 ⊢
  generalize head (masked 1#32 q) k v = B at H1 ⊢
  pointwise [marks]
  refine (select_half c _ 0 rfl _ _).trans ?_
  split
  · next hc => rw [show hf c = 0 from Fin.ext hc]; exact H0
  · next hc =>
    have hc' : ¬c.val / 64 = 0 := hc
    rw [show hf c = 1 from Fin.ext (by show c.val / 64 = 1; have := c.isLt; omega)]
    exact H1

theorem stored_apply (qa qb : FVec Ideal S512x128 .bf16) (r : Fin 512) (p : Fin 2) (l : Fin 128) :
    stored qa qb k v (ix3 0 r ⟨128 * p.val + l.val, by omega⟩) = pair (if p = 0 then qa else qb) k v (ix2 r l) := by
  unfold stored
  have e : ∀ A B : FVec Ideal S512x128 .f32, shapeCast S1x512x256 (truncf .bf16 (concatenate S512x256 1 [⟨S512x128, A⟩, ⟨S512x128, B⟩]
      concatenates_S512x128_S512x128_S512x256_d1) bitsLt_bf16_f32) shapeCasts_S512x256_S1x512x256 (ix3 0 r ⟨128 * p.val + l.val, by omega⟩)
      = (if p = 0 then A else B) (ix2 r l) := fun A B => by
    pointwise []
    obtain rfl | rfl : p = 0 ∨ p = 1 := by fin_cases p <;> simp
    · exact (dif_pos (show 128 * (0 : Fin 2).val + l.val < 128 by have := l.isLt; show 128 * 0 + l.val < 128; omega)).trans
        (congrArg A (by congr 1; exact Fin.ext (by show 128 * 0 + l.val = l.val; omega)))
    · exact (dif_neg (show ¬128 * (1 : Fin 2).val + l.val < 128 by show ¬128 * 1 + l.val < 128; omega)).trans
        (congrArg B (by congr 1; exact Fin.ext (by show 128 * 1 + l.val - 128 = l.val; omega)))
  rw [e]
  split <;> rfl

end Cert.LatIdeal.Hand
end
-- ==== Proof.LatWin.lean ====
/- One point of the latent attention's grid: what the body leaves in its output window, from blocks of real numbers. -/
module

public import proofs.«01_k».proof.Proof.LatBody

@[expose] public section

set_option maxRecDepth 16384

noncomputable section

namespace Cert.LatIdeal.Hand

open Cert.LatIdeal Cert.LatIdeal.Gen Cert.Maths Cert.Maths.Latent Idealize.ShloMosaic Idealize.ShloMosaic.TcCoe
open Idealize.ShloMosaic.Pipeline (Dat)

theorem off1_eq : ∀ k : Fin k0_t1_loop.trips, k0_off1 k = ![512 * k.val, 0] := by decide +kernel
theorem off2_eq : ∀ k : Fin k0_t1_loop.trips, k0_off2 k = ![512 * k.val, 128] := by decide +kernel
theorem off3_eq : ∀ k : Fin k0_t1_loop.trips, k0_off3 k = ![0, 512 * k.val, 0] := by decide +kernel

/-- The two trips. -/
def trip0 : Fin k0_t1_loop.trips := ⟨0, by decide⟩
def trip1 : Fin k0_t1_loop.trips := ⟨1, by decide⟩

/-- A list of two writes, read inside the later and inside the earlier. -/
theorem canon_two {s : Shape} {e : EltTy} (r r' : Rect s) (w : r.shape.Idx → Elt Ideal e) (w' : r'.shape.Idx → Elt Ideal e) (y : s.Idx)
    (x' : r'.shape.Idx) (h : y ∉ r.set) (h' : r'.emb x' = y) :
    View.canon (Val := Elt Ideal) [⟨r, w⟩, ⟨r', w'⟩] y = w' x' := by
  rw [View.canon_cons_of_not_mem _ _ h, ← h']
  exact View.canon_cons_emb r' w' [] x'

theorem unit2_emb {n0 n1 k0 k1 : ℕ} (o : Fin 2 → ℕ) (i : ∀ a, o a + (![k0, k1] : Fin 2 → ℕ) a ≤ (⟨2, ![n0, n1]⟩ : Shape).size a)
    (r : Fin k0) (l : Fin k1) (R : Fin n0) (L : Fin n1) (h0 : o 0 + r.val = R.val) (h1 : o 1 + l.val = L.val) :
    (Rect.unit (s := ⟨2, ![n0, n1]⟩) o ![k0, k1] i).emb (ix2 r l) = ix2 R L := by
  funext a; apply Fin.ext
  fin_cases a
  · show o 0 + 1 * r.val = R.val; omega
  · show o 1 + 1 * l.val = L.val; omega

/-- A load of rows and lanes. -/
theorem ld2_at {n0 n1 k0 k1 : ℕ} (X : (⟨2, ![n0, n1]⟩ : Shape).Idx → Elt Ideal .bf16) (o : Fin 2 → ℕ)
    (i : ∀ a, o a + (![k0, k1] : Fin 2 → ℕ) a ≤ (⟨2, ![n0, n1]⟩ : Shape).size a)
    (r : Fin k0) (l : Fin k1) (R : Fin n0) (L : Fin n1) (h0 : o 0 + r.val = R.val) (h1 : o 1 + l.val = L.val) :
    View.ld X (Rect.unit (s := ⟨2, ![n0, n1]⟩) o ![k0, k1] i) (ix2 r l) = X (ix2 R L) :=
  congrArg X (unit2_emb o i r l R L h0 h1)

section
variable {n0 n1 k0 k1 k0' k1' : ℕ} (v : View sig .tc .vmem ⟨2, ![n0, n1]⟩ .bf16) (f : v.ty.Contents (Elt Ideal)) (o o' : Fin 2 → ℕ)
  (i : ∀ a, o a + (![k0, k1] : Fin 2 → ℕ) a ≤ (⟨2, ![n0, n1]⟩ : Shape).size a)
  (i' : ∀ a, o' a + (![k0', k1'] : Fin 2 → ℕ) a ≤ (⟨2, ![n0, n1]⟩ : Shape).size a)
  (w : (⟨2, ![k0, k1]⟩ : Shape).Idx → Elt Ideal .bf16) (w' : (⟨2, ![k0', k1']⟩ : Shape).Idx → Elt Ideal .bf16) (R : Fin n0) (L : Fin n1)

/-- A scratch array after two stores, read inside the later and inside the earlier. -/
theorem late2 (r : Fin k0) (l : Fin k1) (h0 : o 0 + r.val = R.val) (h1 : o 1 + l.val = L.val) :
    v.read (Elt Ideal) (v.writes (Elt Ideal) f [⟨Rect.unit o ![k0, k1] i, w⟩, ⟨Rect.unit o' ![k0', k1'] i', w'⟩]) (ix2 R L) = w (ix2 r l) := by
  have e := unit2_emb o i r l R L h0 h1
  rw [View.read_writes_apply_eq_canon v f _ _ ⟨_, List.mem_cons_self, by
    rw [← Rect.map_emb_univ, ← e]; exact Finset.mem_map_of_mem _ (Finset.mem_univ _)⟩, ← e]
  exact View.canon_cons_emb (Val := Elt Ideal) (s := ⟨2, ![n0, n1]⟩) (Rect.unit o ![k0, k1] i) w _ _

theorem early2 (r : Fin k0') (l : Fin k1') (h0 : o' 0 + r.val = R.val) (h1 : o' 1 + l.val = L.val) (h : R.val < o 0 ∨ L.val < o 1) :
    v.read (Elt Ideal) (v.writes (Elt Ideal) f [⟨Rect.unit o ![k0, k1] i, w⟩, ⟨Rect.unit o' ![k0', k1'] i', w'⟩]) (ix2 R L) = w' (ix2 r l) := by
  have e := unit2_emb o' i' r l R L h0 h1
  rw [View.read_writes_apply_eq_canon v f _ _ ⟨_, List.mem_cons_of_mem _ List.mem_cons_self, by
    rw [← Rect.map_emb_univ, ← e]; exact Finset.mem_map_of_mem _ (Finset.mem_univ _)⟩]
  refine canon_two (s := ⟨2, ![n0, n1]⟩) (Rect.unit o ![k0, k1] i) (Rect.unit o' ![k0', k1'] i') w w' _ (ix2 r l) (fun h' => ?_) e
  have a0 : o 0 ≤ R.val := (Rect.mem_set_unit.mp h' (0 : Fin 2)).1
  have a1 : o 1 ≤ L.val := (Rect.mem_set_unit.mp h' (1 : Fin 2)).1
  omega
end

variable (m : (ℓ : Loc nD τ sig) → Buf (Elt Ideal) ℓ) (c : Dev nD) (t : Fin grid0.N)

section
variable (X12 : BufTy.Contents (Elt Ideal) (scM0_0 : Memref sig .tc .vmem S1024x256 .bf16).view.ty)
  (X13 : BufTy.Contents (Elt Ideal) (scM0_1 : Memref sig .tc .vmem S1536x128 .bf16).view.ty)
  (X14 : BufTy.Contents (Elt Ideal) (scM0_2 : Memref sig .tc .vmem S1536x128 .bf16).view.ty)

abbrev trips (n : ℕ) := pb_k0_t1 (F := Ideal) Variants.none c none (grid0.coords t) (ms0_0 t) (hs0_0 t)
  (ms0_1 t) (hs0_1 t) (ms0_2 t) (hs0_2 t) (ms0_3 t) (hs0_3 t) (ms0_4 t) (hs0_4 t) (ms0_5 t) (hs0_5 t) (ms0_6 t) (hs0_6 t)
  (ms0_7 t) (hs0_7 t) (ms0_8 t) (hs0_8 t) (ms0_9 t) (hs0_9 t) scM0_0 (Memref.isWhole_whole _) scM0_1 (Memref.isWhole_whole _)
  scM0_2 (Memref.isWhole_whole _) k0_pay105 X12 X13 X14 n

theorem trips_succ (k : Fin k0_t1_loop.trips) : trips c t X12 X13 X14 (k.val + 1) = pieces c t X12 X13 X14 k ++ trips c t X12 X13 X14 k.val :=
  pb_k0_t1_succ ..

theorem two_trips : trips c t X12 X13 X14 (Scf.trips k0_t1_loop.lb k0_t1_loop.ub k0_t1_loop.st)
    = pieces c t X12 X13 X14 trip1 ++ (pieces c t X12 X13 X14 trip0 ++ []) :=
  (congrArg (trips c t X12 X13 X14) (by decide : Scf.trips k0_t1_loop.lb k0_t1_loop.ub k0_t1_loop.st = trip1.val + 1)).trans
    ((trips_succ c t X12 X13 X14 trip1).trans (congrArg _ (trips_succ c t X12 X13 X14 trip0)))
end

/-- What the body puts in its three scratch arrays: the point's queries of each pair of heads, its new keys and values, and the
    cached ones. -/
def qa : FVec Ideal S1024x128 .bf16 := k0_pay121 (k0_pay120 k0_pay106 markMat (k0_pay112 (iblk m c 7 t) (iblk m c 7 t))
  (View.ld (iblk m c 0 t) (Rect.unit ![0, 0, 0] ![1, 1024, 128] inb_S1x1024x256_S1x1024x128_0_0_0)) (iblk m c 5 t) (iblk m c 6 t))
def qb : FVec Ideal S1024x128 .bf16 := k0_pay1 (k0_pay122 k0_pay106 markMat (k0_pay112 (iblk m c 7 t) (iblk m c 7 t))
  (View.ld (iblk m c 0 t) (Rect.unit ![0, 0, 128] ![1, 1024, 128] inb_S1x1024x256_S1x1024x128_0_0_128)) (iblk m c 5 t) (iblk m c 6 t))
  (FloatOps.ofBits FTy.f32 1040187392#32)
def kn : FVec Ideal S1024x128 .bf16 := k0_pay116 (BitVec.ofNat 32 ↑(grid0.coords t 1)) k0_pay105 k0_pay106
  (k0_pay111 (iblk m c 8 t) (iblk m c 8 t)) (k0_pay114 (iblk m c 1 t))
  (k0_pay115 (k0_pay107 (iota Kind.tc S128x128 32 [0] iota_S128x128_d0_w32)) k0_pay108 k0_pay109 1#32 (iblk m c 1 t))
  (iblk m c 5 t) (iblk m c 6 t)
def vn : FVec Ideal S1024x128 .bf16 := k0_pay118 (k0_pay113 (BitVec.ofNat 32 ↑(grid0.coords t 1)) k0_pay105 (iblk m c 2 t))

abbrev W12 := (View.whole cc0_scratch0).writes (Elt Ideal) (View.whole cc0_scratch0).junk
  [⟨Rect.unit ![0, 128] ![1024, 128] inb_S1024x256_S1024x128_0_128, qb m c t⟩,
    ⟨Rect.unit ![0, 0] ![1024, 128] inb_S1024x256_S1024x128_0_0, qa m c t⟩]
abbrev W13 := (View.whole cc0_scratch1).writes (Elt Ideal) (View.whole cc0_scratch1).junk
  [⟨Rect.unit ![1024, 0] ![512, 128] inb_S1536x128_S512x128_1024_0, k0_pay117 (iblk m c 3 t)⟩,
    ⟨Rect.unit ![0, 0] ![1024, 128] inb_S1536x128_S1024x128_0_0, kn m c t⟩]
abbrev W14 := (View.whole cc0_scratch2).writes (Elt Ideal) (View.whole cc0_scratch2).junk
  [⟨Rect.unit ![1024, 0] ![512, 128] inb_S1536x128_S512x128_1024_0, k0_pay119 (iblk m c 4 t)⟩,
    ⟨Rect.unit ![0, 0] ![1024, 128] inb_S1536x128_S1024x128_0_0, vn m c t⟩]

theorem after9_trips : (dats m 0 c).after (9 : Fin 10) t
    = View.canon (trips c t (W12 m c t) (W13 m c t) (W14 m c t) (Scf.trips k0_t1_loop.lb k0_t1_loop.ub k0_t1_loop.st)) := by
  rw [after0_9]; unfold outsAt0; frame_open
  simp (disch := decide) only [↓ View.readCov_skip, ↓ View.readCov_cons_toLoadRect, ↓ View.readCov_fill]
  frame_out
  rfl

/-- The rows of queries a trip loads. -/
abbrev qload (k : Fin k0_t1_loop.trips) (p : Fin 2) : FVec Ideal S512x128 .bf16 :=
  if p = 0 then View.ld (View.read (Elt Ideal) (View.whole cc0_scratch0) (W12 m c t)) (Rect.unit (k0_off1 k) S512x128.size (k0_off1_inb k))
  else View.ld (View.read (Elt Ideal) (View.whole cc0_scratch0) (W12 m c t)) (Rect.unit (k0_off2 k) S512x128.size (k0_off2_inb k))
abbrev kload := chunk (View.read (Elt Ideal) (View.whole cc0_scratch1) (W13 m c t))
abbrev vload := chunk (View.read (Elt Ideal) (View.whole cc0_scratch2) (W14 m c t))

/-- The output window at row `512 k + r`. -/
theorem after9_read (k : Fin k0_t1_loop.trips) (r : Fin 512) (p : Fin 2) (l : Fin 128) (R : Fin 1024) (hR : R.val = 512 * k.val + r.val) :
    (dats m 0 c).after (9 : Fin 10) t (ix3 (n0 := 1) (n1 := 1024) (n2 := 256) 0 R ⟨128 * p.val + l.val, by omega⟩)
      = pair (qload m c t k p) (kload m c t) (vload m c t) (ix2 r l) := by
  rw [after9_trips, two_trips, pieces_eq, pieces_eq]
  have S := fun k => stored_apply (kload m c t) (vload m c t) (qload m c t k 0) (qload m c t k 1) r p l
  have Q : ∀ k, (if p = 0 then qload m c t k 0 else qload m c t k 1) = qload m c t k p := fun k => by
    obtain rfl | rfl : p = 0 ∨ p = 1 := by fin_cases p <;> simp
    · rfl
    · rfl
  have E : ∀ k : Fin k0_t1_loop.trips, R.val = 512 * k.val + r.val →
      (Rect.unit (s := S1x1024x256) (k0_off3 k) S1x512x256.size (k0_off3_inb k)).emb
        (ix3 (n0 := 1) (n1 := 512) (n2 := 256) 0 r ⟨128 * p.val + l.val, by omega⟩)
      = ix3 (n0 := 1) (n1 := 1024) (n2 := 256) 0 R ⟨128 * p.val + l.val, by omega⟩ := fun k h => by
    funext a; apply Fin.ext
    have := off3_eq k
    fin_cases a <;> simp [this, h]
  obtain rfl | rfl : k = trip1 ∨ k = trip0 := by
    have h : k.val < 2 := k.isLt
    rcases Nat.lt_or_ge k.val 1 with h1 | h1
    · exact .inr (Fin.ext (by show k.val = 0; omega))
    · exact .inl (Fin.ext (by show k.val = 1; omega))
  · rw [← E trip1 hR]
    refine (View.canon_cons_emb _ _ _ _).trans ?_
    exact (S trip1).trans (congrArg (fun q => pair q (kload m c t) (vload m c t) (ix2 r l)) (Q trip1))
  · refine (canon_two _ _ _ _ _ _ ?_ (E trip0 hR)).trans ?_
    · intro h
      have h1 := (Rect.mem_set_unit.mp h (1 : Fin 3)).1
      rw [off3_eq trip1] at h1
      have h2 : 512 ≤ R.val := h1
      have h3 : R.val = 512 * 0 + r.val := hR
      omega
    exact (S trip0).trans (congrArg (fun q => pair q (kload m c t) (vload m c t) (ix2 r l)) (Q trip0))

/-- The rows a trip loads, in terms of what was stored. -/
theorem qload_apply (k : Fin k0_t1_loop.trips) (p : Fin 2) (r : Fin 512) (l : Fin 128) (R : Fin 1024) (hR : R.val = 512 * k.val + r.val) :
    qload m c t k p (ix2 r l) = (if p = 0 then qa m c t else qb m c t) (ix2 R l) := by
  obtain rfl | rfl : p = 0 ∨ p = 1 := by fin_cases p <;> simp
  · have e := off1_eq k
    rw [show qload m c t k 0 = View.ld (View.read (Elt Ideal) (View.whole cc0_scratch0) (W12 m c t))
      (Rect.unit (k0_off1 k) S512x128.size (k0_off1_inb k)) from rfl]
    refine (ld2_at _ (k0_off1 k) (k0_off1_inb k) r l R (⟨l.val, by omega⟩ : Fin 256) ?_ ?_).trans ?_
    · rw [e]; exact hR.symm
    · rw [e]; exact Nat.zero_add _
    · exact early2 (View.whole cc0_scratch0) _ ![0, 128] ![0, 0] inb_S1024x256_S1024x128_0_128 inb_S1024x256_S1024x128_0_0
        (qb m c t) (qa m c t) R ⟨l.val, by omega⟩ R l (Nat.zero_add _) (Nat.zero_add _) (.inr l.isLt)
  · have e := off2_eq k
    rw [show qload m c t k 1 = View.ld (View.read (Elt Ideal) (View.whole cc0_scratch0) (W12 m c t))
      (Rect.unit (k0_off2 k) S512x128.size (k0_off2_inb k)) from rfl]
    refine (ld2_at _ (k0_off2 k) (k0_off2_inb k) r l R (⟨128 + l.val, by omega⟩ : Fin 256) ?_ ?_).trans ?_
    · rw [e]; exact hR.symm
    · rw [e]; rfl
    · exact late2 (View.whole cc0_scratch0) _ ![0, 128] ![0, 0] inb_S1024x256_S1024x128_0_128 inb_S1024x256_S1024x128_0_0
        (qb m c t) (qa m c t) R ⟨128 + l.val, by omega⟩ R l (Nat.zero_add _) rfl

/-- Two stacked arrays of rows, 1024 and 512, read at row `i` of chunk `n`. -/
def stacked (A : FVec Ideal S1024x128 .bf16) (B : FVec Ideal S512x128 .bf16) (j : Fin 1536) (l : Fin 128) : EReal :=
  if h : j.val < 1024 then A (ix2 ⟨j.val, h⟩ l) else B (ix2 ⟨j.val - 1024, by omega⟩ l)

theorem chunk_apply (v : View sig .tc .vmem S1536x128 .bf16) (f : v.ty.Contents (Elt Ideal)) (A : FVec Ideal S1024x128 .bf16)
    (B : FVec Ideal S512x128 .bf16) (n : Fin 6) (i : Fin 256) (l : Fin 128) :
    chunk (v.read (Elt Ideal) (v.writes (Elt Ideal) f [⟨Rect.unit ![1024, 0] ![512, 128] inb_S1536x128_S512x128_1024_0, B⟩,
      ⟨Rect.unit ![0, 0] ![1024, 128] inb_S1536x128_S1024x128_0_0, A⟩])) n (ix2 i l) = stacked A B (key n i) l := by
  refine (ld2_at _ ![256 * n.val, 0] (chunk_inb n) i l (key n i) l rfl (Nat.zero_add _)).trans ?_
  unfold stacked
  split
  · next h =>
    exact early2 v f ![1024, 0] ![0, 0] inb_S1536x128_S512x128_1024_0 inb_S1536x128_S1024x128_0_0 B A (key n i) l
      ⟨(key n i).val, h⟩ l (Nat.zero_add _) (Nat.zero_add _) (.inl h)
  · next h =>
    exact late2 v f ![1024, 0] ![0, 0] inb_S1536x128_S512x128_1024_0 inb_S1536x128_S1024x128_0_0 B A (key n i) l
      ⟨(key n i).val - 1024, by have := (key n i).isLt; omega⟩ l
      (by show 1024 + ((key n i).val - 1024) = (key n i).val; omega) (Nat.zero_add _)

/-- The output window on blocks of real numbers. -/
theorem window (w : Fin 2) (hw : BitVec.ofNat 32 ↑(grid0.coords t 1) = BitVec.ofNat 32 w.val) (qg kg : Fin 64 → ℝ) (co si : Fin 1024 → Fin 32 → ℝ)
    (q : Fin 2 → Fin 1024 → Fin 128 → ℝ) (k v : Fin 1024 → Fin 128 → ℝ) (ck : Fin 512 → Fin 64 → ℝ) (cv : Fin 512 → Fin 64 → EReal)
    (hq : ∀ p r l, iblk m c 0 t (ix3 (n0 := 1) (n1 := 1024) (n2 := 256) 0 r ⟨128 * p.val + l.val, by omega⟩) = (q p r l : EReal))
    (hk : ∀ r l, iblk m c 1 t (ix3 (n0 := 1) (n1 := 1024) (n2 := 128) 0 r l) = (k r l : EReal))
    (hv : ∀ r l, iblk m c 2 t (ix3 (n0 := 1) (n1 := 1024) (n2 := 128) 0 r l) = (v r l : EReal))
    (hck : ∀ r e, iblk m c 3 t (ix4 (n0 := 1) (n1 := 1) (n2 := 512) (n3 := 64) 0 0 r e) = (ck r e : EReal))
    (hcv : ∀ r e, iblk m c 4 t (ix4 (n0 := 1) (n1 := 1) (n2 := 512) (n3 := 64) 0 0 r e) = cv r e)
    (hco : ∀ r l, iblk m c 5 t (ix2 (n0 := 1024) (n1 := 128) r l) = (co r (p32 l) : EReal))
    (hsi : ∀ r l, iblk m c 6 t (ix2 (n0 := 1024) (n1 := 128) r l) = (turn (si r) l : EReal))
    (hgq : ∀ e, iblk m c 7 t (ix2 (n0 := 1) (n1 := 64) 0 e) = (qg e : EReal))
    (hg : ∀ e, iblk m c 8 t (ix2 (n0 := 1) (n1 := 64) 0 e) = (kg e : EReal)) (p : Fin 2) (R : Fin 1024) (l : Fin 128) :
    (dats m 0 c).after (9 : Fin 10) t (ix3 (n0 := 1) (n1 := 1024) (n2 := 256) 0 R ⟨128 * p.val + l.val, by omega⟩)
      = avg (fun x => rope (normed (q p R) qg) (co R) (si R) x * (1 / 8))
          (fun j e => if h : j.val < 1024 then rope (normed (k ⟨j.val, h⟩) kg) (co ⟨j.val, h⟩) (si ⟨j.val, h⟩) (lane w e)
            else ck ⟨j.val - 1024, by omega⟩ e)
          (fun j e => if h : j.val < 1024 then (v ⟨j.val, h⟩ (lane w e) : EReal) else cv ⟨j.val - 1024, by omega⟩ e) (hf l) (pl l) := by
  have hQ0 := query_apply (q 0) qg co si (View.ld (iblk m c 0 t) (Rect.unit ![0, 0, 0] ![1, 1024, 128] inb_S1x1024x256_S1x1024x128_0_0_0))
    (iblk m c 7 t) (iblk m c 5 t) (iblk m c 6 t)
    (fun r l => (congrArg (iblk m c 0 t) (by funext a; apply Fin.ext; fin_cases a <;> simp <;> rfl)).trans (hq 0 r l)) hgq hco hsi
  have hQ1 := query_apply' (q 1) qg co si (View.ld (iblk m c 0 t) (Rect.unit ![0, 0, 128] ![1, 1024, 128] inb_S1x1024x256_S1x1024x128_0_0_128))
    (iblk m c 7 t) (iblk m c 5 t) (iblk m c 6 t)
    (fun r l => (congrArg (iblk m c 0 t) (by funext a; apply Fin.ext; fin_cases a <;> simp <;> rfl)).trans (hq 1 r l)) hgq hco hsi
  have hK := key_apply k kg co si (iblk m c 1 t) (iblk m c 8 t) (iblk m c 5 t) (iblk m c 6 t) hk hg hco hsi _ w hw
  have hV := value_apply v (iblk m c 2 t) hv _ w hw
  obtain ⟨T, r, hR⟩ : ∃ (T : Fin k0_t1_loop.trips) (r : Fin 512), R.val = 512 * T.val + r.val :=
    ⟨⟨R.val / 512, by have := R.isLt; exact (show R.val / 512 < 2 by omega)⟩, ⟨R.val % 512, by omega⟩,
      by show R.val = 512 * (R.val / 512) + R.val % 512; omega⟩
  rw [after9_read m c t T r p l R hR]
  refine pair_apply _ _ _ r l _ _ _ (fun x => ?_) (fun n i x => ?_) (fun n i x => ?_)
  · rw [qload_apply m c t T p r x R hR]
    obtain rfl | rfl : p = 0 ∨ p = 1 := by fin_cases p <;> simp
    · exact hQ0 R x
    · exact hQ1 R x
  · refine (chunk_apply (View.whole cc0_scratch1) _ (kn m c t) (k0_pay117 (iblk m c 3 t)) n i x).trans ?_
    unfold stacked
    by_cases h : (key n i).val < 1024
    · rw [dif_pos h, dif_pos h]; exact hK _ x
    · rw [dif_neg h, dif_neg h]; exact (cached_apply _ _ x).trans (hck _ _)
  · refine (chunk_apply (View.whole cc0_scratch2) _ (vn m c t) (k0_pay119 (iblk m c 4 t)) n i x).trans ?_
    unfold stacked
    by_cases h : (key n i).val < 1024
    · rw [dif_pos h, dif_pos h]; exact hV _ x
    · rw [dif_neg h, dif_neg h]; exact (cached_apply' _ _ x).trans (hcv _ _)

end Cert.LatIdeal.Hand
end
-- ==== Proof.LatTab.lean ====
/- The tables of the turned queries and keys: the angle of each row and place is a real number, so its cosine and sine are; and the
   kernel's two operands are these, set side by side four times with the sines' signs. -/
module

public import proofs.«01_k».proof.Proof.Gen.LatRefIdeal.Read
public import proofs.«01_k».proof.Proof.Gen.LatIdeal.Value
public import proofs.«01_k».proof.Proof.LatSpec
public import Idealize.ShloMosaic.Lib.Pipeline.ValueKit

@[expose] public section

set_option maxRecDepth 16384

noncomputable section

namespace Cert.LatRefIdeal.Hand

open Cert.LatRefIdeal Cert.LatRefIdeal.Gen Cert.LatRefIdeal.Read Cert.Maths Cert.Maths.Latent Idealize.ShloMosaic Idealize.ShloMosaic.TcCoe

theorem ofBits_theta : Ideal.ofBits .f32 0x461C4000#32 = ((10000 : ℝ) : EReal) := by
  simp [Ideal.ofBits, Ideal.ieee]; norm_cast; norm_num
theorem ofBits_16 : Ideal.ofBits .f32 0x41800000#32 = ((16 : ℝ) : EReal) := by
  simp [Ideal.ofBits, Ideal.ieee]; norm_cast; norm_num

theorem product_real (n k : BitVec 32) : ∃ a : ℝ, FloatOps.sitofp (F := Ideal) FTy.f32 n *
    Ideal.div 1 (Ideal.pow (Ideal.ofBits FTy.f32 0x461C4000#32) (Ideal.div (FloatOps.sitofp (F := Ideal) FTy.f32 k) (Ideal.ofBits FTy.f32 0x41800000#32)))
      = (a : EReal) := by
  have hi : ∀ w : BitVec 32, FloatOps.sitofp (F := Ideal) FTy.f32 w = ((w.toInt : ℝ) : EReal) := fun w => rfl
  have hp : ∀ x y : ℝ, Ideal.pow (x : EReal) (y : EReal) = (x.rpow y : EReal) := fun x y => rfl
  rw [hi, hi, ofBits_theta, ofBits_16, div_coe_coe _ (by norm_num), hp]
  have hpos : (10000 : ℝ).rpow ((k.toInt : ℝ) / 16) ≠ 0 := (Real.rpow_pos_of_pos (by norm_num) _).ne'
  rw [← EReal.coe_one, div_coe_coe _ hpos, ← EReal.coe_mul]
  exact ⟨_, rfl⟩

theorem angle_real (r : Fin 1024) (k : Fin 32) : ∃ a : ℝ, val_main_v26 (F := Ideal) (ix2 (n0 := 1024) (n1 := 32) r k) = (a : EReal) := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]
  split
  · exact product_real _ _
  · exact product_real _ _

/-- The angle of row `r` and place `k`, its cosine and its sine. -/
def angle (r : Fin 1024) (k : Fin 32) : ℝ := (angle_real r k).choose
def cosT (r : Fin 1024) (k : Fin 32) : ℝ := Real.cos (angle r k)
def sinT (r : Fin 1024) (k : Fin 32) : ℝ := Real.sin (angle r k)

theorem cos_read (r : Fin 1024) (k : Fin 32) : val_main_v27 (F := Ideal) (ix2 (n0 := 1024) (n1 := 32) r k) = (cosT r k : EReal) := by
  rw [val_main_v27_apply, (angle_real r k).choose_spec]
  rfl

theorem sin_read (r : Fin 1024) (k : Fin 32) : val_main_v28 (F := Ideal) (ix2 (n0 := 1024) (n1 := 32) r k) = (sinT r k : EReal) := by
  rw [val_main_v28_apply, (angle_real r k).choose_spec]
  rfl

end Cert.LatRefIdeal.Hand

namespace Cert.LatIdeal.Hand

open Cert.LatIdeal Cert.LatIdeal.Gen Cert.Maths Cert.Maths.Latent Idealize.ShloMosaic Idealize.ShloMosaic.TcCoe

variable (m : (ℓ : Loc nD τ sig) → Buf (Elt Ideal) ℓ) (c : Dev nD)

/-- The two tables of 128 lanes. -/
def wideCos : FVec Ideal S1024x128 .f32 :=
  concatenate S1024x128 1 [⟨S1024x32, Cert.LatRefIdeal.Read.val_main_v27 (F := Ideal)⟩,
    ⟨S1024x32, Cert.LatRefIdeal.Read.val_main_v27 (F := Ideal)⟩, ⟨S1024x32, Cert.LatRefIdeal.Read.val_main_v27 (F := Ideal)⟩,
    ⟨S1024x32, Cert.LatRefIdeal.Read.val_main_v27 (F := Ideal)⟩] concatenates_S1024x32_S1024x32_S1024x32_S1024x32_S1024x128_d1
def wideSin (N S : FVec Ideal S1024x32 .f32) : FVec Ideal S1024x128 .f32 :=
  concatenate S1024x128 1 [⟨S1024x32, N⟩, ⟨S1024x32, S⟩, ⟨S1024x32, N⟩, ⟨S1024x32, S⟩]
    concatenates_S1024x32_S1024x32_S1024x32_S1024x32_S1024x128_d1

theorem cos_host : V m c main_v29 = wideCos := by
  unfold_abbrev_sides
  after_results
  rfl

theorem sin_host : V m c main_v31
    = wideSin (Host.negf (F := Ideal) (φ := .f32) (Cert.LatRefIdeal.Read.val_main_v28 (F := Ideal))) (Cert.LatRefIdeal.Read.val_main_v28 (F := Ideal)) := by
  unfold_abbrev_sides
  after_results
  rfl

/-- Four runs of 32 lanes, two functions in turn. -/
theorem four_runs (A B : Fin 32 → EReal) (l : Fin 128) :
    (if h : l.val < 32 then A ⟨l.val, h⟩ else if h : l.val - 32 < 32 then B ⟨l.val - 32, h⟩
      else if h : l.val - 32 - 32 < 32 then A ⟨l.val - 32 - 32, h⟩ else B ⟨l.val - 32 - 32 - 32, by omega⟩)
      = if l.val % 64 < 32 then A (p32 l) else B (p32 l) := by
  split_ifs <;> first
    | omega
    | exact congrArg A (Fin.ext (by simp only [p32]; omega))
    | exact congrArg B (Fin.ext (by simp only [p32]; omega))

theorem wideCos_apply (r : Fin 1024) (l : Fin 128) : wideCos (ix2 r l) = (Cert.LatRefIdeal.Hand.cosT r (p32 l) : EReal) := by
  have h := Cert.LatRefIdeal.Hand.cos_read r
  unfold wideCos
  generalize Cert.LatRefIdeal.Read.val_main_v27 (F := Ideal) = T at h ⊢
  pointwise []
  refine (four_runs (fun k => T (ix2 r k)) (fun k => T (ix2 r k)) l).trans ?_
  rw [ite_self]
  exact h _

theorem wideSin_apply (r : Fin 1024) (l : Fin 128) :
    wideSin (Host.negf (F := Ideal) (φ := .f32) (Cert.LatRefIdeal.Read.val_main_v28 (F := Ideal))) (Cert.LatRefIdeal.Read.val_main_v28 (F := Ideal)) (ix2 r l)
      = (turn (Cert.LatRefIdeal.Hand.sinT r) l : EReal) := by
  have h := Cert.LatRefIdeal.Hand.sin_read r
  generalize Cert.LatRefIdeal.Read.val_main_v28 (F := Ideal) = T at h ⊢
  pointwise [wideSin]
  refine (four_runs (fun k => -T (ix2 r k)) (fun k => T (ix2 r k)) l).trans ?_
  unfold turn
  split
  · exact (congrArg (fun z : EReal => -z) (h _)).trans (EReal.coe_neg _).symm
  · exact h _

end Cert.LatIdeal.Hand
end
-- ==== Proof.LatArr.lean ====
/- What the latent attention's kernel leaves in its result array, from arrays of real numbers: each block is the body's, and the
   blocks tile the array. -/
module

public import proofs.«01_k».proof.Proof.LatWin
public import proofs.«01_k».proof.Proof.LatTab

@[expose] public section

set_option maxRecDepth 16384

noncomputable section

namespace Cert.LatIdeal.Hand

open Cert.LatIdeal Cert.LatIdeal.Gen Cert.Maths Cert.Maths.Latent Idealize.ShloMosaic Idealize.ShloMosaic.TcCoe
open Idealize.ShloMosaic.Pipeline (Dat)
open Cert.LatRefIdeal.Hand (cosT sinT)

variable (m : (ℓ : Loc nD τ sig) → Buf (Elt Ideal) ℓ) (c : Dev nD)

theorem idx : ∀ t : Fin grid0.N,
    win0_0.index t = ![(grid0.coords t 0).val, 0, (grid0.coords t 1).val] ∧ win0_1.index t = ![(grid0.coords t 0).val, 0, 4]
    ∧ win0_2.index t = ![(grid0.coords t 0).val, 0, 5] ∧ win0_3.index t = ![(grid0.coords t 0).val, (grid0.coords t 1).val, 0, 0]
    ∧ win0_4.index t = ![(grid0.coords t 0).val, (grid0.coords t 1).val, 0, 0] ∧ win0_5.index t = ![0, 0] ∧ win0_6.index t = ![0, 0]
    ∧ win0_7.index t = ![0, 0] ∧ win0_8.index t = ![0, 0]
    ∧ win0_9.index t = ![(grid0.coords t 0).val, 0, (grid0.coords t 1).val] := by decide +kernel

variable (X : Fin 4 → Fin 1024 → Fin 768 → ℝ) (qg kg : Fin 64 → ℝ) (CK : Fin 4 → Fin 2 → Fin 512 → Fin 64 → ℝ)
  (CV : Fin 4 → Fin 2 → Fin 512 → Fin 64 → EReal)
  (hX : ∀ b r l, m ((c.tc : Thread nD τ).loc main_arg0) (ix3 (n0 := 4) (n1 := 1024) (n2 := 768) b r l) = (X b r l : EReal))
  (hqg : ∀ e, m ((c.tc : Thread nD τ).loc main_arg1) (ix2 (n0 := 1) (n1 := 64) 0 e) = (qg e : EReal))
  (hkg : ∀ e, m ((c.tc : Thread nD τ).loc main_arg2) (ix2 (n0 := 1) (n1 := 64) 0 e) = (kg e : EReal))
  (hCK : ∀ b g r e, m ((c.tc : Thread nD τ).loc main_arg3) (ix4 (n0 := 4) (n1 := 2) (n2 := 512) (n3 := 64) b g r e) = (CK b g r e : EReal))
  (hCV : ∀ b g r e, m ((c.tc : Thread nD τ).loc main_arg4) (ix4 (n0 := 4) (n1 := 2) (n2 := 512) (n3 := 64) b g r e) = CV b g r e)

/-- The batch and the group of heads of a point. -/
def seq (t : Fin grid0.N) : Fin 4 := ⟨(grid0.coords t 0).val, (grid0.coords t 0).isLt⟩
def grp2 (t : Fin grid0.N) : Fin 2 := ⟨(grid0.coords t 1).val, (grid0.coords t 1).isLt⟩

include hX in
theorem q_block (t : Fin grid0.N) (p : Fin 2) (r : Fin 1024) (l : Fin 128) :
    iblk m c 0 t (ix3 (n0 := 1) (n1 := 1024) (n2 := 256) 0 r ⟨128 * p.val + l.val, by omega⟩)
      = (X (seq t) r (qcol ⟨2 * (grp2 t).val + p.val, by omega⟩ l) : EReal) := by
  rw [← hX]
  blk_ext [iblk, V, idx t, seq, grp2, qcol]

include hX in
theorem k_block (t : Fin grid0.N) (r : Fin 1024) (l : Fin 128) :
    iblk m c 1 t (ix3 (n0 := 1) (n1 := 1024) (n2 := 128) 0 r l) = (X (seq t) r (kcol l) : EReal) := by
  rw [← hX]
  blk_ext [iblk, V, idx t, seq, kcol]

include hX in
theorem v_block (t : Fin grid0.N) (r : Fin 1024) (l : Fin 128) :
    iblk m c 2 t (ix3 (n0 := 1) (n1 := 1024) (n2 := 128) 0 r l) = (X (seq t) r (vcol l) : EReal) := by
  rw [← hX]
  blk_ext [iblk, V, idx t, seq, vcol]

include hCK in
theorem ck_block (t : Fin grid0.N) (r : Fin 512) (e : Fin 64) :
    iblk m c 3 t (ix4 (n0 := 1) (n1 := 1) (n2 := 512) (n3 := 64) 0 0 r e) = (CK (seq t) (grp2 t) r e : EReal) := by
  rw [← hCK]
  blk_ext [iblk, V, idx t, seq, grp2]

include hCV in
theorem cv_block (t : Fin grid0.N) (r : Fin 512) (e : Fin 64) :
    iblk m c 4 t (ix4 (n0 := 1) (n1 := 1) (n2 := 512) (n3 := 64) 0 0 r e) = CV (seq t) (grp2 t) r e := by
  rw [← hCV]
  blk_ext [iblk, V, idx t, seq, grp2]

theorem cos_block (t : Fin grid0.N) (r : Fin 1024) (l : Fin 128) :
    iblk m c 5 t (ix2 (n0 := 1024) (n1 := 128) r l) = (cosT r (p32 l) : EReal) := by
  show V m c main_v29 ((win0_5.blk t).view.emb (ix2 r l)) = _
  rw [cos_host, ← wideCos_apply]
  blk_ext [idx t]

theorem sin_block (t : Fin grid0.N) (r : Fin 1024) (l : Fin 128) :
    iblk m c 6 t (ix2 (n0 := 1024) (n1 := 128) r l) = (turn (sinT r) l : EReal) := by
  show V m c main_v31 ((win0_6.blk t).view.emb (ix2 r l)) = _
  rw [sin_host, ← wideSin_apply]
  blk_ext [idx t]

include hqg in
theorem qg_block (t : Fin grid0.N) (e : Fin 64) : iblk m c 7 t (ix2 (n0 := 1) (n1 := 64) 0 e) = (qg e : EReal) := by
  rw [← hqg]
  blk_ext [iblk, V, idx t]

include hkg in
theorem kg_block (t : Fin grid0.N) (e : Fin 64) : iblk m c 8 t (ix2 (n0 := 1) (n1 := 64) 0 e) = (kg e : EReal) := by
  rw [← hkg]
  blk_ext [iblk, V, idx t]

include hX hqg hkg hCK hCV in
theorem attn_array : (dats m 0 c).arrAt 9 cfg0.N = attnAt X qg kg CK CV cosT sinT := by
  refine (dats m 0 c).arrAt_eq_of_covers 9 _ (by decide +kernel) fun t hf y => ?_
  obtain ⟨y0, r, z, rfl⟩ : ∃ (y0 : Fin 1) (r : Fin 1024) (z : Fin 256), y = ix3 (n0 := 1) (n1 := 1024) (n2 := 256) y0 r z :=
    ⟨_, _, _, eq_ix3 y⟩
  obtain rfl : y0 = 0 := Subsingleton.elim _ _
  obtain ⟨p, l, rfl⟩ : ∃ (p : Fin 2) (l : Fin 128), z = ⟨128 * p.val + l.val, by omega⟩ :=
    ⟨⟨z.val / 128, by omega⟩, ⟨z.val % 128, by omega⟩, Fin.ext (by show z.val = 128 * (z.val / 128) + z.val % 128; omega)⟩
  have h := window m c t (grp2 t) rfl qg kg cosT sinT (fun p r l => X (seq t) r (qcol ⟨2 * (grp2 t).val + p.val, by omega⟩ l))
    (fun r l => X (seq t) r (kcol l)) (fun r l => X (seq t) r (vcol l)) (CK (seq t) (grp2 t)) (CV (seq t) (grp2 t))
    (q_block m c X hX t) (k_block m c X hX t) (v_block m c X hX t) (ck_block m c CK hCK t) (cv_block m c CV hCV t)
    (cos_block m c t) (sin_block m c t) (qg_block m c qg hqg t) (kg_block m c kg hkg t) p r l
  have e : grp ⟨2 * (grp2 t).val + p.val, by omega⟩ = grp2 t := Fin.ext (by show (2 * (grp2 t).val + p.val) / 2 = (grp2 t).val; omega)
  refine Eq.trans ?_ (h.trans (Eq.trans ?_
    (attnAt_of X qg kg CK CV cosT sinT _ (seq t) ⟨2 * (grp2 t).val + p.val, by omega⟩ r l ?_ ?_ ?_).symm))
  case refine_2 =>
    unfold Latent.attn Latent.score Latent.keys Latent.vals
    rw [e]
    rfl
  all_goals blk_simp [idx t]
  · rfl
  · show (grid0.coords t 1).val * 256 + (128 * p.val + l.val) = 128 * (2 * (grid0.coords t 1).val + p.val) + l.val
    omega

end Cert.LatIdeal.Hand
end
-- ==== Proof.LatRefVal.lean ====
/- What the plainly written latent attention computes, from arrays of real numbers: the specification's softmax averages. -/
module

public import proofs.«01_k».proof.Proof.LatTab
public import proofs.«01_k».proof.Proof.AttnRefVal

@[expose] public section

set_option maxRecDepth 16384

noncomputable section

namespace Cert.LatRefIdeal.Hand

open Cert.LatRefIdeal Cert.LatRefIdeal.Gen Cert.LatRefIdeal.Read Cert.Maths Cert.Maths.Latent Idealize.ShloMosaic Idealize.ShloMosaic.TcCoe
open Cert.AttnRefIdeal.Hand (rms_read)

variable (x0 : FVec Ideal S4x1024x768 .f32) (x1 x2 : FVec Ideal S1x64 .f32) (x3 x4 : FVec Ideal S4x2x512x64 .f32)
variable (X : Fin 4 → Fin 1024 → Fin 768 → ℝ) (qg kg : Fin 64 → ℝ) (CK : Fin 4 → Fin 2 → Fin 512 → Fin 64 → ℝ)
  (CV : Fin 4 → Fin 2 → Fin 512 → Fin 64 → EReal)
  (hX : ∀ b r l, x0 (ix3 (n0 := 4) (n1 := 1024) (n2 := 768) b r l) = (X b r l : EReal))
  (hqg : ∀ e, x1 (ix2 (n0 := 1) (n1 := 64) 0 e) = (qg e : EReal)) (hkg : ∀ e, x2 (ix2 (n0 := 1) (n1 := 64) 0 e) = (kg e : EReal))
  (hCK : ∀ b g r e, x3 (ix4 (n0 := 4) (n1 := 2) (n2 := 512) (n3 := 64) b g r e) = (CK b g r e : EReal))
  (hCV : ∀ b g r e, x4 (ix4 (n0 := 4) (n1 := 2) (n2 := 512) (n3 := 64) b g r e) = CV b g r e)

/-- The two halves of a head turned by their angles are the row of 128 lanes turned. -/
theorem turned (y : Fin 128 → ℝ) (r : Fin 1024) (h : Fin 2) (e : Fin 64) (Y : Fin 64 → EReal) (hY : ∀ e, Y e = (y (lane h e) : EReal))
    (C S : Fin 32 → EReal) (hC : ∀ k, C k = (cosT r k : EReal)) (hS : ∀ k, S k = (sinT r k : EReal)) :
    (if h : e.val < 32 then Y ⟨e.val, e.isLt⟩ * C ⟨e.val, h⟩ - Y ⟨32 + e.val, by omega⟩ * S ⟨e.val, h⟩
      else Y ⟨32 + (e.val - 32), by omega⟩ * C ⟨e.val - 32, by omega⟩ + Y ⟨e.val - 32, by omega⟩ * S ⟨e.val - 32, by omega⟩)
      = (rope y (cosT r) (sinT r) (lane h e) : EReal) := by
  unfold rope turn
  by_cases he : e.val < 32
  · have h1 : (lane h e).val % 64 < 32 := by show (64 * h.val + e.val) % 64 < 32; omega
    have h2 : partner (lane h e) = lane h ⟨32 + e.val, by omega⟩ := by
      unfold partner; rw [dif_pos h1]; exact Fin.ext (by show 64 * h.val + e.val + 32 = 64 * h.val + (32 + e.val); omega)
    have h3 : p32 (lane h e) = ⟨e.val, he⟩ := Fin.ext (by show (64 * h.val + e.val) % 32 = e.val; omega)
    rw [dif_pos he, if_pos h1, h2, h3, hY, hY, hC, hS, ← EReal.coe_mul, ← EReal.coe_mul, ← EReal.coe_sub]
    exact congrArg _ (by show _ = _ + y _ * -_; ring)
  · have h1 : ¬(lane h e).val % 64 < 32 := by show ¬(64 * h.val + e.val) % 64 < 32; omega
    have h2 : partner (lane h e) = lane h ⟨e.val - 32, by omega⟩ := by
      unfold partner; rw [dif_neg h1]; exact Fin.ext (by show 64 * h.val + e.val - 32 = 64 * h.val + (e.val - 32); omega)
    have h3 : p32 (lane h e) = ⟨e.val - 32, by omega⟩ := Fin.ext (by show (64 * h.val + e.val) % 32 = e.val - 32; omega)
    have h4 : (⟨32 + (e.val - 32), by omega⟩ : Fin 64) = e := Fin.ext (by show 32 + (e.val - 32) = e.val; omega)
    rw [dif_neg he, if_neg h1, h2, h3, h4, hY, hY, hC, hS, ← EReal.coe_mul, ← EReal.coe_mul, ← EReal.coe_add]

include hX hkg in
theorem normed_keys_read (b : Fin 4) (g : Fin 2) (r : Fin 1024) (e : Fin 64) :
    val_main_v63 (F := Ideal) x0 x2 (ix4 (n0 := 4) (n1 := 2) (n2 := 1024) (n3 := 64) b g r e)
      = (normed (fun k => X b r (kcol k)) kg (lane g e) : EReal) := by
  pointwise [val_main_v63, val_main_v62, val_main_v61, val_main_v60, val_main_v59, val_main_v58, val_main_v57, val_main_v56, val_main_v55,
    val_main_v54, val_main_v53, val_main_v52, val_main_v51, val_main_v50, val_main_v49, val_main_v48, val_main_v30, val_main_cst_5,
    val_main_cst_6, val_main_cst_7]
  have hl : ∀ e : Fin 64, (⟨512 + (g.val * 64 + e.val), by omega⟩ : Fin 768) = kcol (lane g e) := fun e =>
    Fin.ext (by show 512 + (g.val * 64 + e.val) = 512 + (64 * g.val + e.val); omega)
  simp only [hl]
  rw [rms_read (fun e => X b r (kcol (lane g e))) _ (fun e => hX b r _), hX, hkg, ← EReal.coe_mul, ← EReal.coe_mul]
  unfold normed half
  rw [hf_lane, pl_lane]

include hX hqg in
/-- The normalised queries: head `2P + h` is half `h` of the `P`-th pair. -/
theorem normed_queries_read (b : Fin 4) (P : Fin 4) (h : Fin 2) (r : Fin 1024) (e : Fin 64) :
    val_main_v47 (F := Ideal) x0 x1 (ix4 (n0 := 4) (n1 := 8) (n2 := 1024) (n3 := 64) b ⟨2 * P.val + h.val, by omega⟩ r e)
      = (normed (fun k => X b r (qcol P k)) qg (lane h e) : EReal) := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_v29, val_main_cst_2,
    val_main_cst_3, val_main_cst_4]
  have hl : ∀ e : Fin 64, (⟨(2 * P.val + h.val) * 64 + e.val, by omega⟩ : Fin 768) = qcol P (lane h e) := fun e =>
    Fin.ext (by show (2 * P.val + h.val) * 64 + e.val = 128 * P.val + (64 * h.val + e.val); omega)
  simp only [hl]
  rw [rms_read (fun e => X b r (qcol P (lane h e))) _ (fun e => hX b r _), hX, hqg, ← EReal.coe_mul, ← EReal.coe_mul]
  unfold normed half
  rw [hf_lane, pl_lane]

include hX hqg in
theorem queries_read (b : Fin 4) (P : Fin 4) (h : Fin 2) (r : Fin 1024) (e : Fin 64) :
    val_main_v82 (F := Ideal) x0 x1 (ix4 (n0 := 4) (n1 := 8) (n2 := 1024) (n3 := 64) b ⟨2 * P.val + h.val, by omega⟩ r e)
      = (rope (normed (fun k => X b r (qcol P k)) qg) (cosT r) (sinT r) (lane h e) : EReal) := by
  have hY := normed_queries_read x0 x1 X qg hX hqg b P h r
  have hC := cos_read r
  have hS := sin_read r
  unfold val_main_v82 val_main_v81 val_main_v80 val_main_v79 val_main_v78 val_main_v77 val_main_v76 val_main_v75 val_main_v74 val_main_v73
    val_main_v72 val_main_v71 val_main_v70 val_main_v69 val_main_v68 val_main_v67 val_main_v66
  generalize val_main_v47 (F := Ideal) x0 x1 = A at hY ⊢
  generalize val_main_v27 (F := Ideal) = C at hC ⊢
  generalize val_main_v28 (F := Ideal) = S at hS ⊢
  pointwise []
  exact turned _ r h e (fun e => A (ix4 b ⟨2 * P.val + h.val, by omega⟩ r e)) hY (fun k => C (ix2 r k)) (fun k => S (ix2 r k)) hC hS

include hX hkg hCK in
theorem keys_read (b : Fin 4) (g : Fin 2) (j : Fin 1536) (e : Fin 64) :
    val_main_v100 (F := Ideal) x0 x2 x3 (ix4 (n0 := 4) (n1 := 2) (n2 := 1536) (n3 := 64) b g j e)
      = (keys X kg CK cosT sinT b g j e : EReal) := by
  have hY := fun r => normed_keys_read x0 x2 X kg hX hkg b g r
  have hC := cos_read
  have hS := sin_read
  unfold val_main_v100 val_main_v99 val_main_v98 val_main_v97 val_main_v96 val_main_v95 val_main_v94 val_main_v93 val_main_v92 val_main_v91
    val_main_v90 val_main_v89 val_main_v88 val_main_v87 val_main_v86 val_main_v85 val_main_v84 val_main_v83
  generalize val_main_v63 (F := Ideal) x0 x2 = A at hY ⊢
  generalize val_main_v27 (F := Ideal) = C at hC ⊢
  generalize val_main_v28 (F := Ideal) = S at hS ⊢
  pointwise []
  unfold Latent.keys
  by_cases hj : j.val < 1024
  · rw [dif_pos hj, dif_pos hj]
    exact turned _ ⟨j.val, hj⟩ g e (fun e => A (ix4 b g ⟨j.val, hj⟩ e)) (hY ⟨j.val, hj⟩) (fun k => C (ix2 ⟨j.val, hj⟩ k))
      (fun k => S (ix2 ⟨j.val, hj⟩ k)) (hC _) (hS _)
  · rw [dif_neg hj, dif_neg hj]
    exact hCK _ _ _ _

include hX hCV in
theorem vals_read (b : Fin 4) (g : Fin 2) (j : Fin 1536) (e : Fin 64) :
    val_main_v101 (F := Ideal) x0 x4 (ix4 (n0 := 4) (n1 := 2) (n2 := 1536) (n3 := 64) b g j e) = Latent.vals X CV b g j e := by
  pointwise [val_main_v101, val_main_v65, val_main_v64, val_main_v31]
  unfold Latent.vals
  by_cases hj : j.val < 1024
  · rw [dif_pos hj, dif_pos hj, hX]
    congr 2
    exact Fin.ext (by show 640 + (g.val * 64 + e.val) = 640 + (64 * g.val + e.val); omega)
  · rw [dif_neg hj, dif_neg hj]
    exact hCV _ _ _ _

include hX hqg hkg hCK in
theorem scores_read (b : Fin 4) (P : Fin 4) (h : Fin 2) (g : Fin 2) (hh : Fin 4) (hg : 4 * g.val + hh.val = 2 * P.val + h.val)
    (r : Fin 1024) (j : Fin 1536) :
    val_main_v105 (F := Ideal) x0 x1 x2 x3 (ix5 (n0 := 4) (n1 := 2) (n2 := 4) (n3 := 1024) (n4 := 1536) b g hh r j)
      = (Latent.score X qg kg CK cosT sinT b P h r j : EReal) := by
  have hq := queries_read x0 x1 X qg hX hqg b P h r
  have hk := keys_read x0 x2 x3 X kg CK hX hkg hCK b g j
  unfold val_main_v105 val_main_v104 val_main_v103 val_main_v102 val_main_cst_8
  generalize val_main_v82 (F := Ideal) x0 x1 = A at hq ⊢
  generalize val_main_v100 (F := Ideal) x0 x2 x3 = B at hk ⊢
  pointwise []
  have e8 : (⟨g.val * 4 + hh.val, by omega⟩ : Fin 8) = ⟨2 * P.val + h.val, by omega⟩ := Fin.ext (by show g.val * 4 + hh.val = 2 * P.val + h.val; omega)
  have eg : grp P = g := Fin.ext (by show P.val / 2 = g.val; omega)
  simp only [e8, hq, hk, ← EReal.coe_mul]
  rw [coe_sum, ofBits_eighth, ← EReal.coe_mul, Finset.sum_mul]
  unfold Latent.score Latent.queries
  rw [eg]
  congr 1
  exact Finset.sum_congr rfl fun e _ => by ring

/-- A maximum over the last axis. -/
theorem max_read (y : FVec Ideal S4x2x4x1024x1536 .f32) (b : Fin 4) (g : Fin 2) (h : Fin 4) (r : Fin 1024) :
    Host.reduce (FloatOps.maximumf (F := Ideal) (φ := .f32)) y (val_main_cst_9 (F := Ideal)) reducesTo_S4x2x4x1024x1536_S4x2x4x1024_d4 h_S_
        (ix4 (n0 := 4) (n1 := 2) (n2 := 4) (n3 := 1024) b g h r)
      = Finset.fold max (Ideal.ofBits FTy.f32 0xFF800000#32) (fun j => y (ix5 b g h r j)) Finset.univ := by
  pointwise [val_main_cst_9]

include hX hqg hkg hCK in
/-- The number subtracted from a row of scores is a real number. -/
theorem shift_read (b : Fin 4) (P : Fin 4) (h : Fin 2) (g : Fin 2) (hh : Fin 4) (hg : 4 * g.val + hh.val = 2 * P.val + h.val) (r : Fin 1024) :
    ∃ μ : ℝ, val_main_v108 (F := Ideal) x0 x1 x2 x3 (ix4 (n0 := 4) (n1 := 2) (n2 := 4) (n3 := 1024) b g hh r) = (μ : EReal) := by
  have e := scores_read x0 x1 x2 x3 X qg kg CK hX hqg hkg hCK b P h g hh hg r
  rw [val_main_v108_apply, val_main_v107_apply, val_main_cst_10_apply]
  unfold val_main_v106
  generalize val_main_v105 (F := Ideal) x0 x1 x2 x3 = y at e ⊢
  rw [max_read]
  simp only [e, ofBits_neg_inf]
  obtain ⟨μ, hμ⟩ := fold_max_real (Latent.score X qg kg CK cosT sinT b P h r)
  refine ⟨μ, ?_⟩
  rw [hμ]
  show max (Ideal.ofBits FTy.f32 0xFF800000#32) (μ : EReal) = (μ : EReal)
  rw [ofBits_neg_inf]
  exact max_eq_right bot_le

include hX hqg hkg hCK hCV in
/-- The whole attention is the specification's. -/
theorem attn_read (i : S4x1024x512.Idx) :
    val_main_v121 (F := Ideal) x0 x1 x2 x3 x4 i = Latent.attnAt X qg kg CK CV cosT sinT i := by
  obtain ⟨b, r, l, rfl⟩ : ∃ (b : Fin 4) (r : Fin 1024) (l : Fin 512), i = ix3 (n0 := 4) (n1 := 1024) (n2 := 512) b r l := ⟨_, _, _, eq_ix3 i⟩
  rw [Latent.attnAt_of X qg kg CK CV cosT sinT _ b ⟨l.val / 128, by omega⟩ r ⟨l.val % 128, by omega⟩ rfl rfl
    (by show l.val = 128 * (l.val / 128) + l.val % 128; omega)]
  have hl : 4 * (⟨l.val / 64 / 4, by omega⟩ : Fin 2).val + (⟨l.val / 64 % 4, by omega⟩ : Fin 4).val
      = 2 * (⟨l.val / 128, by omega⟩ : Fin 4).val + (hf ⟨l.val % 128, by omega⟩).val := by
    show 4 * (l.val / 64 / 4) + l.val / 64 % 4 = 2 * (l.val / 128) + l.val % 128 / 64
    omega
  have hs := scores_read x0 x1 x2 x3 X qg kg CK hX hqg hkg hCK b _ _ _ _ hl r
  have hm := shift_read x0 x1 x2 x3 X qg kg CK hX hqg hkg hCK b _ _ _ _ hl r
  have hv := vals_read x0 x4 X CV hX hCV b
  unfold val_main_v121 val_main_v120 val_main_v119 val_main_v118 val_main_v117 val_main_v116 val_main_v115 val_main_v114 val_main_v113
    val_main_v112 val_main_v111 val_main_v110 val_main_v109 val_main_cst_11
  generalize val_main_v105 (F := Ideal) x0 x1 x2 x3 = A at hs ⊢
  generalize val_main_v108 (F := Ideal) x0 x1 x2 x3 = M at hm ⊢
  generalize val_main_v101 (F := Ideal) x0 x4 = B at hv ⊢
  pointwise []
  simp only [hs, hv]
  rw [mean_early _ _ _ hm]
  unfold Latent.attn
  have eg : grp ⟨l.val / 128, by omega⟩ = ⟨l.val / 64 / 4, by omega⟩ := Fin.ext (by show l.val / 128 / 2 = l.val / 64 / 4; omega)
  have ep : pl ⟨l.val % 128, by omega⟩ = ⟨l.val % 64, by omega⟩ := Fin.ext (by show l.val % 128 % 64 = l.val % 64; omega)
  rw [eg, ep]

end Cert.LatRefIdeal.Hand
end
-- ==== Proof.LatClaim.lean ====
/- The latent attention's kernel and its reference end with equal results: on finite queries and keys both compute the specification. -/
module

public import proofs.«01_k».proof.Defs
public import proofs.«01_k».proof.Proof.LatArr
public import proofs.«01_k».proof.Proof.LatRefVal
public import proofs.«01_k».proof.Proof.AttnClaim
public import proofs.«01_k».proof.Proof.Gen.Pre_finite_latent

@[expose] public section

set_option maxRecDepth 16384

noncomputable section

namespace Cert.Hand

open Cert.Maths Idealize.ShloMosaic Idealize.ShloMosaic.TcCoe Idealize.SL.Sem

/-- The precondition gives arrays of real numbers, the cached values apart. -/
theorem latent_args_real (m : (ℓ : Loc Cert.LatIdeal.nD Cert.LatIdeal.τ Cert.LatIdeal.sig) → Buf (Elt Ideal) ℓ)
    (h : Cert.Pre_LatIdeal_finite_latent (hPre_finite_latent := Cert.Pre_finite_latent.Gen.facts) m) (c : Dev Cert.LatIdeal.nD) :
    ∃ (X : Fin 4 → Fin 1024 → Fin 768 → ℝ) (qg kg : Fin 64 → ℝ) (CK : Fin 4 → Fin 2 → Fin 512 → Fin 64 → ℝ),
      (∀ b r l, m ((c.tc : Thread Cert.LatIdeal.nD Cert.LatIdeal.τ).loc Cert.LatIdeal.main_arg0) (ix3 (n0 := 4) (n1 := 1024) (n2 := 768) b r l) = (X b r l : EReal))
      ∧ (∀ e, m ((c.tc : Thread Cert.LatIdeal.nD Cert.LatIdeal.τ).loc Cert.LatIdeal.main_arg1) (ix2 (n0 := 1) (n1 := 64) 0 e) = (qg e : EReal))
      ∧ (∀ e, m ((c.tc : Thread Cert.LatIdeal.nD Cert.LatIdeal.τ).loc Cert.LatIdeal.main_arg2) (ix2 (n0 := 1) (n1 := 64) 0 e) = (kg e : EReal))
      ∧ (∀ b g r e, m ((c.tc : Thread Cert.LatIdeal.nD Cert.LatIdeal.τ).loc Cert.LatIdeal.main_arg3) (ix4 (n0 := 4) (n1 := 2) (n2 := 512) (n3 := 64) b g r e) = (CK b g r e : EReal)) := by
  obtain ⟨h0, h1, h2, h3⟩ := h c
  obtain ⟨X, hX⟩ := reals_of_bound _ _ (fun i => rfl) h0
  obtain ⟨q, hq⟩ := reals_of_bound _ _ (fun i => rfl) h1
  obtain ⟨k, hk⟩ := reals_of_bound _ _ (fun i => rfl) h2
  obtain ⟨K, hK⟩ := reals_of_bound _ _ (fun i => rfl) h3
  exact ⟨fun b r l => X (ix3 b r l), fun e => q (ix2 0 e), fun e => k (ix2 0 e), fun b g r e => K (ix4 b g r e),
    fun b r l => hX _, fun e => hq _, fun e => hk _, fun b g r e => hK _⟩

theorem lat_algebraic : Cert.algebraic_LatIdeal_LatRefIdeal_pre_finite_latent (hLatIdeal := Cert.LatIdeal.Gen.facts)
    (hLatRefIdeal := Cert.LatRefIdeal.Gen.facts) (hPre_finite_latent := Cert.Pre_finite_latent.Gen.facts) := by
  intro m g m' g' hpre hag
  choose X qg kg CK hX hqg hkg hCK using latent_args_real m hpre
  obtain ⟨CV, hCV⟩ : ∃ CV : Dev Cert.LatIdeal.nD → Fin 4 → Fin 2 → Fin 512 → Fin 64 → EReal, ∀ (c : Dev Cert.LatIdeal.nD) b g r e,
      m ((c.tc : Thread Cert.LatIdeal.nD Cert.LatIdeal.τ).loc Cert.LatIdeal.main_arg4) (ix4 (n0 := 4) (n1 := 2) (n2 := 512) (n3 := 64) b g r e)
        = CV c b g r e := ⟨_, fun c b g r e => rfl⟩
  refine ⟨fun c =>
    Latent.attnAt (X c) (qg c) (kg c) (CK c) (CV c) Cert.LatRefIdeal.Hand.cosT Cert.LatRefIdeal.Hand.sinT, ?_, ?_⟩
  · refine (θ_run _ _ _).mono (fun r h c => ?_) (Cert.LatIdeal.Value.run_blocks m g)
    obtain ⟨h0, ha⟩ := h c
    exact ⟨h0.trans (Cert.LatIdeal.Hand.attn_array m c (X c) (qg c) (kg c) (CK c) (CV c) (hX c) (hqg c) (hkg c) (hCK c) (hCV c)), ha⟩
  · refine (θ_run _ _ _).mono (fun r h c => ?_) (Cert.LatRefIdeal.Value.run m' g')
    obtain ⟨h0, ha⟩ := h c
    obtain ⟨a0, a1, a2, a3, a4⟩ := hag c
    refine ⟨h0.trans ?_, ha⟩
    rw [Cert.LatRefIdeal.Read.val_main_v121_eq, a0, a1, a2, a3, a4]
    exact funext fun i => Cert.LatRefIdeal.Hand.attn_read _ _ _ _ _ (X c) (qg c) (kg c) (CK c) (CV c) (hX c) (hqg c) (hkg c) (hCK c) (hCV c) i

end Cert.Hand
end
-- ==== Proof.ModClaim.lean ====
/- The modulation: kernel and reference leave the conditioning rows, each entry times its logistic, against the weights, plus the bias. -/
module

public import proofs.«01_k».proof.Defs
public import proofs.«01_k».proof.Proof.Gen.ModIdeal.Value
public import proofs.«01_k».proof.Proof.Rows
public import Idealize.ShloMosaic.Lib.Pipeline.ReadBack
public import proofs.«01_k».proof.Proof.Gen.ModRefIdeal
public import proofs.«01_k».proof.Proof.Gen.ModRefIdeal.Run
public import proofs.«01_k».proof.Proof.Gen.ModRefIdeal.Read

@[expose] public section

set_option maxRecDepth 16384

noncomputable section

namespace Cert.Rows

/-- The modulation of conditioning rows. -/
def modulation (x : Fin 8 → Fin 1024 → EReal) (w : Fin 1024 → Fin 6144 → EReal) (b : Fin 6144 → EReal) (r : Fin 8) (j : Fin 6144) : EReal :=
  (∑ k, x r k * gate (x r k) * w k j) + b j

end Cert.Rows

namespace Cert.ModIdeal.Hand

open Cert.ModIdeal Cert.ModIdeal.Gen Cert.Rows Idealize.ShloMosaic Idealize.ShloMosaic.TcCoe
open Idealize.ShloMosaic.Pipeline (Dat)

theorem tile_apply (x : Vec Ideal S8x1024 .f32) (w : Vec Ideal S1024x1024 .f32) (b : Vec Ideal S1x1024 .f32) (r : Fin 8) (l : Fin 1024) :
    k0_pay1 x w b (ix2 (n0 := 8) (n1 := 1024) r l) = (∑ k : Fin 1024, x (ix2 r k) * gate (x (ix2 r k)) * w (ix2 k l)) + b (ix2 0 l) := by
  pointwise [k0_pay1]
  simp only [zero_sub]
  rfl

variable (m : (ℓ : Loc nD τ sig) → Buf (Elt Ideal) ℓ) (c : Dev nD)

/-- The modulation of the arguments. -/
def M : Fin 8 → Fin 6144 → EReal :=
  modulation (fun r k => m ((c.tc : Thread nD τ).loc main_arg0) (ix2 (n0 := 8) (n1 := 1024) r k))
    (fun k j => m ((c.tc : Thread nD τ).loc main_arg1) (ix2 (n0 := 1024) (n1 := 6144) k j))
    (fun j => m ((c.tc : Thread nD τ).loc main_arg2) (ix2 (n0 := 1) (n1 := 6144) 0 j))

theorem idx : ∀ t : Fin grid0.N, win0_0.index t = ![0, 0] ∧ win0_1.index t = ![0, t.val] ∧ win0_2.index t = ![0, t.val]
    ∧ win0_3.index t = ![0, t.val] := by decide +kernel

/-- Column `l` of the tile a point works on. -/
def col (t : Fin grid0.N) (l : Fin 1024) : Fin 6144 := ⟨t.val * 1024 + l.val, by have h : t.val < 6 := t.isLt; omega⟩

theorem tile_window (t : Fin grid0.N) (r : Fin 8) (l : Fin 1024) :
    (dats m 0 c).after (3 : Fin 4) t (ix2 (n0 := 8) (n1 := 1024) r l) = M m c r (col t l) := by
  have e : (dats m 0 c).after (3 : Fin 4) t = (k0_pay1 (iblk m c 0 t) (iblk m c 1 t) (iblk m c 2 t) : FVec Ideal S8x1024 .f32) := by
    rw [after0_3]; frame_out
  rw [e, tile_apply]
  have hx : ∀ k : Fin 1024, iblk m c 0 t (ix2 (n0 := 8) (n1 := 1024) r k)
      = m ((c.tc : Thread nD τ).loc main_arg0) (ix2 (n0 := 8) (n1 := 1024) r k) := fun k => by blk_ext [iblk, V, idx t]
  unfold M modulation
  refine congrArg₂ _ (dot_congr _ _ _ _ (fun k => congrArg (fun z : EReal => z * gate z) (hx k)) fun k => ?_) ?_
  all_goals blk_ext [iblk, V, idx t, col]

theorem mod_array : (dats m 0 c).arrAt 3 cfg0.N = arr2 (M m c) := by
  refine (dats m 0 c).arrAt_eq_of_covers 3 _ (by decide +kernel) fun t hf y => ?_
  obtain ⟨r, l, rfl⟩ : ∃ (r : Fin 8) (l : Fin 1024), y = ix2 (n0 := 8) (n1 := 1024) r l := ⟨_, _, eq_ix2 y⟩
  refine Eq.trans ?_ ((tile_window m c t r l).trans (arr2_of (M m c) _ r (col t l) ?_ ?_).symm)
  all_goals blk_simp [idx t, col]
  all_goals rfl

end Cert.ModIdeal.Hand

namespace Cert.ModRefIdeal.Hand

open Cert.ModRefIdeal Cert.ModRefIdeal.Gen Cert.ModRefIdeal.Read Cert.Rows Idealize.ShloMosaic Idealize.ShloMosaic.TcCoe

theorem mod_read (x0 : FVec Ideal S8x1024 .f32) (x1 : FVec Ideal S1024x6144 .f32) (x2 : FVec Ideal S1x6144 .f32) :
    val_main_v5 (F := Ideal) x0 x1 x2 = arr2 (modulation (fun r k => x0 (ix2 (n0 := 8) (n1 := 1024) r k))
      (fun k j => x1 (ix2 (n0 := 1024) (n1 := 6144) k j)) (fun j => x2 (ix2 (n0 := 1) (n1 := 6144) 0 j))) := by
  funext i
  obtain ⟨r, j, rfl⟩ : ∃ (r : Fin 8) (j : Fin 6144), i = ix2 (n0 := 8) (n1 := 6144) r j := ⟨_, _, eq_ix2 i⟩
  rw [arr2_of _ _ r j rfl rfl]
  unfold modulation
  pointwise [val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  rfl

end Cert.ModRefIdeal.Hand

namespace Cert.Hand

open Cert.Rows Idealize.ShloMosaic Idealize.ShloMosaic.TcCoe Idealize.SL.Sem

theorem mod_algebraic : Cert.algebraic_ModIdeal_ModRefIdeal (hModIdeal := Cert.ModIdeal.Gen.facts)
    (hModRefIdeal := Cert.ModRefIdeal.Gen.facts) := by
  intro m g m' g' _ hag
  refine ⟨fun c => arr2 (Cert.ModIdeal.Hand.M m c), ?_, ?_⟩
  · refine (θ_run _ _ _).mono (fun r h c => ?_) (Cert.ModIdeal.Value.run_blocks m g)
    obtain ⟨h0, ha⟩ := h c
    exact ⟨h0.trans (Cert.ModIdeal.Hand.mod_array m c), ha⟩
  · refine (θ_run _ _ _).mono (fun r h c => ?_) (Cert.ModRefIdeal.Value.run (F := Ideal) m' g')
    obtain ⟨h0, ha⟩ := h c
    obtain ⟨a0, a1, a2⟩ := hag c
    refine ⟨h0.trans ?_, ha⟩
    rw [a0, a1, a2, Cert.ModRefIdeal.Read.val_main_v5_eq]
    exact Cert.ModRefIdeal.Hand.mod_read _ _ _

end Cert.Hand
end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.FfnCtx
public import proofs.«01_k».proof.Proof.Gen.FfnCtx.Skeleton
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxIdeal.Skeleton
public import proofs.«01_k».proof.Proof.Gen.FfnCtxIdeal.Launch
public import proofs.«01_k».proof.Proof.Gen.FfnCtxIdeal.Points
public import proofs.«01_k».proof.Proof.Gen.FfnCtxIdeal.Frame
public import proofs.«01_k».proof.Proof.Gen.FfnCtxIdeal.Value
public import proofs.«01_k».proof.Proof.Gen.FfnCtxRefIdeal
public import proofs.«01_k».proof.Proof.Gen.FfnCtxRefIdeal.Run
public import proofs.«01_k».proof.Proof.Gen.FfnCtxRefIdeal.Read
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import proofs.«01_k».proof.Proof.Gen.LatRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.ModRefIdeal.Read
public import proofs.«01_k».proof.Proof.Gen.Rwkv
public import proofs.«01_k».proof.Proof.Gen.Rwkv.Skeleton
public import proofs.«01_k».proof.Proof.Gen.Rwkv.Launch
public import proofs.«01_k».proof.Proof.Gen.Rwkv.Points
public import proofs.«01_k».proof.Proof.Gen.Rwkv.Frame
public import proofs.«01_k».proof.Proof.Gen.RwkvIdeal
public import proofs.«01_k».proof.Proof.Gen.RwkvIdeal.Skeleton
public import proofs.«01_k».proof.Proof.Gen.RwkvIdeal.Launch
public import proofs.«01_k».proof.Proof.Gen.RwkvIdeal.Points
public import proofs.«01_k».proof.Proof.Gen.RwkvIdeal.Frame
public import proofs.«01_k».proof.Proof.Gen.Pre_finite_latent
public import proofs.«01_k».proof.Proof.AttnClaim
public import proofs.«01_k».proof.Proof.FfnClaim
public import proofs.«01_k».proof.Proof.ProjClaim
public import proofs.«01_k».proof.Proof.MergeClaim
public import proofs.«01_k».proof.Proof.FfnCtxClaim
public import proofs.«01_k».proof.Proof.LatClaim
public import proofs.«01_k».proof.Proof.ModClaim
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The attention's reference runs, keeps its arguments, and has no semaphore. -/
theorem attn_ref_frame : Cert.quiescent_AttnRefIdeal (hAttnRefIdeal := Cert.AttnRefIdeal.Gen.facts) := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)

/-- The feed-forward's reference runs, keeps its arguments, and has no semaphore. -/
theorem ffn_ref_frame : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The projection's reference runs, keeps its arguments, and has no semaphore. -/
theorem proj_ref_frame : Cert.quiescent_ProjRefIdeal (hProjRefIdeal := Cert.ProjRefIdeal.Gen.facts) := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

/-- The merge's reference runs, keeps its arguments, and has no semaphore. -/
theorem merge_ref_frame : Cert.quiescent_MergeRefIdeal (hMergeRefIdeal := Cert.MergeRefIdeal.Gen.facts) := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- The context path's feed-forward's reference runs, keeps its arguments, and has no semaphore. -/
theorem ffnctx_ref_frame : Cert.quiescent_FfnCtxRefIdeal (hFfnCtxRefIdeal := Cert.FfnCtxRefIdeal.Gen.facts) := fun m ρ _ =>
  (θ_run Cert.FfnCtxRefIdeal.defs _ _).mono (fun r h => ⟨fun c => (h c).2, sem_eq_zero_of_no_sems (by decide) r.2⟩)
    (Cert.FfnCtxRefIdeal.Value.run (F := Ideal) m ρ)

/-- The latent attention's reference runs, keeps its arguments, and has no semaphore. -/
theorem lat_ref_frame : Cert.quiescent_LatRefIdeal (hLatRefIdeal := Cert.LatRefIdeal.Gen.facts) := fun m ρ _ =>
  (θ_run Cert.LatRefIdeal.defs _ _).mono (fun r h => ⟨fun c => (h c).2, sem_eq_zero_of_no_sems (by decide) r.2⟩)
    (Cert.LatRefIdeal.Value.run (F := Ideal) m ρ)

/-- The modulation's reference runs, keeps its arguments, and has no semaphore. -/
theorem mod_ref_frame : Cert.quiescent_ModRefIdeal (hModRefIdeal := Cert.ModRefIdeal.Gen.facts) := fun m ρ _ =>
  (θ_run Cert.ModRefIdeal.defs _ _).mono (fun r h => ⟨fun c => (h c).2, sem_eq_zero_of_no_sems (by decide) r.2⟩)
    (Cert.ModRefIdeal.Value.run (F := Ideal) m ρ)

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Merge.Gen.facts, Cert.MergeIdeal.Gen.facts, Cert.MergeRefIdeal.Gen.facts,
  Cert.FfnCtx.Gen.facts, Cert.FfnCtxIdeal.Gen.facts, Cert.FfnCtxRefIdeal.Gen.facts, Cert.Lat.Gen.facts, Cert.LatIdeal.Gen.facts, Cert.LatRefIdeal.Gen.facts,
  Cert.Mod.Gen.facts, Cert.ModIdeal.Gen.facts, Cert.ModRefIdeal.Gen.facts,
  Cert.Rwkv.Gen.facts, Cert.RwkvIdeal.Gen.facts,
  Cert.Pre_finite.Gen.facts, Cert.Pre_finite_latent.Gen.facts,
  fun m ρ _ => Cert.Attn.Gen.frame m ρ, fun m ρ _ => Cert.AttnIdeal.Gen.frame m ρ, fun m ρ _ => Cert.AttnIdeal.Gen.frame m ρ,
  attn_ref_frame, fun m ρ _ => attn_ref_frame m ρ trivial,
  fun m ρ _ => Cert.Ffn.Gen.frame m ρ, fun m ρ _ => Cert.FfnIdeal.Gen.frame m ρ, ffn_ref_frame,
  fun m ρ _ => Cert.Proj.Gen.frame m ρ, fun m ρ _ => Cert.ProjIdeal.Gen.frame m ρ, proj_ref_frame,
  fun m ρ _ => Cert.Merge.Gen.frame m ρ, fun m ρ _ => Cert.MergeIdeal.Gen.frame m ρ, merge_ref_frame,
  fun m ρ _ => Cert.FfnCtx.Gen.frame m ρ, fun m ρ _ => Cert.FfnCtxIdeal.Gen.frame m ρ, ffnctx_ref_frame,
  fun m ρ _ => Cert.Lat.Gen.frame m ρ, fun m ρ _ => Cert.LatIdeal.Gen.frame m ρ, fun m ρ _ => Cert.LatIdeal.Gen.frame m ρ, lat_ref_frame, fun m ρ _ => lat_ref_frame m ρ trivial,
  fun m ρ _ => Cert.Mod.Gen.frame m ρ, fun m ρ _ => Cert.ModIdeal.Gen.frame m ρ, mod_ref_frame,
  fun m ρ _ => Cert.Rwkv.Gen.frame m ρ, fun m ρ _ => Cert.RwkvIdeal.Gen.frame m ρ,
  trivial, Cert.Hand.attn_algebraic, trivial, Cert.Hand.ffn_algebraic, trivial, Cert.Hand.proj_algebraic, trivial, Cert.Hand.merge_algebraic,
  trivial, Cert.Hand.ffnctx_algebraic, trivial, Cert.Hand.lat_algebraic,
  trivial, Cert.Hand.mod_algebraic, trivial⟩

end Cert.Proof

end
